-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_increasing [hPre_finite_and_increasing : Cert.Pre_finite_and_increasing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_increasing [hPre_finite_and_increasing : Cert.Pre_finite_and_increasing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_finite_and_increasing [hKernelIdeal : Cert.KernelIdeal.Facts] [hPre_finite_and_increasing : Cert.Pre_finite_and_increasing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_increasing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_finite_and_increasing [hReferenceIdeal : Cert.ReferenceIdeal.Facts] [hPre_finite_and_increasing : Cert.Pre_finite_and_increasing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_increasing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  IdealRules.bf16_pack.Statement Cert.KernelIdeal.S1024x8
  ∧ IdealRules.named_const.Statement Cert.KernelIdeal.κ "neg" .f32 0xF149F2CA#32 ⊥
  ∧ IdealRules.bf16_pack.Statement Cert.KernelIdeal.S1024x64

def algebraic_KernelIdeal_ReferenceIdeal_pre_finite_and_increasing [hKernelIdeal : Cert.KernelIdeal.Facts] [hReferenceIdeal : Cert.ReferenceIdeal.Facts] [hPre_finite_and_increasing : Cert.Pre_finite_and_increasing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_increasing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v149)) (v1 : (c : Dev Cert.KernelIdeal.nD) → Buf (Elt Ideal) ((c.tc : Thread Cert.KernelIdeal.nD Cert.KernelIdeal.τ).loc Cert.KernelIdeal.main_v147_1)) (v2 : (c : Dev Cert.KernelIdeal.nD) → Buf (Elt Ideal) ((c.tc : Thread Cert.KernelIdeal.nD Cert.KernelIdeal.τ).loc Cert.KernelIdeal.main_v147_2)) (v3 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_v147_1) = v1 c
          ∧ r.2.mem ((c.tc : Thread Cert.KernelIdeal.nD Cert.KernelIdeal.τ).loc Cert.KernelIdeal.main_v147_2) = v2 c
          ∧ r.2.mem ((c.tc : Thread Cert.KernelIdeal.nD Cert.KernelIdeal.τ).loc Cert.KernelIdeal.main_v9_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_v308) = v1 c
          ∧ r.2.mem ((c.tc : Thread Cert.ReferenceIdeal.nD Cert.ReferenceIdeal.τ).loc Cert.ReferenceIdeal.main_v322) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_and_increasing : Cert.Pre_finite_and_increasing.Facts),
    quiescent_Kernel (hKernel := hKernel)
    ∧ quiescent_KernelIdeal (hKernelIdeal := hKernelIdeal)
    ∧ quiescent_KernelIdeal_pre_finite_and_increasing (hKernelIdeal := hKernelIdeal) (hPre_finite_and_increasing := hPre_finite_and_increasing)
    ∧ quiescent_ReferenceIdeal (hReferenceIdeal := hReferenceIdeal)
    ∧ quiescent_ReferenceIdeal_pre_finite_and_increasing (hReferenceIdeal := hReferenceIdeal) (hPre_finite_and_increasing := hPre_finite_and_increasing)
    ∧ preserves_Kernel_KernelIdeal
    ∧ algebraic_KernelIdeal_ReferenceIdeal_pre_finite_and_increasing (hKernelIdeal := hKernelIdeal) (hReferenceIdeal := hReferenceIdeal) (hPre_finite_and_increasing := hPre_finite_and_increasing)
-- ==== Pre_finite_and_increasing.lean ====
abbrev S16x6x1024 : Shape := ⟨3, ![16, 6, 1024]⟩
abbrev S64x12 : Shape := ⟨2, ![64, 12]⟩
abbrev S64 : Shape := ⟨1, ![64]⟩
abbrev S64x64 : Shape := ⟨2, ![64, 64]⟩
abbrev S64x128 : Shape := ⟨2, ![64, 128]⟩
abbrev S1024x192 : Shape := ⟨2, ![1024, 192]⟩
abbrev S1024 : Shape := ⟨1, ![1024]⟩
abbrev S512x1216 : Shape := ⟨2, ![512, 1216]⟩
abbrev S512 : Shape := ⟨1, ![512]⟩
abbrev S256x512 : Shape := ⟨2, ![256, 512]⟩
abbrev S256 : Shape := ⟨1, ![256]⟩
abbrev S128x256 : Shape := ⟨2, ![128, 256]⟩
abbrev S1x128 : Shape := ⟨2, ![1, 128]⟩
abbrev S_ : Shape := ⟨0, ![]⟩

class Facts : Prop where
  bcast_S_S16x6x1024 : S_.BroadcastsInDim S16x6x1024 (![] : Fin 0 → Fin S16x6x1024.rank)
  reducesTo_S16x6x1024_S_d0_1_2 : S16x6x1024.ReducesTo [0, 1, 2] S_
  h_S_ : 0 < S_.numel
  bcast_S_S64x12 : S_.BroadcastsInDim S64x12 (![] : Fin 0 → Fin S64x12.rank)
  reducesTo_S64x12_S_d0_1 : S64x12.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S1024x192 : S_.BroadcastsInDim S1024x192 (![] : Fin 0 → Fin S1024x192.rank)
  reducesTo_S1024x192_S_d0_1 : S1024x192.ReducesTo [0, 1] S_
  bcast_S_S1024 : S_.BroadcastsInDim S1024 (![] : Fin 0 → Fin S1024.rank)
  reducesTo_S1024_S_d0 : S1024.ReducesTo [0] S_
  bcast_S_S512x1216 : S_.BroadcastsInDim S512x1216 (![] : Fin 0 → Fin S512x1216.rank)
  reducesTo_S512x1216_S_d0_1 : S512x1216.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part7 {F : FTy → Type} [FloatOps F] (main_arg11 : FVec F S64 .f32) (main_arg14 : FVec F S64 .f32) (main_arg17 : FVec F S1024 .f32) (main_v118 : IVec S_ 1) : IVec S_ 1 :=
  let main_cst_47 : FVec F S_ .f32 := constant S_ .f32 0x00000000#32
  let main_v119 : FVec F S64 .f32 := broadcastInDim S64 ![] bcast_S_S64 main_cst_47
  let main_v120 : IVec S64 1 := cmpf .oge main_arg11 main_v119
  let main_c_48 : IVec S_ 1 := constantI S_ 1 1#1
  let main_v121 : IVec S_ 1 := (fun x v => Host.reduce IntOp.andi x v reducesTo_S64_S_d0 h_S_) main_v120 main_c_48
  let main_v122 : IVec S_ 1 := andi main_v118 main_v121
  let main_cst_49 : FVec F S_ .f32 := constant S_ .f32 0x00000000#32
  let main_v123 : FVec F S64 .f32 := broadcastInDim S64 ![] bcast_S_S64 main_cst_49
  let main_v124 : IVec S64 1 := cmpf .oge main_arg14 main_v123
  let main_c_50 : IVec S_ 1 := constantI S_ 1 1#1
  let main_v125 : IVec S_ 1 := (fun x v => Host.reduce IntOp.andi x v reducesTo_S64_S_d0 h_S_) main_v124 main_c_50
  let main_v126 : IVec S_ 1 := andi main_v122 main_v125
  let main_cst_51 : FVec F S_ .f32 := constant S_ .f32 0x00000000#32
  let main_v127 : FVec F S1024 .f32 := broadcastInDim S1024 ![] bcast_S_S1024 main_cst_51
  let main_v128 : IVec S1024 1 := cmpf .oge main_arg17 main_v127
  let main_c_52 : IVec S_ 1 := constantI S_ 1 1#1
  let main_v129 : IVec S_ 1 := (fun x v => Host.reduce IntOp.andi x v reducesTo_S1024_S_d0 h_S_) main_v128 main_c_52
  let main_v130 : IVec S_ 1 := andi main_v126 main_v129
  main_v130

def fn_part6 {F : FTy → Type} [FloatOps F] (main_arg5 : FVec F S64 .f32) (main_arg11 : FVec F S64 .f32) (main_arg14 : FVec F S64 .f32) (main_arg17 : FVec F S1024 .f32) (main_arg21 : FVec F S512 .f32) (main_arg22 : FVec F S256x512 .f32) (main_v99 : IVec S_ 1) (main_v100 : FVec F S512 .f32) (main_v101 : FVec F S512 .f32) : IVec S_ 1 :=
  let main_v102 : IVec S512 1 := cmpf .olt main_v100 main_v101
  let main_c_40 : IVec S_ 1 := constantI S_ 1 1#1
  let main_v103 : IVec S_ 1 := (fun x v => Host.reduce IntOp.andi x v reducesTo_S512_S_d0 h_S_) main_v102 main_c_40
  let main_v104 : IVec S_ 1 := andi main_v99 main_v103
  let main_v105 : FVec F S512 .f32 := Host.absf main_arg21
  let main_cst_41 : FVec F S_ .f32 := constant S_ .f32 0x7F800000#32
  let main_v106 : FVec F S512 .f32 := broadcastInDim S512 ![] bcast_S_S512 main_cst_41
  let main_v107 : IVec S512 1 := cmpf .olt main_v105 main_v106
  let main_c_42 : IVec S_ 1 := constantI S_ 1 1#1
  let main_v108 : IVec S_ 1 := (fun x v => Host.reduce IntOp.andi x v reducesTo_S512_S_d0 h_S_) main_v107 main_c_42
  let main_v109 : IVec S_ 1 := andi main_v104 main_v108
  let main_v110 : FVec F S256x512 .f32 := Host.absf main_arg22
  let main_cst_43 : FVec F S_ .f32 := constant S_ .f32 0x7F800000#32
  let main_v111 : FVec F S256x512 .f32 := broadcastInDim S256x512 ![] bcast_S_S256x512 main_cst_43
  let main_v112 : IVec S256x512 1 := cmpf .olt main_v110 main_v111
  let main_c_44 : IVec S_ 1 := constantI S_ 1 1#1
  let main_v113 : IVec S_ 1 := (fun x v => Host.reduce IntOp.andi x v reducesTo_S256x512_S_d0_1 h_S_) main_v112 main_c_44
  let main_v114 : IVec S_ 1 := andi main_v109 main_v113
  let main_cst_45 : FVec F S_ .f32 := constant S_ .f32 0x00000000#32
  let main_v115 : FVec F S64 .f32 := broadcastInDim S64 ![] bcast_S_S64 main_cst_45
  let main_v116 : IVec S64 1 := cmpf .oge main_arg5 main_v115
  let main_c_46 : IVec S_ 1 := constantI S_ 1 1#1
  let main_v117 : IVec S_ 1 := (fun x v => Host.reduce IntOp.andi x v reducesTo_S64_S_d0 h_S_) main_v116 main_c_46
  let main_v118 : IVec S_ 1 := andi main_v114 main_v117
  fn_part7 (F := F) main_arg11 main_arg14 main_arg17 main_v118

def fn_part5 {F : FTy → Type} [FloatOps F] (main_arg5 : FVec F S64 .f32) (main_arg11 : FVec F S64 .f32) (main_arg14 : FVec F S64 .f32) (main_arg17 : FVec F S1024 .f32) (main_arg18 : FVec F S1024 .f32) (main_arg19 : FVec F S512x1216 .f32) (main_arg20 : FVec F S512 .f32) (main_arg21 : FVec F S512 .f32) (main_arg22 : FVec F S256x512 .f32) (main_v84 : IVec S_ 1) : IVec S_ 1 :=
  let main_v85 : FVec F S1024 .f32 := Host.absf main_arg17
  let main_cst_33 : FVec F S_ .f32 := constant S_ .f32 0x7F800000#32
  let main_v86 : FVec F S1024 .f32 := broadcastInDim S1024 ![] bcast_S_S1024 main_cst_33
  let main_v87 : IVec S1024 1 := cmpf .olt main_v85 main_v86
  let main_c_34 : IVec S_ 1 := constantI S_ 1 1#1
  let main_v88 : IVec S_ 1 := (fun x v => Host.reduce IntOp.andi x v reducesTo_S1024_S_d0 h_S_) main_v87 main_c_34
  let main_v89 : IVec S_ 1 := andi main_v84 main_v88
  let main_v90 : FVec F S1024 .f32 := Host.absf main_arg18
  let main_cst_35 : FVec F S_ .f32 := constant S_ .f32 0x7F800000#32
  let main_v91 : FVec F S1024 .f32 := broadcastInDim S1024 ![] bcast_S_S1024 main_cst_35
  let main_v92 : IVec S1024 1 := cmpf .olt main_v90 main_v91
  let main_c_36 : IVec S_ 1 := constantI S_ 1 1#1
  let main_v93 : IVec S_ 1 := (fun x v => Host.reduce IntOp.andi x v reducesTo_S1024_S_d0 h_S_) main_v92 main_c_36
  let main_v94 : IVec S_ 1 := andi main_v89 main_v93
  let main_v95 : FVec F S512x1216 .f32 := Host.absf main_arg19
  let main_cst_37 : FVec F S_ .f32 := constant S_ .f32 0x7F800000#32
  let main_v96 : FVec F S512x1216 .f32 := broadcastInDim S512x1216 ![] bcast_S_S512x1216 main_cst_37
  let main_v97 : IVec S512x1216 1 := cmpf .olt main_v95 main_v96
  let main_c_38 : IVec S_ 1 := constantI S_ 1 1#1
  let main_v98 : IVec S_ 1 := (fun x v => Host.reduce IntOp.andi x v reducesTo_S512x1216_S_d0_1 h_S_) main_v97 main_c_38
  let main_v99 : IVec S_ 1 := andi main_v94 main_v98
  let main_v100 : FVec F S512 .f32 := Host.absf main_arg20
  let main_cst_39 : FVec F S_ .f32 := constant S_ .f32 0x7F800000#32
  let main_v101 : FVec F S512 .f32 := broadcastInDim S512 ![] bcast_S_S512 main_cst_39
  fn_part6 (F := F) main_arg5 main_arg11 main_arg14 main_arg17 main_arg21 main_arg22 main_v99 main_v100 main_v101

def fn_part4 {F : FTy → Type} [FloatOps F] (main_arg5 : FVec F S64 .f32) (main_arg11 : FVec F S64 .f32) (main_arg14 : FVec F S64 .f32) (main_arg15 : FVec F S64 .f32) (main_arg16 : FVec F S1024x192 .f32) (main_arg17 : FVec F S1024 .f32) (main_arg18 : FVec F S1024 .f32) (main_arg19 : FVec F S512x1216 .f32) (main_arg20 : FVec F S512 .f32) (main_arg21 : FVec F S512 .f32) (main_arg22 : FVec F S256x512 .f32) (main_v64 : IVec S_ 1) (main_v67 : IVec S64x128 1) : IVec S_ 1 :=
  let main_c_26 : IVec S_ 1 := constantI S_ 1 1#1
  let main_v68 : IVec S_ 1 := (fun x v => Host.reduce IntOp.andi x v reducesTo_S64x128_S_d0_1 h_S_) main_v67 main_c_26
  let main_v69 : IVec S_ 1 := andi main_v64 main_v68
  let main_v70 : FVec F S64 .f32 := Host.absf main_arg14
  let main_cst_27 : FVec F S_ .f32 := constant S_ .f32 0x7F800000#32
  let main_v71 : FVec F S64 .f32 := broadcastInDim S64 ![] bcast_S_S64 main_cst_27
  let main_v72 : IVec S64 1 := cmpf .olt main_v70 main_v71
  let main_c_28 : IVec S_ 1 := constantI S_ 1 1#1
  let main_v73 : IVec S_ 1 := (fun x v => Host.reduce IntOp.andi x v reducesTo_S64_S_d0 h_S_) main_v72 main_c_28
  let main_v74 : IVec S_ 1 := andi main_v69 main_v73
  let main_v75 : FVec F S64 .f32 := Host.absf main_arg15
  let main_cst_29 : FVec F S_ .f32 := constant S_ .f32 0x7F800000#32
  let main_v76 : FVec F S64 .f32 := broadcastInDim S64 ![] bcast_S_S64 main_cst_29
  let main_v77 : IVec S64 1 := cmpf .olt main_v75 main_v76
  let main_c_30 : IVec S_ 1 := constantI S_ 1 1#1
  let main_v78 : IVec S_ 1 := (fun x v => Host.reduce IntOp.andi x v reducesTo_S64_S_d0 h_S_) main_v77 main_c_30
  let main_v79 : IVec S_ 1 := andi main_v74 main_v78
  let main_v80 : FVec F S1024x192 .f32 := Host.absf main_arg16
  let main_cst_31 : FVec F S_ .f32 := constant S_ .f32 0x7F800000#32
  let main_v81 : FVec F S1024x192 .f32 := broadcastInDim S1024x192 ![] bcast_S_S1024x192 main_cst_31
  let main_v82 : IVec S1024x192 1 := cmpf .olt main_v80 main_v81
  let main_c_32 : IVec S_ 1 := constantI S_ 1 1#1
  let main_v83 : IVec S_ 1 := (fun x v => Host.reduce IntOp.andi x v reducesTo_S1024x192_S_d0_1 h_S_) main_v82 main_c_32
  let main_v84 : IVec S_ 1 := andi main_v79 main_v83
  fn_part5 (F := F) main_arg5 main_arg11 main_arg14 main_arg17 main_arg18 main_arg19 main_arg20 main_arg21 main_arg22 main_v84

def fn_part3 {F : FTy → Type} [FloatOps F] (main_arg5 : FVec F S64 .f32) (main_arg11 : FVec F S64 .f32) (main_arg12 : FVec F S64 .f32) (main_arg13 : FVec F S64x128 .f32) (main_arg14 : FVec F S64 .f32) (main_arg15 : FVec F S64 .f32) (main_arg16 : FVec F S1024x192 .f32) (main_arg17 : FVec F S1024 .f32) (main_arg18 : FVec F S1024 .f32) (main_arg19 : FVec F S512x1216 .f32) (main_arg20 : FVec F S512 .f32) (main_arg21 : FVec F S512 .f32) (main_arg22 : FVec F S256x512 .f32) (main_v49 : IVec S_ 1) (main_v50 : FVec F S64x64 .f32) : IVec S_ 1 :=
  let main_cst_19 : FVec F S_ .f32 := constant S_ .f32 0x7F800000#32
  let main_v51 : FVec F S64x64 .f32 := broadcastInDim S64x64 ![] bcast_S_S64x64 main_cst_19
  let main_v52 : IVec S64x64 1 := cmpf .olt main_v50 main_v51
  let main_c_20 : IVec S_ 1 := constantI S_ 1 1#1
  let main_v53 : IVec S_ 1 := (fun x v => Host.reduce IntOp.andi x v reducesTo_S64x64_S_d0_1 h_S_) main_v52 main_c_20
  let main_v54 : IVec S_ 1 := andi main_v49 main_v53
  let main_v55 : FVec F S64 .f32 := Host.absf main_arg11
  let main_cst_21 : FVec F S_ .f32 := constant S_ .f32 0x7F800000#32
  let main_v56 : FVec F S64 .f32 := broadcastInDim S64 ![] bcast_S_S64 main_cst_21
  let main_v57 : IVec S64 1 := cmpf .olt main_v55 main_v56
  let main_c_22 : IVec S_ 1 := constantI S_ 1 1#1
  let main_v58 : IVec S_ 1 := (fun x v => Host.reduce IntOp.andi x v reducesTo_S64_S_d0 h_S_) main_v57 main_c_22
  let main_v59 : IVec S_ 1 := andi main_v54 main_v58
  let main_v60 : FVec F S64 .f32 := Host.absf main_arg12
  let main_cst_23 : FVec F S_ .f32 := constant S_ .f32 0x7F800000#32
  let main_v61 : FVec F S64 .f32 := broadcastInDim S64 ![] bcast_S_S64 main_cst_23
  let main_v62 : IVec S64 1 := cmpf .olt main_v60 main_v61
  let main_c_24 : IVec S_ 1 := constantI S_ 1 1#1
  let main_v63 : IVec S_ 1 := (fun x v => Host.reduce IntOp.andi x v reducesTo_S64_S_d0 h_S_) main_v62 main_c_24
  let main_v64 : IVec S_ 1 := andi main_v59 main_v63
  let main_v65 : FVec F S64x128 .f32 := Host.absf main_arg13
  let main_cst_25 : FVec F S_ .f32 := constant S_ .f32 0x7F800000#32
  let main_v66 : FVec F S64x128 .f32 := broadcastInDim S64x128 ![] bcast_S_S64x128 main_cst_25
  let main_v67 : IVec S64x128 1 := cmpf .olt main_v65 main_v66
  fn_part4 (F := F) main_arg5 main_arg11 main_arg14 main_arg15 main_arg16 main_arg17 main_arg18 main_arg19 main_arg20 main_arg21 main_arg22 main_v64 main_v67

def fn_part2 {F : FTy → Type} [FloatOps F] (main_arg5 : FVec F S64 .f32) (main_arg7 : FVec F S64x128 .f32) (main_arg8 : FVec F S64 .f32) (main_arg9 : FVec F S64 .f32) (main_arg10 : FVec F S64x64 .f32) (main_arg11 : FVec F S64 .f32) (main_arg12 : FVec F S64 .f32) (main_arg13 : FVec F S64x128 .f32) (main_arg14 : FVec F S64 .f32) (main_arg15 : FVec F S64 .f32) (main_arg16 : FVec F S1024x192 .f32) (main_arg17 : FVec F S1024 .f32) (main_arg18 : FVec F S1024 .f32) (main_arg19 : FVec F S512x1216 .f32) (main_arg20 : FVec F S512 .f32) (main_arg21 : FVec F S512 .f32) (main_arg22 : FVec F S256x512 .f32) (main_v29 : IVec S_ 1) (main_v32 : IVec S64 1) (main_c_12 : IVec S_ 1) : IVec S_ 1 :=
  let main_v33 : IVec S_ 1 := (fun x v => Host.reduce IntOp.andi x v reducesTo_S64_S_d0 h_S_) main_v32 main_c_12
  let main_v34 : IVec S_ 1 := andi main_v29 main_v33
  let main_v35 : FVec F S64x128 .f32 := Host.absf main_arg7
  let main_cst_13 : FVec F S_ .f32 := constant S_ .f32 0x7F800000#32
  let main_v36 : FVec F S64x128 .f32 := broadcastInDim S64x128 ![] bcast_S_S64x128 main_cst_13
  let main_v37 : IVec S64x128 1 := cmpf .olt main_v35 main_v36
  let main_c_14 : IVec S_ 1 := constantI S_ 1 1#1
  let main_v38 : IVec S_ 1 := (fun x v => Host.reduce IntOp.andi x v reducesTo_S64x128_S_d0_1 h_S_) main_v37 main_c_14
  let main_v39 : IVec S_ 1 := andi main_v34 main_v38
  let main_v40 : FVec F S64 .f32 := Host.absf main_arg8
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  let main_v45 : FVec F S64 .f32 := Host.absf main_arg9
  let main_cst_17 : FVec F S_ .f32 := constant S_ .f32 0x7F800000#32
  let main_v46 : FVec F S64 .f32 := broadcastInDim S64 ![] bcast_S_S64 main_cst_17
  let main_v47 : IVec S64 1 := cmpf .olt main_v45 main_v46
  let main_c_18 : IVec S_ 1 := constantI S_ 1 1#1
  let main_v48 : IVec S_ 1 := (fun x v => Host.reduce IntOp.andi x v reducesTo_S64_S_d0 h_S_) main_v47 main_c_18
  let main_v49 : IVec S_ 1 := andi main_v44 main_v48
  let main_v50 : FVec F S64x64 .f32 := Host.absf main_arg10
  fn_part3 (F := F) main_arg5 main_arg11 main_arg12 main_arg13 main_arg14 main_arg15 main_arg16 main_arg17 main_arg18 main_arg19 main_arg20 main_arg21 main_arg22 main_v49 main_v50

def fn_part1 {F : FTy → Type} [FloatOps F] (main_arg4 : FVec F S64x64 .f32) (main_arg5 : FVec F S64 .f32) (main_arg6 : FVec F S64 .f32) (main_arg7 : FVec F S64x128 .f32) (main_arg8 : FVec F S64 .f32) (main_arg9 : FVec F S64 .f32) (main_arg10 : FVec F S64x64 .f32) (main_arg11 : FVec F S64 .f32) (main_arg12 : FVec F S64 .f32) (main_arg13 : FVec F S64x128 .f32) (main_arg14 : FVec F S64 .f32) (main_arg15 : FVec F S64 .f32) (main_arg16 : FVec F S1024x192 .f32) (main_arg17 : FVec F S1024 .f32) (main_arg18 : FVec F S1024 .f32) (main_arg19 : FVec F S512x1216 .f32) (main_arg20 : FVec F S512 .f32) (main_arg21 : FVec F S512 .f32) (main_arg22 : FVec F S256x512 .f32) (main_v14 : IVec S_ 1) (main_v15 : FVec F S64 .f32) (main_cst_5 : FVec F S_ .f32) : IVec S_ 1 :=
  let main_v16 : FVec F S64 .f32 := broadcastInDim S64 ![] bcast_S_S64 main_cst_5
  let main_v17 : IVec S64 1 := cmpf .olt main_v15 main_v16
  let main_c_6 : IVec S_ 1 := constantI S_ 1 1#1
  let main_v18 : IVec S_ 1 := (fun x v => Host.reduce IntOp.andi x v reducesTo_S64_S_d0 h_S_) main_v17 main_c_6
  let main_v19 : IVec S_ 1 := andi main_v14 main_v18
  let main_v20 : FVec F S64x64 .f32 := Host.absf main_arg4
  let main_cst_7 : FVec F S_ .f32 := constant S_ .f32 0x7F800000#32
  let main_v21 : FVec F S64x64 .f32 := broadcastInDim S64x64 ![] bcast_S_S64x64 main_cst_7
  let main_v22 : IVec S64x64 1 := cmpf .olt main_v20 main_v21
  let main_c_8 : IVec S_ 1 := constantI S_ 1 1#1
  let main_v23 : IVec S_ 1 := (fun x v => Host.reduce IntOp.andi x v reducesTo_S64x64_S_d0_1 h_S_) main_v22 main_c_8
  let main_v24 : IVec S_ 1 := andi main_v19 main_v23
  let main_v25 : FVec F S64 .f32 := Host.absf main_arg5
  let main_cst_9 : FVec F S_ .f32 := constant S_ .f32 0x7F800000#32
  let main_v26 : FVec F S64 .f32 := broadcastInDim S64 ![] bcast_S_S64 main_cst_9
  let main_v27 : IVec S64 1 := cmpf .olt main_v25 main_v26
  let main_c_10 : IVec S_ 1 := constantI S_ 1 1#1
  let main_v28 : IVec S_ 1 := (fun x v => Host.reduce IntOp.andi x v reducesTo_S64_S_d0 h_S_) main_v27 main_c_10
  let main_v29 : IVec S_ 1 := andi main_v24 main_v28
  let main_v30 : FVec F S64 .f32 := Host.absf main_arg6
  let main_cst_11 : FVec F S_ .f32 := constant S_ .f32 0x7F800000#32
  let main_v31 : FVec F S64 .f32 := broadcastInDim S64 ![] bcast_S_S64 main_cst_11
  let main_v32 : IVec S64 1 := cmpf .olt main_v30 main_v31
  let main_c_12 : IVec S_ 1 := constantI S_ 1 1#1
  fn_part2 (F := F) main_arg5 main_arg7 main_arg8 main_arg9 main_arg10 main_arg11 main_arg12 main_arg13 main_arg14 main_arg15 main_arg16 main_arg17 main_arg18 main_arg19 main_arg20 main_arg21 main_arg22 main_v29 main_v32 main_c_12

def fn {F : FTy → Type} [FloatOps F] (main_arg0 : FVec F S16x6x1024 .f32) (main_arg1 : FVec F S64x12 .f32) (main_arg2 : FVec F S64 .f32) (main_arg3 : FVec F S64 .f32) (main_arg4 : FVec F S64x64 .f32) (main_arg5 : FVec F S64 .f32) (main_arg6 : FVec F S64 .f32) (main_arg7 : FVec F S64x128 .f32) (main_arg8 : FVec F S64 .f32) (main_arg9 : FVec F S64 .f32) (main_arg10 : FVec F S64x64 .f32) (main_arg11 : FVec F S64 .f32) (main_arg12 : FVec F S64 .f32) (main_arg13 : FVec F S64x128 .f32) (main_arg14 : FVec F S64 .f32) (main_arg15 : FVec F S64 .f32) (main_arg16 : FVec F S1024x192 .f32) (main_arg17 : FVec F S1024 .f32) (main_arg18 : FVec F S1024 .f32) (main_arg19 : FVec F S512x1216 .f32) (main_arg20 : FVec F S512 .f32) (main_arg21 : FVec F S512 .f32) (main_arg22 : FVec F S256x512 .f32) (main_arg23 : FVec F S256 .f32) (main_arg24 : FVec F S256 .f32) (main_arg25 : FVec F S128x256 .f32) (main_arg26 : FVec F S1x128 .f32) (main_arg27 : FVec F S128x256 .f32) : IVec S_ 1 :=
  let main_v0 : FVec F S16x6x1024 .f32 := Host.absf main_arg0
  let main_cst : FVec F S_ .f32 := constant S_ .f32 0x7F800000#32
  let main_v1 : FVec F S16x6x1024 .f32 := broadcastInDim S16x6x1024 ![] bcast_S_S16x6x1024 main_cst
  let main_v2 : IVec S16x6x1024 1 := cmpf .olt main_v0 main_v1
  let main_c : IVec S_ 1 := constantI S_ 1 1#1
  let main_v3 : IVec S_ 1 := (fun x v => Host.reduce IntOp.andi x v reducesTo_S16x6x1024_S_d0_1_2 h_S_) main_v2 main_c
  let main_c_0 : IVec S_ 1 := constantI S_ 1 1#1
  let main_v4 : IVec S_ 1 := andi main_c_0 main_v3
  let main_v5 : FVec F S64x12 .f32 := Host.absf main_arg1
  let main_cst_1 : FVec F S_ .f32 := constant S_ .f32 0x7F800000#32
  let main_v6 : FVec F S64x12 .f32 := broadcastInDim S64x12 ![] bcast_S_S64x12 main_cst_1
  let main_v7 : IVec S64x12 1 := cmpf .olt main_v5 main_v6
  let main_c_2 : IVec S_ 1 := constantI S_ 1 1#1
  let main_v8 : IVec S_ 1 := (fun x v => Host.reduce IntOp.andi x v reducesTo_S64x12_S_d0_1 h_S_) main_v7 main_c_2
  let main_v9 : IVec S_ 1 := andi main_v4 main_v8
  let main_v10 : FVec F S64 .f32 := Host.absf main_arg2
  let main_cst_3 : FVec F S_ .f32 := constant S_ .f32 0x7F800000#32
  let main_v11 : FVec F S64 .f32 := broadcastInDim S64 ![] bcast_S_S64 main_cst_3
  let main_v12 : IVec S64 1 := cmpf .olt main_v10 main_v11
  let main_c_4 : IVec S_ 1 := constantI S_ 1 1#1
  let main_v13 : IVec S_ 1 := (fun x v => Host.reduce IntOp.andi x v reducesTo_S64_S_d0 h_S_) main_v12 main_c_4
  let main_v14 : IVec S_ 1 := andi main_v9 main_v13
  let main_v15 : FVec F S64 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v14 main_v15 main_cst_5
-- ==== Kernel.lean ====
abbrev S16x6x1024 : Shape := ⟨3, ![16, 6, 1024]⟩
abbrev S64x12 : Shape := ⟨2, ![64, 12]⟩
abbrev S64 : Shape := ⟨1, ![64]⟩
abbrev S64x64 : Shape := ⟨2, ![64, 64]⟩
abbrev S64x128 : Shape := ⟨2, ![64, 128]⟩
abbrev S1024x192 : Shape := ⟨2, ![1024, 192]⟩
abbrev S1024 : Shape := ⟨1, ![1024]⟩
abbrev S512x1216 : Shape := ⟨2, ![512, 1216]⟩
abbrev S512 : Shape := ⟨1, ![512]⟩
abbrev S256x512 : Shape := ⟨2, ![256, 512]⟩
abbrev S256 : Shape := ⟨1, ![256]⟩
abbrev S128x256 : Shape := ⟨2, ![128, 256]⟩
abbrev S1x128 : Shape := ⟨2, ![1, 128]⟩
abbrev S16x1024x6 : Shape := ⟨3, ![16, 1024, 6]⟩
abbrev S_ : Shape := ⟨0, ![]⟩
abbrev S16x1024x8 : Shape := ⟨3, ![16, 1024, 8]⟩
abbrev S64x16 : Shape := ⟨2, ![64, 16]⟩
abbrev S1 : Shape := ⟨1, ![1]⟩
abbrev S8x128 : Shape := ⟨2, ![8, 128]⟩
abbrev S128 : Shape := ⟨1, ![128]⟩
abbrev S16x1024x1024 : Shape := ⟨3, ![16, 1024, 1024]⟩
abbrev S16x20x1024x64 : Shape := ⟨4, ![16, 20, 1024, 64]⟩
abbrev S1x1024x8 : Shape := ⟨3, ![1, 1024, 8]⟩
abbrev S1x1024x1024 : Shape := ⟨3, ![1, 1024, 1024]⟩
abbrev S1x20x1024x64 : Shape := ⟨4, ![1, 20, 1024, 64]⟩
abbrev S1024x8 : Shape := ⟨2, ![1024, 8]⟩
abbrev S8x1024 : Shape := ⟨2, ![8, 1024]⟩
abbrev S1024x1024 : Shape := ⟨2, ![1024, 1024]⟩
abbrev S1x1024 : Shape := ⟨2, ![1, 1024]⟩
abbrev S1024x1 : Shape := ⟨2, ![1024, 1]⟩
abbrev S1024x4 : Shape := ⟨2, ![1024, 4]⟩
abbrev S1024x6 : Shape := ⟨2, ![1024, 6]⟩
abbrev S1024x16 : Shape := ⟨2, ![1024, 16]⟩
abbrev S1024x64 : Shape := ⟨2, ![1024, 64]⟩
abbrev S1x1x1024x64 : Shape := ⟨4, ![1, 1, 1024, 64]⟩
abbrev S1x1x1x64 : Shape := ⟨4, ![1, 1, 1, 64]⟩
abbrev S1x64 : Shape := ⟨2, ![1, 64]⟩
abbrev S4x64 : Shape := ⟨2, ![4, 64]⟩
abbrev S16x1024x64 : Shape := ⟨3, ![16, 1024, 64]⟩
abbrev S1x1024x64 : Shape := ⟨3, ![1, 1024, 64]⟩
abbrev S64x1024 : Shape := ⟨2, ![64, 1024]⟩
abbrev S1024x128 : Shape := ⟨2, ![1024, 128]⟩
abbrev S16x2x64 : Shape := ⟨3, ![16, 2, 64]⟩
abbrev S1x2x64 : Shape := ⟨3, ![1, 2, 64]⟩
abbrev S2x64 : Shape := ⟨2, ![2, 64]⟩
abbrev S16x1x64 : Shape := ⟨3, ![16, 1, 64]⟩
abbrev S16x64 : Shape := ⟨2, ![16, 64]⟩
abbrev S16x2x1024 : Shape := ⟨3, ![16, 2, 1024]⟩
abbrev S16x1x1024 : Shape := ⟨3, ![16, 1, 1024]⟩
abbrev S1x2x1024 : Shape := ⟨3, ![1, 2, 1024]⟩
abbrev S1x1x1024 : Shape := ⟨3, ![1, 1, 1024]⟩
abbrev S2x1024 : Shape := ⟨2, ![2, 1024]⟩
abbrev S16x1024 : Shape := ⟨2, ![16, 1024]⟩
abbrev S4x1024 : Shape := ⟨2, ![4, 1024]⟩
abbrev S512x1024 : Shape := ⟨2, ![512, 1024]⟩
abbrev S512x192 : Shape := ⟨2, ![512, 192]⟩
abbrev S16x1024x512 : Shape := ⟨3, ![16, 1024, 512]⟩
abbrev S16x2x512 : Shape := ⟨3, ![16, 2, 512]⟩
abbrev S1x1024x512 : Shape := ⟨3, ![1, 1024, 512]⟩
abbrev S1x2x512 : Shape := ⟨3, ![1, 2, 512]⟩
abbrev S1x512 : Shape := ⟨2, ![1, 512]⟩
abbrev S1024x512 : Shape := ⟨2, ![1024, 512]⟩
abbrev S2x512 : Shape := ⟨2, ![2, 512]⟩
abbrev S16x1x512 : Shape := ⟨3, ![16, 1, 512]⟩
abbrev S16x512 : Shape := ⟨2, ![16, 512]⟩
abbrev S4x512 : Shape := ⟨2, ![4, 512]⟩
abbrev S16x1024x256 : Shape := ⟨3, ![16, 1024, 256]⟩
abbrev S16x2x256 : Shape := ⟨3, ![16, 2, 256]⟩
abbrev S1x1024x256 : Shape := ⟨3, ![1, 1024, 256]⟩
abbrev S1x2x256 : Shape := ⟨3, ![1, 2, 256]⟩
abbrev S1024x256 : Shape := ⟨2, ![1024, 256]⟩
abbrev S1x256 : Shape := ⟨2, ![1, 256]⟩
abbrev S2x256 : Shape := ⟨2, ![2, 256]⟩
abbrev S16x1x256 : Shape := ⟨3, ![16, 1, 256]⟩
abbrev S16x256 : Shape := ⟨2, ![16, 256]⟩
abbrev S4x256 : Shape := ⟨2, ![4, 256]⟩
abbrev S16x1024x128 : Shape := ⟨3, ![16, 1024, 128]⟩
abbrev S1x1024x128 : Shape := ⟨3, ![1, 1024, 128]⟩
abbrev S16x1024x1 : Shape := ⟨3, ![16, 1024, 1]⟩

abbrev nBuf : Space → Nat
  | .hbm => 313
  | .vmem => 89
  | .smem => 0
  | _ => 0

abbrev hbmTy0_0 (i : Nat) : BufTy := match i % 128 with
  | 0 => ⟨S16x6x1024, .f32⟩
  | 1 => ⟨S64x12, .f32⟩
  | 2 => ⟨S64, .f32⟩
  | 3 => ⟨S64, .f32⟩
  | 4 => ⟨S64x64, .f32⟩
  | 5 => ⟨S64, .f32⟩
  | 6 => ⟨S64, .f32⟩
  | 7 => ⟨S64x128, .f32⟩
  | 8 => ⟨S64, .f32⟩
  | 9 => ⟨S64, .f32⟩
  | 10 => ⟨S64x64, .f32⟩
  | 11 => ⟨S64, .f32⟩
  | 12 => ⟨S64, .f32⟩
  | 13 => ⟨S64x128, .f32⟩
  | 14 => ⟨S64, .f32⟩
  | 15 => ⟨S64, .f32⟩
  | 16 => ⟨S1024x192, .f32⟩
  | 17 => ⟨S1024, .f32⟩
  | 18 => ⟨S1024, .f32⟩
  | 19 => ⟨S512x1216, .f32⟩
  | 20 => ⟨S512, .f32⟩
  | 21 => ⟨S512, .f32⟩
  | 22 => ⟨S256x512, .f32⟩
  | 23 => ⟨S256, .f32⟩
  | 24 => ⟨S256, .f32⟩
  | 25 => ⟨S128x256, .f32⟩
  | 26 => ⟨S1x128, .f32⟩
  | 27 => ⟨S128x256, .f32⟩
  | 28 => ⟨S16x1024x6, .f32⟩
  | 29 => ⟨S_, .i32⟩
  | 30 => ⟨S_, .f32⟩
  | 31 => ⟨S16x1024x8, .f32⟩
  | 32 => ⟨S_, .f32⟩
  | 33 => ⟨S64x16, .f32⟩
  | 34 => ⟨S_, .i32⟩
  | 35 => ⟨S1, .i32⟩
  | 36 => ⟨S64x16, .f32⟩
  | 37 => ⟨S_, .f32⟩
  | 38 => ⟨S8x128, .f32⟩
  | 39 => ⟨S128, .f32⟩
  | 40 => ⟨S_, .i32⟩
  | 41 => ⟨S1, .i32⟩
  | 42 => ⟨S8x128, .f32⟩
  | 43 => ⟨S16x1024x1024, .f32⟩
  | 44 => ⟨S16x20x1024x64, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S_, .f32⟩
  | 52 => ⟨S64, .f32⟩
  | 53 => ⟨S1x1x1x64, .f32⟩
  | 54 => ⟨S_, .f32⟩
  | 55 => ⟨S1x1x1x64, .f32⟩
  | 56 => ⟨S1x1x1x64, .f32⟩
  | 57 => ⟨S16x20x1024x64, .f32⟩
  | 58 => ⟨S16x20x1024x64, .f32⟩
  | 59 => ⟨S16x20x1024x64, .f32⟩
  | 60 => ⟨S_, .f32⟩
  | 61 => ⟨S_, .f32⟩
  | 62 => ⟨S_, .f32⟩
  | 63 => ⟨S_, .f32⟩
  | 64 => ⟨S64, .f32⟩
  | 65 => ⟨S64, .f32⟩
  | 66 => ⟨S64, .f32⟩
  | 67 => ⟨S_, .f32⟩
  | 68 => ⟨S_, .i1⟩
  | 69 => ⟨S_, .f32⟩
  | 70 => ⟨S_, .f32⟩
  | 71 => ⟨S64, .f32⟩
  | 72 => ⟨S64, .f32⟩
  | 73 => ⟨S_, .f32⟩
  | 74 => ⟨S64, .f32⟩
  | 75 => ⟨S64, .f32⟩
  | 76 => ⟨S64, .f32⟩
  | 77 => ⟨S1x64, .f32⟩
  | 78 => ⟨S1x64, .f32⟩
  | 79 => ⟨S1x64, .f32⟩
  | 80 => ⟨S1x64, .f32⟩
  | 81 => ⟨S4x64, .f32⟩
  | 82 => ⟨S16x20x1024x64, .f32⟩
  | 83 => ⟨S16x1024x64, .f32⟩
  | 84 => ⟨S_, .f32⟩
  | 85 => ⟨S64, .f32⟩
  | 86 => ⟨S_, .f32⟩
  | 87 => ⟨S64, .f32⟩
  | 88 => ⟨S64, .f32⟩
  | 89 => ⟨S_, .i32⟩
  | 90 => ⟨S_, .f32⟩
  | 91 => ⟨S64, .f32⟩
  | 92 => ⟨S1x1x1x64, .f32⟩
  | 93 => ⟨S_, .f32⟩
  | 94 => ⟨S1x1x1x64, .f32⟩
  | 95 => ⟨S1x1x1x64, .f32⟩
  | 96 => ⟨S16x20x1024x64, .f32⟩
  | 97 => ⟨S16x20x1024x64, .f32⟩
  | 98 => ⟨S16x20x1024x64, .f32⟩
  | 99 => ⟨S_, .f32⟩
  | 100 => ⟨S_, .f32⟩
  | 101 => ⟨S_, .f32⟩
  | 102 => ⟨S_, .f32⟩
  | 103 => ⟨S64, .f32⟩
  | 104 => ⟨S64, .f32⟩
  | 105 => ⟨S64, .f32⟩
  | 106 => ⟨S_, .f32⟩
  | 107 => ⟨S_, .i1⟩
  | 108 => ⟨S_, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S64, .f32⟩
  | 116 => ⟨S1x64, .f32⟩
  | 117 => ⟨S1x64, .f32⟩
  | 118 => ⟨S1x64, .f32⟩
  | 119 => ⟨S1x64, .f32⟩
  | 120 => ⟨S4x64, .f32⟩
  | 121 => ⟨S16x20x1024x64, .f32⟩
  | 122 => ⟨S_, .f32⟩
  | 123 => ⟨S64, .f32⟩
  | 124 => ⟨S_, .f32⟩
  | 125 => ⟨S64, .f32⟩
  | 126 => ⟨S64, .f32⟩
  | 127 => ⟨S_, .i32⟩
  | _ => ⟨S16x6x1024, .f32⟩

abbrev hbmTy0_1 (i : Nat) : BufTy := match i % 128 with
  | 0 => ⟨S_, .f32⟩
  | 1 => ⟨S64, .f32⟩
  | 2 => ⟨S1x1x1x64, .f32⟩
  | 3 => ⟨S_, .f32⟩
  | 4 => ⟨S1x1x1x64, .f32⟩
  | 5 => ⟨S1x1x1x64, .f32⟩
  | 6 => ⟨S16x20x1024x64, .f32⟩
  | 7 => ⟨S16x20x1024x64, .f32⟩
  | 8 => ⟨S16x20x1024x64, .f32⟩
  | 9 => ⟨S_, .f32⟩
  | 10 => ⟨S_, .f32⟩
  | 11 => ⟨S_, .f32⟩
  | 12 => ⟨S_, .f32⟩
  | 13 => ⟨S64, .f32⟩
  | 14 => ⟨S64, .f32⟩
  | 15 => ⟨S64, .f32⟩
  | 16 => ⟨S_, .f32⟩
  | 17 => ⟨S_, .i1⟩
  | 18 => ⟨S_, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S64, .f32⟩
  | 26 => ⟨S1x64, .f32⟩
  | 27 => ⟨S1x64, .f32⟩
  | 28 => ⟨S1x64, .f32⟩
  | 29 => ⟨S1x64, .f32⟩
  | 30 => ⟨S4x64, .f32⟩
  | 31 => ⟨S16x20x1024x64, .f32⟩
  | 32 => ⟨S16x1024x64, .f32⟩
  | 33 => ⟨S_, .f32⟩
  | 34 => ⟨S64, .f32⟩
  | 35 => ⟨S_, .f32⟩
  | 36 => ⟨S64, .f32⟩
  | 37 => ⟨S64, .f32⟩
  | 38 => ⟨S_, .i32⟩
  | 39 => ⟨S_, .f32⟩
  | 40 => ⟨S64, .f32⟩
  | 41 => ⟨S1x1x1x64, .f32⟩
  | 42 => ⟨S_, .f32⟩
  | 43 => ⟨S1x1x1x64, .f32⟩
  | 44 => ⟨S1x1x1x64, .f32⟩
  | 45 => ⟨S16x20x1024x64, .f32⟩
  | 46 => ⟨S16x20x1024x64, .f32⟩
  | 47 => ⟨S16x20x1024x64, .f32⟩
  | 48 => ⟨S_, .f32⟩
  | 49 => ⟨S_, .f32⟩
  | 50 => ⟨S_, .f32⟩
  | 51 => ⟨S_, .f32⟩
  | 52 => ⟨S64, .f32⟩
  | 53 => ⟨S64, .f32⟩
  | 54 => ⟨S64, .f32⟩
  | 55 => ⟨S_, .f32⟩
  | 56 => ⟨S_, .i1⟩
  | 57 => ⟨S_, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S64, .f32⟩
  | 65 => ⟨S1x64, .f32⟩
  | 66 => ⟨S1x64, .f32⟩
  | 67 => ⟨S1x64, .f32⟩
  | 68 => ⟨S1x64, .f32⟩
  | 69 => ⟨S4x64, .f32⟩
  | 70 => ⟨S16x1024x64, .f32⟩
  | 71 => ⟨S16x2x64, .f32⟩
  | 72 => ⟨S16x1x64, .f32⟩
  | 73 => ⟨S16x64, .f32⟩
  | 74 => ⟨S_, .f32⟩
  | 75 => ⟨S64, .f32⟩
  | 76 => ⟨S16x1x64, .f32⟩
  | 77 => ⟨S16x64, .f32⟩
  | 78 => ⟨S_, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S64, .f32⟩
  | 87 => ⟨S64, .f32⟩
  | 88 => ⟨S_, .f32⟩
  | 89 => ⟨S64, .f32⟩
  | 90 => ⟨S64, .f32⟩
  | 91 => ⟨S64, .f32⟩
  | 92 => ⟨S1x64, .f32⟩
  | 93 => ⟨S1x64, .f32⟩
  | 94 => ⟨S1x64, .f32⟩
  | 95 => ⟨S1x64, .f32⟩
  | 96 => ⟨S4x64, .f32⟩
  | 97 => ⟨S16x2x1024, .f32⟩
  | 98 => ⟨S16x1x1024, .f32⟩
  | 99 => ⟨S16x1x1024, .f32⟩
  | 100 => ⟨S16x1024, .f32⟩
  | 101 => ⟨S_, .f32⟩
  | 102 => ⟨S1024, .f32⟩
  | 103 => ⟨S16x1x1024, .f32⟩
  | 104 => ⟨S16x1024, .f32⟩
  | 105 => ⟨S_, .f32⟩
  | 106 => ⟨S1024, .f32⟩
  | 107 => ⟨S_, .f32⟩
  | 108 => ⟨S1024, .f32⟩
  | 109 => ⟨S1024, .f32⟩
  | 110 => ⟨S_, .f32⟩
  | 111 => ⟨S1024, .f32⟩
  | 112 => ⟨S1024, .f32⟩
  | 113 => ⟨S1024, .f32⟩
  | 114 => ⟨S1024, .f32⟩
  | 115 => ⟨S_, .f32⟩
  | 116 => ⟨S1024, .f32⟩
  | 117 => ⟨S1024, .f32⟩
  | 118 => ⟨S1024, .f32⟩
  | 119 => ⟨S1x1024, .f32⟩
  | 120 => ⟨S1x1024, .f32⟩
  | 121 => ⟨S1x1024, .f32⟩
  | 122 => ⟨S1x1024, .f32⟩
  | 123 => ⟨S4x1024, .f32⟩
  | 124 => ⟨S512x1024, .f32⟩
  | 125 => ⟨S512x192, .f32⟩
  | 126 => ⟨S16x1024x512, .f32⟩
  | 127 => ⟨S16x2x512, .f32⟩
  | _ => ⟨S16x6x1024, .f32⟩

abbrev hbmTy0_2 (i : Nat) : BufTy := match i % 128 with
  | 0 => ⟨S16x1x512, .f32⟩
  | 1 => ⟨S16x512, .f32⟩
  | 2 => ⟨S_, .f32⟩
  | 3 => ⟨S512, .f32⟩
  | 4 => ⟨S16x1x512, .f32⟩
  | 5 => ⟨S16x512, .f32⟩
  | 6 => ⟨S_, .f32⟩
  | 7 => ⟨S512, .f32⟩
  | 8 => ⟨S_, .f32⟩
  | 9 => ⟨S512, .f32⟩
  | 10 => ⟨S512, .f32⟩
  | 11 => ⟨S_, .f32⟩
  | 12 => ⟨S512, .f32⟩
  | 13 => ⟨S512, .f32⟩
  | 14 => ⟨S512, .f32⟩
  | 15 => ⟨S512, .f32⟩
  | 16 => ⟨S_, .f32⟩
  | 17 => ⟨S512, .f32⟩
  | 18 => ⟨S512, .f32⟩
  | 19 => ⟨S512, .f32⟩
  | 20 => ⟨S1x512, .f32⟩
  | 21 => ⟨S1x512, .f32⟩
  | 22 => ⟨S1x512, .f32⟩
  | 23 => ⟨S1x512, .f32⟩
  | 24 => ⟨S4x512, .f32⟩
  | 25 => ⟨S16x1024x256, .f32⟩
  | 26 => ⟨S16x2x256, .f32⟩
  | 27 => ⟨S16x1x256, .f32⟩
  | 28 => ⟨S16x256, .f32⟩
  | 29 => ⟨S_, .f32⟩
  | 30 => ⟨S256, .f32⟩
  | 31 => ⟨S16x1x256, .f32⟩
  | 32 => ⟨S16x256, .f32⟩
  | 33 => ⟨S_, .f32⟩
  | 34 => ⟨S256, .f32⟩
  | 35 => ⟨S_, .f32⟩
  | 36 => ⟨S256, .f32⟩
  | 37 => ⟨S256, .f32⟩
  | 38 => ⟨S_, .f32⟩
  | 39 => ⟨S256, .f32⟩
  | 40 => ⟨S256, .f32⟩
  | 41 => ⟨S256, .f32⟩
  | 42 => ⟨S256, .f32⟩
  | 43 => ⟨S_, .f32⟩
  | 44 => ⟨S256, .f32⟩
  | 45 => ⟨S256, .f32⟩
  | 46 => ⟨S256, .f32⟩
  | 47 => ⟨S1x256, .f32⟩
  | 48 => ⟨S1x256, .f32⟩
  | 49 => ⟨S1x256, .f32⟩
  | 50 => ⟨S1x256, .f32⟩
  | 51 => ⟨S4x256, .f32⟩
  | 52 => ⟨S16x1024x8, .f32⟩
  | 53 => ⟨S16x1024x128, .f32⟩
  | 54 => ⟨S16x1024x1024, .f32⟩
  | 55 => ⟨S16x1024x1, .f32⟩
  | 56 => ⟨S16x1024, .f32⟩
  | _ => ⟨S16x6x1024, .f32⟩

abbrev hbmTy (i : Nat) : BufTy := match i / 128 with
  | 0 => hbmTy0_0 i
  | 1 => hbmTy0_1 i
  | 2 => hbmTy0_2 i
  | _ => ⟨S16x6x1024, .f32⟩

abbrev bufTy : (tb : Table) → Fin (tcTables nBuf tb) → BufTy
  | .hbm, ⟨i, _⟩ => hbmTy i
  | .local _ .vmem, ⟨0, _⟩ => ⟨S1x1024x8, .f32⟩
  | .local _ .vmem, ⟨1, _⟩ => ⟨S1x1024x8, .f32⟩
  | .local _ .vmem, ⟨2, _⟩ => ⟨S64x16, .f32⟩
  | .local _ .vmem, ⟨3, _⟩ => ⟨S1x1024x1024, .f32⟩
  | .local _ .vmem, ⟨4, _⟩ => ⟨S1x1024x1024, .f32⟩
  | .local _ .vmem, ⟨5, _⟩ => ⟨S1x20x1024x64, .f32⟩
  | .local _ .vmem, ⟨6, _⟩ => ⟨S1x20x1024x64, .f32⟩
  | .local _ .vmem, ⟨7, _⟩ => ⟨S1x20x1024x64, .f32⟩
  | .local _ .vmem, ⟨8, _⟩ => ⟨S1x20x1024x64, .f32⟩
  | .local _ .vmem, ⟨9, _⟩ => ⟨S4x64, .f32⟩
  | .local _ .vmem, ⟨10, _⟩ => ⟨S64x64, .f32⟩
  | .local _ .vmem, ⟨11, _⟩ => ⟨S1x20x1024x64, .f32⟩
  | .local _ .vmem, ⟨12, _⟩ => ⟨S1x20x1024x64, .f32⟩
  | .local _ .vmem, ⟨13, _⟩ => ⟨S1x1024x64, .f32⟩
  | .local _ .vmem, ⟨14, _⟩ => ⟨S1x1024x64, .f32⟩
  | .local _ .vmem, ⟨15, _⟩ => ⟨S1x1024x64, .f32⟩
  | .local _ .vmem, ⟨16, _⟩ => ⟨S1x1024x64, .f32⟩
  | .local _ .vmem, ⟨17, _⟩ => ⟨S4x64, .f32⟩
  | .local _ .vmem, ⟨18, _⟩ => ⟨S64x128, .f32⟩
  | .local _ .vmem, ⟨19, _⟩ => ⟨S1x20x1024x64, .f32⟩
  | .local _ .vmem, ⟨20, _⟩ => ⟨S1x20x1024x64, .f32⟩
  | .local _ .vmem, ⟨21, _⟩ => ⟨S1x20x1024x64, .f32⟩
  | .local _ .vmem, ⟨22, _⟩ => ⟨S1x20x1024x64, .f32⟩
  | .local _ .vmem, ⟨23, _⟩ => ⟨S4x64, .f32⟩
  | .local _ .vmem, ⟨24, _⟩ => ⟨S64x64, .f32⟩
  | .local _ .vmem, ⟨25, _⟩ => ⟨S1x20x1024x64, .f32⟩
  | .local _ .vmem, ⟨26, _⟩ => ⟨S1x20x1024x64, .f32⟩
  | .local _ .vmem, ⟨27, _⟩ => ⟨S1x1024x64, .f32⟩
  | .local _ .vmem, ⟨28, _⟩ => ⟨S1x1024x64, .f32⟩
  | .local _ .vmem, ⟨29, _⟩ => ⟨S1x1024x64, .f32⟩
  | .local _ .vmem, ⟨30, _⟩ => ⟨S1x1024x64, .f32⟩
  | .local _ .vmem, ⟨31, _⟩ => ⟨S4x64, .f32⟩
  | .local _ .vmem, ⟨32, _⟩ => ⟨S64x128, .f32⟩
  | .local _ .vmem, ⟨33, _⟩ => ⟨S1x1024x64, .f32⟩
  | .local _ .vmem, ⟨34, _⟩ => ⟨S1x1024x64, .f32⟩
  | .local _ .vmem, ⟨35, _⟩ => ⟨S1x2x64, .f32⟩
  | .local _ .vmem, ⟨36, _⟩ => ⟨S1x2x64, .f32⟩
  | .local _ .vmem, ⟨37, _⟩ => ⟨S1x1024x64, .f32⟩
  | .local _ .vmem, ⟨38, _⟩ => ⟨S1x1024x64, .f32⟩
  | .local _ .vmem, ⟨39, _⟩ => ⟨S1x1024x64, .f32⟩
  | .local _ .vmem, ⟨40, _⟩ => ⟨S1x1024x64, .f32⟩
  | .local _ .vmem, ⟨41, _⟩ => ⟨S1x1024x64, .f32⟩
  | .local _ .vmem, ⟨42, _⟩ => ⟨S1x1024x64, .f32⟩
  | .local _ .vmem, ⟨43, _⟩ => ⟨S4x64, .f32⟩
  | .local _ .vmem, ⟨44, _⟩ => ⟨S4x64, .f32⟩
  | .local _ .vmem, ⟨45, _⟩ => ⟨S4x64, .f32⟩
  | .local _ .vmem, ⟨46, _⟩ => ⟨S1024x192, .f32⟩
  | .local _ .vmem, ⟨47, _⟩ => ⟨S1x2x1024, .f32⟩
  | .local _ .vmem, ⟨48, _⟩ => ⟨S1x2x1024, .f32⟩
  | .local _ .vmem, ⟨49, _⟩ => ⟨S1x1x1024, .f32⟩
  | .local _ .vmem, ⟨50, _⟩ => ⟨S1x1x1024, .f32⟩
  | .local _ .vmem, ⟨51, _⟩ => ⟨S1x1024x64, .f32⟩
  | .local _ .vmem, ⟨52, _⟩ => ⟨S1x1024x64, .f32⟩
  | .local _ .vmem, ⟨53, _⟩ => ⟨S1x1024x64, .f32⟩
  | .local _ .vmem, ⟨54, _⟩ => ⟨S1x1024x64, .f32⟩
  | .local _ .vmem, ⟨55, _⟩ => ⟨S1x1024x64, .f32⟩
  | .local _ .vmem, ⟨56, _⟩ => ⟨S1x1024x64, .f32⟩
  | .local _ .vmem, ⟨57, _⟩ => ⟨S1x1x1024, .f32⟩
  | .local _ .vmem, ⟨58, _⟩ => ⟨S1x1x1024, .f32⟩
  | .local _ .vmem, ⟨59, _⟩ => ⟨S4x64, .f32⟩
  | .local _ .vmem, ⟨60, _⟩ => ⟨S4x64, .f32⟩
  | .local _ .vmem, ⟨61, _⟩ => ⟨S4x64, .f32⟩
  | .local _ .vmem, ⟨62, _⟩ => ⟨S4x1024, .f32⟩
  | .local _ .vmem, ⟨63, _⟩ => ⟨S512x1024, .f32⟩
  | .local _ .vmem, ⟨64, _⟩ => ⟨S512x192, .f32⟩
  | .local _ .vmem, ⟨65, _⟩ => ⟨S1x1024x512, .f32⟩
  | .local _ .vmem, ⟨66, _⟩ => ⟨S1x1024x512, .f32⟩
  | .local _ .vmem, ⟨67, _⟩ => ⟨S1x2x512, .f32⟩
  | .local _ .vmem, ⟨68, _⟩ => ⟨S1x2x512, .f32⟩
  | .local _ .vmem, ⟨69, _⟩ => ⟨S1x1024x512, .f32⟩
  | .local _ .vmem, ⟨70, _⟩ => ⟨S1x1024x512, .f32⟩
  | .local _ .vmem, ⟨71, _⟩ => ⟨S4x512, .f32⟩
  | .local _ .vmem, ⟨72, _⟩ => ⟨S256x512, .f32⟩
  | .local _ .vmem, ⟨73, _⟩ => ⟨S1x1024x256, .f32⟩
  | .local _ .vmem, ⟨74, _⟩ => ⟨S1x1024x256, .f32⟩
  | .local _ .vmem, ⟨75, _⟩ => ⟨S1x2x256, .f32⟩
  | .local _ .vmem, ⟨76, _⟩ => ⟨S1x2x256, .f32⟩
  | .local _ .vmem, ⟨77, _⟩ => ⟨S1x1024x256, .f32⟩
  | .local _ .vmem, ⟨78, _⟩ => ⟨S1x1024x256, .f32⟩
  | .local _ .vmem, ⟨79, _⟩ => ⟨S4x256, .f32⟩
  | .local _ .vmem, ⟨80, _⟩ => ⟨S128x256, .f32⟩
  | .local _ .vmem, ⟨81, _⟩ => ⟨S8x128, .f32⟩
  | .local _ .vmem, ⟨82, _⟩ => ⟨S128x256, .f32⟩
  | .local _ .vmem, ⟨83, _⟩ => ⟨S1x1024x8, .f32⟩
  | .local _ .vmem, ⟨84, _⟩ => ⟨S1x1024x8, .f32⟩
  | .local _ .vmem, ⟨85, _⟩ => ⟨S1x1024x128, .f32⟩
  | .local _ .vmem, ⟨86, _⟩ => ⟨S1x1024x128, .f32⟩
  | .local _ .vmem, ⟨87, _⟩ => ⟨S1x1024x1024, .f32⟩
  | .local _ .vmem, ⟨88, _⟩ => ⟨S1x1024x1024, .f32⟩
  | _, _ => ⟨S16x6x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | _, _ => false

abbrev semScoped : Fin 0 → Bool
  | ⟨_, h⟩ => absurd h (Nat.not_lt_zero _)

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTc nBuf bufTy 0 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_c : Ref sig .tc := ⟨.hbm, 29, rfl⟩
abbrev main_call0_v0 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_c_0 : Ref sig .tc := ⟨.hbm, 34, rfl⟩
abbrev main_v3 : Ref sig .tc := ⟨.hbm, 35, rfl⟩
abbrev main_v4 : Ref sig .tc := ⟨.hbm, 36, rfl⟩
abbrev main_cst_1 : Ref sig .tc := ⟨.hbm, 37, rfl⟩
abbrev main_v5 : Ref sig .tc := ⟨.hbm, 38, rfl⟩
abbrev main_v6 : Ref sig .tc := ⟨.hbm, 39, rfl⟩
abbrev main_c_2 : Ref sig .tc := ⟨.hbm, 40, rfl⟩
abbrev main_v7 : Ref sig .tc := ⟨.hbm, 41, rfl⟩
abbrev main_v8 : Ref sig .tc := ⟨.hbm, 42, rfl⟩
abbrev main_v9_0 : Ref sig .tc := ⟨.hbm, 43, rfl⟩
abbrev main_v9_1 : Ref sig .tc := ⟨.hbm, 44, rfl⟩
abbrev main_cst_3 : Ref sig .tc := ⟨.hbm, 45, rfl⟩
abbrev main_v10 : Ref sig .tc := ⟨.hbm, 46, rfl⟩
abbrev main_cst_4 : Ref sig .tc := ⟨.hbm, 47, rfl⟩
abbrev main_v11 : Ref sig .tc := ⟨.hbm, 48, rfl⟩
abbrev main_v12 : Ref sig .tc := ⟨.hbm, 49, rfl⟩
abbrev main_c_5 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_cst_3 : Ref sig .tc := ⟨.hbm, 67, rfl⟩
abbrev main_call1_v12 : Ref sig .tc := ⟨.hbm, 68, rfl⟩
abbrev main_call1_cst_4 : Ref sig .tc := ⟨.hbm, 69, rfl⟩
abbrev main_call1_call0_v0 : Ref sig .tc := ⟨.hbm, 70, rfl⟩
abbrev main_call1_call0_v1 : Ref sig .tc := ⟨.hbm, 71, rfl⟩
abbrev main_v13 : Ref sig .tc := ⟨.hbm, 72, rfl⟩
abbrev main_cst_6 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22_0 : Ref sig .tc := ⟨.hbm, 82, rfl⟩
abbrev main_v22_1 : Ref sig .tc := ⟨.hbm, 83, rfl⟩
abbrev main_cst_7 : Ref sig .tc := ⟨.hbm, 84, rfl⟩
abbrev main_v23 : Ref sig .tc := ⟨.hbm, 85, rfl⟩
abbrev main_cst_8 : Ref sig .tc := ⟨.hbm, 86, rfl⟩
abbrev main_v24 : Ref sig .tc := ⟨.hbm, 87, rfl⟩
abbrev main_v25 : Ref sig .tc := ⟨.hbm, 88, rfl⟩
abbrev main_c_9 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_cst_1 : Ref sig .tc := ⟨.hbm, 100, rfl⟩
abbrev main_call2_v8 : Ref sig .tc := ⟨.hbm, 101, rfl⟩
abbrev main_call2_cst_2 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_cst_3 : Ref sig .tc := ⟨.hbm, 106, rfl⟩
abbrev main_call2_v12 : Ref sig .tc := ⟨.hbm, 107, rfl⟩
abbrev main_call2_cst_4 : Ref sig .tc := ⟨.hbm, 108, rfl⟩
abbrev main_call2_call0_v0 : Ref sig .tc := ⟨.hbm, 109, rfl⟩
abbrev main_call2_call0_v1 : Ref sig .tc := ⟨.hbm, 110, rfl⟩
abbrev main_v26 : Ref sig .tc := ⟨.hbm, 111, rfl⟩
abbrev main_cst_10 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_cst_11 : Ref sig .tc := ⟨.hbm, 122, rfl⟩
abbrev main_v36 : Ref sig .tc := ⟨.hbm, 123, rfl⟩
abbrev main_cst_12 : Ref sig .tc := ⟨.hbm, 124, rfl⟩
abbrev main_v37 : Ref sig .tc := ⟨.hbm, 125, rfl⟩
abbrev main_v38 : Ref sig .tc := ⟨.hbm, 126, rfl⟩
abbrev main_c_13 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_cst_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_cst_1 : Ref sig .tc := ⟨.hbm, 138, rfl⟩
abbrev main_call3_v8 : Ref sig .tc := ⟨.hbm, 139, rfl⟩
abbrev main_call3_cst_2 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_cst_3 : Ref sig .tc := ⟨.hbm, 144, rfl⟩
abbrev main_call3_v12 : Ref sig .tc := ⟨.hbm, 145, rfl⟩
abbrev main_call3_cst_4 : Ref sig .tc := ⟨.hbm, 146, rfl⟩
abbrev main_call3_call0_v0 : Ref sig .tc := ⟨.hbm, 147, rfl⟩
abbrev main_call3_call0_v1 : Ref sig .tc := ⟨.hbm, 148, rfl⟩
abbrev main_v39 : Ref sig .tc := ⟨.hbm, 149, rfl⟩
abbrev main_cst_14 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v48_0 : Ref sig .tc := ⟨.hbm, 159, rfl⟩
abbrev main_v48_1 : Ref sig .tc := ⟨.hbm, 160, rfl⟩
abbrev main_cst_15 : Ref sig .tc := ⟨.hbm, 161, rfl⟩
abbrev main_v49 : Ref sig .tc := ⟨.hbm, 162, rfl⟩
abbrev main_cst_16 : Ref sig .tc := ⟨.hbm, 163, rfl⟩
abbrev main_v50 : Ref sig .tc := ⟨.hbm, 164, rfl⟩
abbrev main_v51 : Ref sig .tc := ⟨.hbm, 165, rfl⟩
abbrev main_c_17 : Ref sig .tc := ⟨.hbm, 166, rfl⟩
abbrev main_call4_cst : Ref sig .tc := ⟨.hbm, 167, rfl⟩
abbrev main_call4_v0 : Ref sig .tc := ⟨.hbm, 168, rfl⟩
abbrev main_call4_v1 : Ref sig .tc := ⟨.hbm, 169, rfl⟩
abbrev main_call4_cst_0 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_call4_v5 : Ref sig .tc := ⟨.hbm, 174, rfl⟩
abbrev main_call4_v6 : Ref sig .tc := ⟨.hbm, 175, rfl⟩
abbrev main_call4_v7 : Ref sig .tc := ⟨.hbm, 176, rfl⟩
abbrev main_call4_cst_1 : Ref sig .tc := ⟨.hbm, 177, rfl⟩
abbrev main_call4_v8 : Ref sig .tc := ⟨.hbm, 178, rfl⟩
abbrev main_call4_cst_2 : Ref sig .tc := ⟨.hbm, 179, rfl⟩
abbrev main_call4_v9 : Ref sig .tc := ⟨.hbm, 180, rfl⟩
abbrev main_call4_v10 : Ref sig .tc := ⟨.hbm, 181, rfl⟩
abbrev main_call4_v11 : Ref sig .tc := ⟨.hbm, 182, rfl⟩
abbrev main_call4_cst_3 : Ref sig .tc := ⟨.hbm, 183, rfl⟩
abbrev main_call4_v12 : Ref sig .tc := ⟨.hbm, 184, rfl⟩
abbrev main_call4_cst_4 : Ref sig .tc := ⟨.hbm, 185, rfl⟩
abbrev main_call4_call0_v0 : Ref sig .tc := ⟨.hbm, 186, rfl⟩
abbrev main_call4_call0_v1 : Ref sig .tc := ⟨.hbm, 187, rfl⟩
abbrev main_v52 : Ref sig .tc := ⟨.hbm, 188, rfl⟩
abbrev main_cst_18 : Ref sig .tc := ⟨.hbm, 189, rfl⟩
abbrev main_v53 : Ref sig .tc := ⟨.hbm, 190, rfl⟩
abbrev main_v54 : Ref sig .tc := ⟨.hbm, 191, rfl⟩
abbrev main_v55 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_v59 : Ref sig .tc := ⟨.hbm, 196, rfl⟩
abbrev main_v60 : Ref sig .tc := ⟨.hbm, 197, rfl⟩
abbrev main_v61_0 : Ref sig .tc := ⟨.hbm, 198, rfl⟩
abbrev main_v61_1 : Ref sig .tc := ⟨.hbm, 199, rfl⟩
abbrev main_v62 : Ref sig .tc := ⟨.hbm, 200, rfl⟩
abbrev main_v63 : Ref sig .tc := ⟨.hbm, 201, rfl⟩
abbrev main_cst_19 : Ref sig .tc := ⟨.hbm, 202, rfl⟩
abbrev main_v64 : Ref sig .tc := ⟨.hbm, 203, rfl⟩
abbrev main_v65 : Ref sig .tc := ⟨.hbm, 204, rfl⟩
abbrev main_v66 : Ref sig .tc := ⟨.hbm, 205, rfl⟩
abbrev main_cst_20 : Ref sig .tc := ⟨.hbm, 206, rfl⟩
abbrev main_v67 : Ref sig .tc := ⟨.hbm, 207, rfl⟩
abbrev main_cst_21 : Ref sig .tc := ⟨.hbm, 208, rfl⟩
abbrev main_v68 : Ref sig .tc := ⟨.hbm, 209, rfl⟩
abbrev main_v69 : Ref sig .tc := ⟨.hbm, 210, rfl⟩
abbrev main_cst_22 : Ref sig .tc := ⟨.hbm, 211, rfl⟩
abbrev main_v70 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_cst_23 : Ref sig .tc := ⟨.hbm, 216, rfl⟩
abbrev main_v74 : Ref sig .tc := ⟨.hbm, 217, rfl⟩
abbrev main_v75 : Ref sig .tc := ⟨.hbm, 218, rfl⟩
abbrev main_v76 : Ref sig .tc := ⟨.hbm, 219, rfl⟩
abbrev main_v77 : Ref sig .tc := ⟨.hbm, 220, rfl⟩
abbrev main_v78 : Ref sig .tc := ⟨.hbm, 221, rfl⟩
abbrev main_v79 : Ref sig .tc := ⟨.hbm, 222, rfl⟩
abbrev main_v80 : Ref sig .tc := ⟨.hbm, 223, rfl⟩
abbrev main_v81 : Ref sig .tc := ⟨.hbm, 224, rfl⟩
abbrev main_v82_0 : Ref sig .tc := ⟨.hbm, 225, rfl⟩
abbrev main_v82_1 : Ref sig .tc := ⟨.hbm, 226, rfl⟩
abbrev main_v83 : Ref sig .tc := ⟨.hbm, 227, rfl⟩
abbrev main_v84 : Ref sig .tc := ⟨.hbm, 228, rfl⟩
abbrev main_cst_24 : Ref sig .tc := ⟨.hbm, 229, rfl⟩
abbrev main_v85 : Ref sig .tc := ⟨.hbm, 230, rfl⟩
abbrev main_v86 : Ref sig .tc := ⟨.hbm, 231, rfl⟩
abbrev main_v87 : Ref sig .tc := ⟨.hbm, 232, rfl⟩
abbrev main_cst_25 : Ref sig .tc := ⟨.hbm, 233, rfl⟩
abbrev main_v88 : Ref sig .tc := ⟨.hbm, 234, rfl⟩
abbrev main_cst_26 : Ref sig .tc := ⟨.hbm, 235, rfl⟩
abbrev main_v89 : Ref sig .tc := ⟨.hbm, 236, rfl⟩
abbrev main_v90 : Ref sig .tc := ⟨.hbm, 237, rfl⟩
abbrev main_cst_27 : Ref sig .tc := ⟨.hbm, 238, rfl⟩
abbrev main_v91 : Ref sig .tc := ⟨.hbm, 239, rfl⟩
abbrev main_v92 : Ref sig .tc := ⟨.hbm, 240, rfl⟩
abbrev main_v93 : Ref sig .tc := ⟨.hbm, 241, rfl⟩
abbrev main_v94 : Ref sig .tc := ⟨.hbm, 242, rfl⟩
abbrev main_cst_28 : Ref sig .tc := ⟨.hbm, 243, rfl⟩
abbrev main_v95 : Ref sig .tc := ⟨.hbm, 244, rfl⟩
abbrev main_v96 : Ref sig .tc := ⟨.hbm, 245, rfl⟩
abbrev main_v97 : Ref sig .tc := ⟨.hbm, 246, rfl⟩
abbrev main_v98 : Ref sig .tc := ⟨.hbm, 247, rfl⟩
abbrev main_v99 : Ref sig .tc := ⟨.hbm, 248, rfl⟩
abbrev main_v100 : Ref sig .tc := ⟨.hbm, 249, rfl⟩
abbrev main_v101 : Ref sig .tc := ⟨.hbm, 250, rfl⟩
abbrev main_v102 : Ref sig .tc := ⟨.hbm, 251, rfl⟩
abbrev main_v103 : Ref sig .tc := ⟨.hbm, 252, rfl⟩
abbrev main_v104 : Ref sig .tc := ⟨.hbm, 253, rfl⟩
abbrev main_v105_0 : Ref sig .tc := ⟨.hbm, 254, rfl⟩
abbrev main_v105_1 : Ref sig .tc := ⟨.hbm, 255, rfl⟩
abbrev main_v106 : Ref sig .tc := ⟨.hbm, 256, rfl⟩
abbrev main_v107 : Ref sig .tc := ⟨.hbm, 257, rfl⟩
abbrev main_cst_29 : Ref sig .tc := ⟨.hbm, 258, rfl⟩
abbrev main_v108 : Ref sig .tc := ⟨.hbm, 259, rfl⟩
abbrev main_v109 : Ref sig .tc := ⟨.hbm, 260, rfl⟩
abbrev main_v110 : Ref sig .tc := ⟨.hbm, 261, rfl⟩
abbrev main_cst_30 : Ref sig .tc := ⟨.hbm, 262, rfl⟩
abbrev main_v111 : Ref sig .tc := ⟨.hbm, 263, rfl⟩
abbrev main_cst_31 : Ref sig .tc := ⟨.hbm, 264, rfl⟩
abbrev main_v112 : Ref sig .tc := ⟨.hbm, 265, rfl⟩
abbrev main_v113 : Ref sig .tc := ⟨.hbm, 266, rfl⟩
abbrev main_cst_32 : Ref sig .tc := ⟨.hbm, 267, rfl⟩
abbrev main_v114 : Ref sig .tc := ⟨.hbm, 268, rfl⟩
abbrev main_v115 : Ref sig .tc := ⟨.hbm, 269, rfl⟩
abbrev main_v116 : Ref sig .tc := ⟨.hbm, 270, rfl⟩
abbrev main_v117 : Ref sig .tc := ⟨.hbm, 271, rfl⟩
abbrev main_cst_33 : Ref sig .tc := ⟨.hbm, 272, rfl⟩
abbrev main_v118 : Ref sig .tc := ⟨.hbm, 273, rfl⟩
abbrev main_v119 : Ref sig .tc := ⟨.hbm, 274, rfl⟩
abbrev main_v120 : Ref sig .tc := ⟨.hbm, 275, rfl⟩
abbrev main_v121 : Ref sig .tc := ⟨.hbm, 276, rfl⟩
abbrev main_v122 : Ref sig .tc := ⟨.hbm, 277, rfl⟩
abbrev main_v123 : Ref sig .tc := ⟨.hbm, 278, rfl⟩
abbrev main_v124 : Ref sig .tc := ⟨.hbm, 279, rfl⟩
abbrev main_v125 : Ref sig .tc := ⟨.hbm, 280, rfl⟩
abbrev main_v126_0 : Ref sig .tc := ⟨.hbm, 281, rfl⟩
abbrev main_v126_1 : Ref sig .tc := ⟨.hbm, 282, rfl⟩
abbrev main_v127 : Ref sig .tc := ⟨.hbm, 283, rfl⟩
abbrev main_v128 : Ref sig .tc := ⟨.hbm, 284, rfl⟩
abbrev main_cst_34 : Ref sig .tc := ⟨.hbm, 285, rfl⟩
abbrev main_v129 : Ref sig .tc := ⟨.hbm, 286, rfl⟩
abbrev main_v130 : Ref sig .tc := ⟨.hbm, 287, rfl⟩
abbrev main_v131 : Ref sig .tc := ⟨.hbm, 288, rfl⟩
abbrev main_cst_35 : Ref sig .tc := ⟨.hbm, 289, rfl⟩
abbrev main_v132 : Ref sig .tc := ⟨.hbm, 290, rfl⟩
abbrev main_cst_36 : Ref sig .tc := ⟨.hbm, 291, rfl⟩
abbrev main_v133 : Ref sig .tc := ⟨.hbm, 292, rfl⟩
abbrev main_v134 : Ref sig .tc := ⟨.hbm, 293, rfl⟩
abbrev main_cst_37 : Ref sig .tc := ⟨.hbm, 294, rfl⟩
abbrev main_v135 : Ref sig .tc := ⟨.hbm, 295, rfl⟩
abbrev main_v136 : Ref sig .tc := ⟨.hbm, 296, rfl⟩
abbrev main_v137 : Ref sig .tc := ⟨.hbm, 297, rfl⟩
abbrev main_v138 : Ref sig .tc := ⟨.hbm, 298, rfl⟩
abbrev main_cst_38 : Ref sig .tc := ⟨.hbm, 299, rfl⟩
abbrev main_v139 : Ref sig .tc := ⟨.hbm, 300, rfl⟩
abbrev main_v140 : Ref sig .tc := ⟨.hbm, 301, rfl⟩
abbrev main_v141 : Ref sig .tc := ⟨.hbm, 302, rfl⟩
abbrev main_v142 : Ref sig .tc := ⟨.hbm, 303, rfl⟩
abbrev main_v143 : Ref sig .tc := ⟨.hbm, 304, rfl⟩
abbrev main_v144 : Ref sig .tc := ⟨.hbm, 305, rfl⟩
abbrev main_v145 : Ref sig .tc := ⟨.hbm, 306, rfl⟩
abbrev main_v146 : Ref sig .tc := ⟨.hbm, 307, rfl⟩
abbrev main_v147_0 : Ref sig .tc := ⟨.hbm, 308, rfl⟩
abbrev main_v147_1 : Ref sig .tc := ⟨.hbm, 309, rfl⟩
abbrev main_v147_2 : Ref sig .tc := ⟨.hbm, 310, rfl⟩
abbrev main_v148 : Ref sig .tc := ⟨.hbm, 311, rfl⟩
abbrev main_v149 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg7_0 : Ref sig .tc := ⟨.vmem, 47, rfl⟩
abbrev cc5_stg7_1 : Ref sig .tc := ⟨.vmem, 48, rfl⟩
abbrev cc5_stg8_0 : Ref sig .tc := ⟨.vmem, 49, rfl⟩
abbrev cc5_stg8_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg3_1 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg6_0 : Ref sig .tc := ⟨.vmem, 61, rfl⟩
abbrev cc6_stg7_0 : Ref sig .tc := ⟨.vmem, 62, rfl⟩
abbrev cc6_stg8_0 : Ref sig .tc := ⟨.vmem, 63, rfl⟩
abbrev cc6_stg9_0 : Ref sig .tc := ⟨.vmem, 64, rfl⟩
abbrev cc6_stg10_0 : Ref sig .tc := ⟨.vmem, 65, rfl⟩
abbrev cc6_stg10_1 : Ref sig .tc := ⟨.vmem, 66, rfl⟩
abbrev cc6_stg11_0 : Ref sig .tc := ⟨.vmem, 67, rfl⟩
abbrev cc6_stg11_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg3_1 : Ref sig .tc := ⟨.vmem, 74, rfl⟩
abbrev cc7_stg4_0 : Ref sig .tc := ⟨.vmem, 75, rfl⟩
abbrev cc7_stg4_1 : Ref sig .tc := ⟨.vmem, 76, rfl⟩
abbrev cc8_stg0_0 : Ref sig .tc := ⟨.vmem, 77, rfl⟩
abbrev cc8_stg0_1 : Ref sig .tc := ⟨.vmem, 78, rfl⟩
abbrev cc8_stg1_0 : Ref sig .tc := ⟨.vmem, 79, rfl⟩
abbrev cc8_stg2_0 : Ref sig .tc := ⟨.vmem, 80, rfl⟩
abbrev cc8_stg3_0 : Ref sig .tc := ⟨.vmem, 81, rfl⟩
abbrev cc8_stg4_0 : Ref sig .tc := ⟨.vmem, 82, rfl⟩
abbrev cc8_stg5_0 : Ref sig .tc := ⟨.vmem, 83, rfl⟩
abbrev cc8_stg5_1 : Ref sig .tc := ⟨.vmem, 84, rfl⟩
abbrev cc8_stg6_0 : Ref sig .tc := ⟨.vmem, 85, rfl⟩
abbrev cc8_stg6_1 : Ref sig .tc := ⟨.vmem, 86, rfl⟩
abbrev cc8_stg7_0 : Ref sig .tc := ⟨.vmem, 87, rfl⟩
abbrev cc8_stg7_1 : Ref sig .tc := ⟨.vmem, 88, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34
abbrev cc4_sem4_0 : DmaSem sig := 35
abbrev cc4_sem4_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem7_0 : DmaSem sig := 47
abbrev cc5_sem7_1 : DmaSem sig := 48
abbrev cc5_sem8_0 : DmaSem sig := 49
abbrev cc5_sem8_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem2_1 : DmaSem sig := 56
abbrev cc6_sem3_0 : DmaSem sig := 57
abbrev cc6_sem3_1 : DmaSem sig := 58
abbrev cc6_sem4_0 : DmaSem sig := 59
abbrev cc6_sem5_0 : DmaSem sig := 60
abbrev cc6_sem6_0 : DmaSem sig := 61
abbrev cc6_sem7_0 : DmaSem sig := 62
abbrev cc6_sem8_0 : DmaSem sig := 63
abbrev cc6_sem9_0 : DmaSem sig := 64
abbrev cc6_sem10_0 : DmaSem sig := 65
abbrev cc6_sem10_1 : DmaSem sig := 66
abbrev cc6_sem11_0 : DmaSem sig := 67
abbrev cc6_sem11_1 : DmaSem sig := 68
abbrev cc7_sem0_0 : DmaSem sig := 69
abbrev cc7_sem0_1 : DmaSem sig := 70
abbrev cc7_sem1_0 : DmaSem sig := 71
abbrev cc7_sem2_0 : DmaSem sig := 72
abbrev cc7_sem3_0 : DmaSem sig := 73
abbrev cc7_sem3_1 : DmaSem sig := 74
abbrev cc7_sem4_0 : DmaSem sig := 75
abbrev cc7_sem4_1 : DmaSem sig := 76
abbrev cc8_sem0_0 : DmaSem sig := 77
abbrev cc8_sem0_1 : DmaSem sig := 78
abbrev cc8_sem1_0 : DmaSem sig := 79
abbrev cc8_sem2_0 : DmaSem sig := 80
abbrev cc8_sem3_0 : DmaSem sig := 81
abbrev cc8_sem4_0 : DmaSem sig := 82
abbrev cc8_sem5_0 : DmaSem sig := 83
abbrev cc8_sem5_1 : DmaSem sig := 84
abbrev cc8_sem6_0 : DmaSem sig := 85
abbrev cc8_sem6_1 : DmaSem sig := 86
abbrev cc8_sem7_0 : DmaSem sig := 87
abbrev cc8_sem7_1 : DmaSem sig := 88

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x20x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x20x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x20x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x20x1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x20x1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x20x1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1024x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x1024x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x2x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![16], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1024x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1024x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1024x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S4x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S4x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S4x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1024x192 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S1x2x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1x1x1024 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![16], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_11 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1024x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1024x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1024x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x1x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S4x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S4x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S4x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S4x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S512x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S512x192 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S1x1024x512 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 2 → Memref sig .tc .vmem S1x2x512 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev grid7 : Pipeline.Grid := ⟨1, ![16], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1024x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S4x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S256x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1x1024x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1x2x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![16], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_6 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_7 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1024x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S4x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S8x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1x1024x8 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S1x1024x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S1x1024x1024 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]
-- ==== KernelIdeal.lean ====
variable {F : FTy → Type} [FloatOps F] [Named F]
def κ : String → Option EReal := fun
  | "neg" => some ⊥
  | _ => none
-- ==== ReferenceIdeal.lean ====
abbrev S16x6x1024 : Shape := ⟨3, ![16, 6, 1024]⟩
abbrev S64x12 : Shape := ⟨2, ![64, 12]⟩
abbrev S64 : Shape := ⟨1, ![64]⟩
abbrev S64x64 : Shape := ⟨2, ![64, 64]⟩
abbrev S64x128 : Shape := ⟨2, ![64, 128]⟩
abbrev S1024x192 : Shape := ⟨2, ![1024, 192]⟩
abbrev S1024 : Shape := ⟨1, ![1024]⟩
abbrev S512x1216 : Shape := ⟨2, ![512, 1216]⟩
abbrev S512 : Shape := ⟨1, ![512]⟩
abbrev S256x512 : Shape := ⟨2, ![256, 512]⟩
abbrev S256 : Shape := ⟨1, ![256]⟩
abbrev S128x256 : Shape := ⟨2, ![128, 256]⟩
abbrev S1x128 : Shape := ⟨2, ![1, 128]⟩
abbrev S16x1024x6 : Shape := ⟨3, ![16, 1024, 6]⟩
abbrev S16x1024x1024 : Shape := ⟨3, ![16, 1024, 1024]⟩
abbrev S_ : Shape := ⟨0, ![]⟩
abbrev S16x1024 : Shape := ⟨2, ![16, 1024]⟩
abbrev S16x1x1024 : Shape := ⟨3, ![16, 1, 1024]⟩
abbrev S16x1024x1 : Shape := ⟨3, ![16, 1024, 1]⟩
abbrev S16x1024x20 : Shape := ⟨3, ![16, 1024, 20]⟩
abbrev S16 : Shape := ⟨1, ![16]⟩
abbrev S16x1x1 : Shape := ⟨3, ![16, 1, 1]⟩
abbrev S16x1024x20x1 : Shape := ⟨4, ![16, 1024, 20, 1]⟩
abbrev S16x1024x20x2 : Shape := ⟨4, ![16, 1024, 20, 2]⟩
abbrev S16x1024x20x6 : Shape := ⟨4, ![16, 1024, 20, 6]⟩
abbrev S16x1024x1x6 : Shape := ⟨4, ![16, 1024, 1, 6]⟩
abbrev S16x1024x20x12 : Shape := ⟨4, ![16, 1024, 20, 12]⟩
abbrev S16x12x1024x20 : Shape := ⟨4, ![16, 12, 1024, 20]⟩
abbrev S16x1024x20x64 : Shape := ⟨4, ![16, 1024, 20, 64]⟩
abbrev S16x64x1024x20 : Shape := ⟨4, ![16, 64, 1024, 20]⟩
abbrev S1x64x1x1 : Shape := ⟨4, ![1, 64, 1, 1]⟩
abbrev S16x64x1024 : Shape := ⟨3, ![16, 64, 1024]⟩
abbrev S16x64x1024x1 : Shape := ⟨4, ![16, 64, 1024, 1]⟩
abbrev S16x1024x64 : Shape := ⟨3, ![16, 1024, 64]⟩
abbrev S16x1024x1x64 : Shape := ⟨4, ![16, 1024, 1, 64]⟩
abbrev S16x1024x20x128 : Shape := ⟨4, ![16, 1024, 20, 128]⟩
abbrev S16x128x1024x20 : Shape := ⟨4, ![16, 128, 1024, 20]⟩
abbrev S16x192x1024x1 : Shape := ⟨4, ![16, 192, 1024, 1]⟩
abbrev S16x1024x1x1024 : Shape := ⟨4, ![16, 1024, 1, 1024]⟩
abbrev S16x1024x1024x1 : Shape := ⟨4, ![16, 1024, 1024, 1]⟩
abbrev S1x1024x1x1 : Shape := ⟨4, ![1, 1024, 1, 1]⟩
abbrev S16x1024x1x1 : Shape := ⟨4, ![16, 1024, 1, 1]⟩
abbrev S16x1216x1024x1 : Shape := ⟨4, ![16, 1216, 1024, 1]⟩
abbrev S16x1024x1x512 : Shape := ⟨4, ![16, 1024, 1, 512]⟩
abbrev S16x512x1024x1 : Shape := ⟨4, ![16, 512, 1024, 1]⟩
abbrev S1x512x1x1 : Shape := ⟨4, ![1, 512, 1, 1]⟩
abbrev S16x1024x1x256 : Shape := ⟨4, ![16, 1024, 1, 256]⟩
abbrev S16x256x1024x1 : Shape := ⟨4, ![16, 256, 1024, 1]⟩
abbrev S1x256x1x1 : Shape := ⟨4, ![1, 256, 1, 1]⟩
abbrev S16x1024x1x128 : Shape := ⟨4, ![16, 1024, 1, 128]⟩
abbrev S16x128x1024x1 : Shape := ⟨4, ![16, 128, 1024, 1]⟩
abbrev S16x1x1024x1 : Shape := ⟨4, ![16, 1, 1024, 1]⟩
abbrev S16x128x1024 : Shape := ⟨3, ![16, 128, 1024]⟩
abbrev S16x1024x128 : Shape := ⟨3, ![16, 1024, 128]⟩

abbrev nBuf : Space → Nat
  | .hbm => 612
  | .vmem => 0
  | .smem => 0
  | _ => 0

abbrev hbmTy0_0 (i : Nat) : BufTy := match i % 128 with
  | 0 => ⟨S16x6x1024, .f32⟩
  | 1 => ⟨S64x12, .f32⟩
  | 2 => ⟨S64, .f32⟩
  | 3 => ⟨S64, .f32⟩
  | 4 => ⟨S64x64, .f32⟩
  | 5 => ⟨S64, .f32⟩
  | 6 => ⟨S64, .f32⟩
  | 7 => ⟨S64x128, .f32⟩
  | 8 => ⟨S64, .f32⟩
  | 9 => ⟨S64, .f32⟩
  | 10 => ⟨S64x64, .f32⟩
  | 11 => ⟨S64, .f32⟩
  | 12 => ⟨S64, .f32⟩
  | 13 => ⟨S64x128, .f32⟩
  | 14 => ⟨S64, .f32⟩
  | 15 => ⟨S64, .f32⟩
  | 16 => ⟨S1024x192, .f32⟩
  | 17 => ⟨S1024, .f32⟩
  | 18 => ⟨S1024, .f32⟩
  | 19 => ⟨S512x1216, .f32⟩
  | 20 => ⟨S512, .f32⟩
  | 21 => ⟨S512, .f32⟩
  | 22 => ⟨S256x512, .f32⟩
  | 23 => ⟨S256, .f32⟩
  | 24 => ⟨S256, .f32⟩
  | 25 => ⟨S128x256, .f32⟩
  | 26 => ⟨S1x128, .f32⟩
  | 27 => ⟨S128x256, .f32⟩
  | 28 => ⟨S16x1024x6, .f32⟩
  | 29 => ⟨S16x1024x1024, .f32⟩
  | 30 => ⟨S_, .f32⟩
  | 31 => ⟨S16x1024x1024, .f32⟩
  | 32 => ⟨S16x1024x1024, .f32⟩
  | 33 => ⟨S16x6x1024, .f32⟩
  | 34 => ⟨S_, .f32⟩
  | 35 => ⟨S16x1024, .f32⟩
  | 36 => ⟨S16x1x1024, .f32⟩
  | 37 => ⟨S16x1x1024, .f32⟩
  | 38 => ⟨S16x1024x1024, .f32⟩
  | 39 => ⟨S16x1024x1024, .f32⟩
  | 40 => ⟨S16x1024x1, .f32⟩
  | 41 => ⟨S16x1024x1024, .f32⟩
  | 42 => ⟨S16x1024x1024, .f32⟩
  | 43 => ⟨S16x1024x20, .f32⟩
  | 44 => ⟨S16x1024x20, .i32⟩
  | 45 => ⟨S16x1024x1024, .f32⟩
  | 46 => ⟨S16x1024x6, .f32⟩
  | 47 => ⟨S16, .i32⟩
  | 48 => ⟨S16x1x1, .i32⟩
  | 49 => ⟨S_, .i32⟩
  | 50 => ⟨S16x1x1, .i32⟩
  | 51 => ⟨S16x1x1, .i1⟩
  | 52 => ⟨S_, .i32⟩
  | 53 => ⟨S16x1x1, .i32⟩
  | 54 => ⟨S16x1x1, .i32⟩
  | 55 => ⟨S16x1x1, .i32⟩
  | 56 => ⟨S_, .i32⟩
  | 57 => ⟨S16x1024x20, .i32⟩
  | 58 => ⟨S16x1024x20, .i1⟩
  | 59 => ⟨S_, .i32⟩
  | 60 => ⟨S16x1024x20, .i32⟩
  | 61 => ⟨S16x1024x20, .i32⟩
  | 62 => ⟨S16x1024x20, .i32⟩
  | 63 => ⟨S16x1024x20, .i32⟩
  | 64 => ⟨S16x1024x20x1, .i32⟩
  | 65 => ⟨S16x1024x20x1, .i32⟩
  | 66 => ⟨S16x1024x20x2, .i32⟩
  | 67 => ⟨S16x1024x20x6, .f32⟩
  | 68 => ⟨S16x1024x1x6, .f32⟩
  | 69 => ⟨S16x1024x20x6, .f32⟩
  | 70 => ⟨S16x1024x20x6, .f32⟩
  | 71 => ⟨S16x1024x20x12, .f32⟩
  | 72 => ⟨S16x12x1024x20, .f32⟩
  | 73 => ⟨S16x1024x20x64, .f32⟩
  | 74 => ⟨S16x64x1024x20, .f32⟩
  | 75 => ⟨S_, .f32⟩
  | 76 => ⟨S64, .f32⟩
  | 77 => ⟨S1x64x1x1, .f32⟩
  | 78 => ⟨S_, .f32⟩
  | 79 => ⟨S1x64x1x1, .f32⟩
  | 80 => ⟨S1x64x1x1, .f32⟩
  | 81 => ⟨S_, .i32⟩
  | 82 => ⟨S_, .f32⟩
  | 83 => ⟨S64, .f32⟩
  | 84 => ⟨S1x64x1x1, .f32⟩
  | 85 => ⟨S_, .f32⟩
  | 86 => ⟨S1x64x1x1, .f32⟩
  | 87 => ⟨S1x64x1x1, .f32⟩
  | 88 => ⟨S16x64x1024x20, .f32⟩
  | 89 => ⟨S16x64x1024x20, .f32⟩
  | 90 => ⟨S16x64x1024x20, .f32⟩
  | 91 => ⟨S_, .f32⟩
  | 92 => ⟨S_, .f32⟩
  | 93 => ⟨S_, .f32⟩
  | 94 => ⟨S_, .f32⟩
  | 95 => ⟨S64, .f32⟩
  | 96 => ⟨S1x64x1x1, .f32⟩
  | 97 => ⟨S1x64x1x1, .f32⟩
  | 98 => ⟨S1x64x1x1, .f32⟩
  | 99 => ⟨S_, .f32⟩
  | 100 => ⟨S_, .i1⟩
  | 101 => ⟨S_, .f32⟩
  | 102 => ⟨S_, .f32⟩
  | 103 => ⟨S1x64x1x1, .f32⟩
  | 104 => ⟨S1x64x1x1, .f32⟩
  | 105 => ⟨S1x64x1x1, .f32⟩
  | 106 => ⟨S16x64x1024x20, .f32⟩
  | 107 => ⟨S16x64x1024x20, .f32⟩
  | 108 => ⟨S16x64x1024x20, .f32⟩
  | 109 => ⟨S16x64x1024x20, .f32⟩
  | 110 => ⟨S_, .f32⟩
  | 111 => ⟨S1x64x1x1, .f32⟩
  | 112 => ⟨S1x64x1x1, .f32⟩
  | 113 => ⟨S1x64x1x1, .f32⟩
  | 114 => ⟨S16x64x1024x20, .f32⟩
  | 115 => ⟨S16x64x1024x20, .f32⟩
  | 116 => ⟨S1x64x1x1, .f32⟩
  | 117 => ⟨S16x64x1024x20, .f32⟩
  | 118 => ⟨S16x64x1024x20, .f32⟩
  | 119 => ⟨S_, .f32⟩
  | 120 => ⟨S16x64x1024x20, .f32⟩
  | 121 => ⟨S16x64x1024x20, .f32⟩
  | 122 => ⟨S16x1024x20x64, .f32⟩
  | 123 => ⟨S16x64x1024x20, .f32⟩
  | 124 => ⟨S_, .f32⟩
  | 125 => ⟨S64, .f32⟩
  | 126 => ⟨S1x64x1x1, .f32⟩
  | 127 => ⟨S_, .f32⟩
  | _ => ⟨S16x6x1024, .f32⟩

abbrev hbmTy0_1 (i : Nat) : BufTy := match i % 128 with
  | 0 => ⟨S1x64x1x1, .f32⟩
  | 1 => ⟨S1x64x1x1, .f32⟩
  | 2 => ⟨S_, .i32⟩
  | 3 => ⟨S_, .f32⟩
  | 4 => ⟨S64, .f32⟩
  | 5 => ⟨S1x64x1x1, .f32⟩
  | 6 => ⟨S_, .f32⟩
  | 7 => ⟨S1x64x1x1, .f32⟩
  | 8 => ⟨S1x64x1x1, .f32⟩
  | 9 => ⟨S16x64x1024x20, .f32⟩
  | 10 => ⟨S16x64x1024x20, .f32⟩
  | 11 => ⟨S16x64x1024x20, .f32⟩
  | 12 => ⟨S_, .f32⟩
  | 13 => ⟨S_, .f32⟩
  | 14 => ⟨S_, .f32⟩
  | 15 => ⟨S_, .f32⟩
  | 16 => ⟨S64, .f32⟩
  | 17 => ⟨S1x64x1x1, .f32⟩
  | 18 => ⟨S1x64x1x1, .f32⟩
  | 19 => ⟨S1x64x1x1, .f32⟩
  | 20 => ⟨S_, .f32⟩
  | 21 => ⟨S_, .i1⟩
  | 22 => ⟨S_, .f32⟩
  | 23 => ⟨S_, .f32⟩
  | 24 => ⟨S1x64x1x1, .f32⟩
  | 25 => ⟨S1x64x1x1, .f32⟩
  | 26 => ⟨S1x64x1x1, .f32⟩
  | 27 => ⟨S16x64x1024x20, .f32⟩
  | 28 => ⟨S16x64x1024x20, .f32⟩
  | 29 => ⟨S16x64x1024x20, .f32⟩
  | 30 => ⟨S16x64x1024x20, .f32⟩
  | 31 => ⟨S_, .f32⟩
  | 32 => ⟨S1x64x1x1, .f32⟩
  | 33 => ⟨S1x64x1x1, .f32⟩
  | 34 => ⟨S1x64x1x1, .f32⟩
  | 35 => ⟨S16x64x1024x20, .f32⟩
  | 36 => ⟨S16x64x1024x20, .f32⟩
  | 37 => ⟨S1x64x1x1, .f32⟩
  | 38 => ⟨S16x64x1024x20, .f32⟩
  | 39 => ⟨S16x64x1024x20, .f32⟩
  | 40 => ⟨S_, .f32⟩
  | 41 => ⟨S16x64x1024x20, .f32⟩
  | 42 => ⟨S16x64x1024x20, .f32⟩
  | 43 => ⟨S_, .f32⟩
  | 44 => ⟨S16x64x1024, .f32⟩
  | 45 => ⟨S16x64x1024x1, .f32⟩
  | 46 => ⟨S16x64x1024, .f32⟩
  | 47 => ⟨S16x1024x64, .f32⟩
  | 48 => ⟨S16x1024x1024, .f32⟩
  | 49 => ⟨S_, .f32⟩
  | 50 => ⟨S16x1024x1024, .f32⟩
  | 51 => ⟨S16x1024x1024, .f32⟩
  | 52 => ⟨S16x64x1024, .f32⟩
  | 53 => ⟨S_, .f32⟩
  | 54 => ⟨S16x1024, .f32⟩
  | 55 => ⟨S16x1x1024, .f32⟩
  | 56 => ⟨S16x1x1024, .f32⟩
  | 57 => ⟨S16x1024x1024, .f32⟩
  | 58 => ⟨S16x1024x1024, .f32⟩
  | 59 => ⟨S16x1024x1, .f32⟩
  | 60 => ⟨S16x1024x1024, .f32⟩
  | 61 => ⟨S16x1024x1024, .f32⟩
  | 62 => ⟨S16x1024x20, .f32⟩
  | 63 => ⟨S16x1024x20, .i32⟩
  | 64 => ⟨S16x1024x1024, .f32⟩
  | 65 => ⟨S16x1024x64, .f32⟩
  | 66 => ⟨S16, .i32⟩
  | 67 => ⟨S16x1x1, .i32⟩
  | 68 => ⟨S_, .i32⟩
  | 69 => ⟨S16x1x1, .i32⟩
  | 70 => ⟨S16x1x1, .i1⟩
  | 71 => ⟨S_, .i32⟩
  | 72 => ⟨S16x1x1, .i32⟩
  | 73 => ⟨S16x1x1, .i32⟩
  | 74 => ⟨S16x1x1, .i32⟩
  | 75 => ⟨S_, .i32⟩
  | 76 => ⟨S16x1024x20, .i32⟩
  | 77 => ⟨S16x1024x20, .i1⟩
  | 78 => ⟨S_, .i32⟩
  | 79 => ⟨S16x1024x20, .i32⟩
  | 80 => ⟨S16x1024x20, .i32⟩
  | 81 => ⟨S16x1024x20, .i32⟩
  | 82 => ⟨S16x1024x20, .i32⟩
  | 83 => ⟨S16x1024x20x1, .i32⟩
  | 84 => ⟨S16x1024x20x1, .i32⟩
  | 85 => ⟨S16x1024x20x2, .i32⟩
  | 86 => ⟨S16x1024x20x64, .f32⟩
  | 87 => ⟨S16x1024x1x64, .f32⟩
  | 88 => ⟨S16x1024x20x64, .f32⟩
  | 89 => ⟨S16x1024x20x64, .f32⟩
  | 90 => ⟨S16x1024x20x128, .f32⟩
  | 91 => ⟨S16x128x1024x20, .f32⟩
  | 92 => ⟨S16x1024x20x64, .f32⟩
  | 93 => ⟨S16x64x1024x20, .f32⟩
  | 94 => ⟨S_, .f32⟩
  | 95 => ⟨S64, .f32⟩
  | 96 => ⟨S1x64x1x1, .f32⟩
  | 97 => ⟨S_, .f32⟩
  | 98 => ⟨S1x64x1x1, .f32⟩
  | 99 => ⟨S1x64x1x1, .f32⟩
  | 100 => ⟨S_, .i32⟩
  | 101 => ⟨S_, .f32⟩
  | 102 => ⟨S64, .f32⟩
  | 103 => ⟨S1x64x1x1, .f32⟩
  | 104 => ⟨S_, .f32⟩
  | 105 => ⟨S1x64x1x1, .f32⟩
  | 106 => ⟨S1x64x1x1, .f32⟩
  | 107 => ⟨S16x64x1024x20, .f32⟩
  | 108 => ⟨S16x64x1024x20, .f32⟩
  | 109 => ⟨S16x64x1024x20, .f32⟩
  | 110 => ⟨S_, .f32⟩
  | 111 => ⟨S_, .f32⟩
  | 112 => ⟨S_, .f32⟩
  | 113 => ⟨S_, .f32⟩
  | 114 => ⟨S64, .f32⟩
  | 115 => ⟨S1x64x1x1, .f32⟩
  | 116 => ⟨S1x64x1x1, .f32⟩
  | 117 => ⟨S1x64x1x1, .f32⟩
  | 118 => ⟨S_, .f32⟩
  | 119 => ⟨S_, .i1⟩
  | 120 => ⟨S_, .f32⟩
  | 121 => ⟨S_, .f32⟩
  | 122 => ⟨S1x64x1x1, .f32⟩
  | 123 => ⟨S1x64x1x1, .f32⟩
  | 124 => ⟨S1x64x1x1, .f32⟩
  | 125 => ⟨S16x64x1024x20, .f32⟩
  | 126 => ⟨S16x64x1024x20, .f32⟩
  | 127 => ⟨S16x64x1024x20, .f32⟩
  | _ => ⟨S16x6x1024, .f32⟩

abbrev hbmTy0_2 (i : Nat) : BufTy := match i % 128 with
  | 0 => ⟨S16x64x1024x20, .f32⟩
  | 1 => ⟨S_, .f32⟩
  | 2 => ⟨S1x64x1x1, .f32⟩
  | 3 => ⟨S1x64x1x1, .f32⟩
  | 4 => ⟨S1x64x1x1, .f32⟩
  | 5 => ⟨S16x64x1024x20, .f32⟩
  | 6 => ⟨S16x64x1024x20, .f32⟩
  | 7 => ⟨S1x64x1x1, .f32⟩
  | 8 => ⟨S16x64x1024x20, .f32⟩
  | 9 => ⟨S16x64x1024x20, .f32⟩
  | 10 => ⟨S_, .f32⟩
  | 11 => ⟨S16x64x1024x20, .f32⟩
  | 12 => ⟨S16x64x1024x20, .f32⟩
  | 13 => ⟨S16x1024x20x64, .f32⟩
  | 14 => ⟨S16x64x1024x20, .f32⟩
  | 15 => ⟨S_, .f32⟩
  | 16 => ⟨S64, .f32⟩
  | 17 => ⟨S1x64x1x1, .f32⟩
  | 18 => ⟨S_, .f32⟩
  | 19 => ⟨S1x64x1x1, .f32⟩
  | 20 => ⟨S1x64x1x1, .f32⟩
  | 21 => ⟨S_, .i32⟩
  | 22 => ⟨S_, .f32⟩
  | 23 => ⟨S64, .f32⟩
  | 24 => ⟨S1x64x1x1, .f32⟩
  | 25 => ⟨S_, .f32⟩
  | 26 => ⟨S1x64x1x1, .f32⟩
  | 27 => ⟨S1x64x1x1, .f32⟩
  | 28 => ⟨S16x64x1024x20, .f32⟩
  | 29 => ⟨S16x64x1024x20, .f32⟩
  | 30 => ⟨S16x64x1024x20, .f32⟩
  | 31 => ⟨S_, .f32⟩
  | 32 => ⟨S_, .f32⟩
  | 33 => ⟨S_, .f32⟩
  | 34 => ⟨S_, .f32⟩
  | 35 => ⟨S64, .f32⟩
  | 36 => ⟨S1x64x1x1, .f32⟩
  | 37 => ⟨S1x64x1x1, .f32⟩
  | 38 => ⟨S1x64x1x1, .f32⟩
  | 39 => ⟨S_, .f32⟩
  | 40 => ⟨S_, .i1⟩
  | 41 => ⟨S_, .f32⟩
  | 42 => ⟨S_, .f32⟩
  | 43 => ⟨S1x64x1x1, .f32⟩
  | 44 => ⟨S1x64x1x1, .f32⟩
  | 45 => ⟨S1x64x1x1, .f32⟩
  | 46 => ⟨S16x64x1024x20, .f32⟩
  | 47 => ⟨S16x64x1024x20, .f32⟩
  | 48 => ⟨S16x64x1024x20, .f32⟩
  | 49 => ⟨S16x64x1024x20, .f32⟩
  | 50 => ⟨S_, .f32⟩
  | 51 => ⟨S1x64x1x1, .f32⟩
  | 52 => ⟨S1x64x1x1, .f32⟩
  | 53 => ⟨S1x64x1x1, .f32⟩
  | 54 => ⟨S16x64x1024x20, .f32⟩
  | 55 => ⟨S16x64x1024x20, .f32⟩
  | 56 => ⟨S1x64x1x1, .f32⟩
  | 57 => ⟨S16x64x1024x20, .f32⟩
  | 58 => ⟨S16x64x1024x20, .f32⟩
  | 59 => ⟨S_, .f32⟩
  | 60 => ⟨S16x64x1024x20, .f32⟩
  | 61 => ⟨S16x64x1024x20, .f32⟩
  | 62 => ⟨S_, .f32⟩
  | 63 => ⟨S16x64x1024, .f32⟩
  | 64 => ⟨S16x64x1024x1, .f32⟩
  | 65 => ⟨S16x64x1024, .f32⟩
  | 66 => ⟨S16x1024x64, .f32⟩
  | 67 => ⟨S16x1024x1024, .f32⟩
  | 68 => ⟨S_, .f32⟩
  | 69 => ⟨S16x1024x1024, .f32⟩
  | 70 => ⟨S16x1024x1024, .f32⟩
  | 71 => ⟨S16x64x1024, .f32⟩
  | 72 => ⟨S_, .f32⟩
  | 73 => ⟨S16x1024, .f32⟩
  | 74 => ⟨S16x1x1024, .f32⟩
  | 75 => ⟨S16x1x1024, .f32⟩
  | 76 => ⟨S16x1024x1024, .f32⟩
  | 77 => ⟨S16x1024x1024, .f32⟩
  | 78 => ⟨S16x1024x1, .f32⟩
  | 79 => ⟨S16x1024x1024, .f32⟩
  | 80 => ⟨S16x1024x1024, .f32⟩
  | 81 => ⟨S16x1024x20, .f32⟩
  | 82 => ⟨S16x1024x20, .i32⟩
  | 83 => ⟨S16x1024x1024, .f32⟩
  | 84 => ⟨S16x1024x64, .f32⟩
  | 85 => ⟨S16, .i32⟩
  | 86 => ⟨S16x1x1, .i32⟩
  | 87 => ⟨S_, .i32⟩
  | 88 => ⟨S16x1x1, .i32⟩
  | 89 => ⟨S16x1x1, .i1⟩
  | 90 => ⟨S_, .i32⟩
  | 91 => ⟨S16x1x1, .i32⟩
  | 92 => ⟨S16x1x1, .i32⟩
  | 93 => ⟨S16x1x1, .i32⟩
  | 94 => ⟨S_, .i32⟩
  | 95 => ⟨S16x1024x20, .i32⟩
  | 96 => ⟨S16x1024x20, .i1⟩
  | 97 => ⟨S_, .i32⟩
  | 98 => ⟨S16x1024x20, .i32⟩
  | 99 => ⟨S16x1024x20, .i32⟩
  | 100 => ⟨S16x1024x20, .i32⟩
  | 101 => ⟨S16x1024x20, .i32⟩
  | 102 => ⟨S16x1024x20x1, .i32⟩
  | 103 => ⟨S16x1024x20x1, .i32⟩
  | 104 => ⟨S16x1024x20x2, .i32⟩
  | 105 => ⟨S16x1024x20x64, .f32⟩
  | 106 => ⟨S16x1024x1x64, .f32⟩
  | 107 => ⟨S16x1024x20x64, .f32⟩
  | 108 => ⟨S16x1024x20x64, .f32⟩
  | 109 => ⟨S16x1024x20x128, .f32⟩
  | 110 => ⟨S16x128x1024x20, .f32⟩
  | 111 => ⟨S16x1024x20x64, .f32⟩
  | 112 => ⟨S16x64x1024x20, .f32⟩
  | 113 => ⟨S_, .f32⟩
  | 114 => ⟨S64, .f32⟩
  | 115 => ⟨S1x64x1x1, .f32⟩
  | 116 => ⟨S_, .f32⟩
  | 117 => ⟨S1x64x1x1, .f32⟩
  | 118 => ⟨S1x64x1x1, .f32⟩
  | 119 => ⟨S_, .i32⟩
  | 120 => ⟨S_, .f32⟩
  | 121 => ⟨S64, .f32⟩
  | 122 => ⟨S1x64x1x1, .f32⟩
  | 123 => ⟨S_, .f32⟩
  | 124 => ⟨S1x64x1x1, .f32⟩
  | 125 => ⟨S1x64x1x1, .f32⟩
  | 126 => ⟨S16x64x1024x20, .f32⟩
  | 127 => ⟨S16x64x1024x20, .f32⟩
  | _ => ⟨S16x6x1024, .f32⟩

abbrev hbmTy0_3 (i : Nat) : BufTy := match i % 128 with
  | 0 => ⟨S16x64x1024x20, .f32⟩
  | 1 => ⟨S_, .f32⟩
  | 2 => ⟨S_, .f32⟩
  | 3 => ⟨S_, .f32⟩
  | 4 => ⟨S_, .f32⟩
  | 5 => ⟨S64, .f32⟩
  | 6 => ⟨S1x64x1x1, .f32⟩
  | 7 => ⟨S1x64x1x1, .f32⟩
  | 8 => ⟨S1x64x1x1, .f32⟩
  | 9 => ⟨S_, .f32⟩
  | 10 => ⟨S_, .i1⟩
  | 11 => ⟨S_, .f32⟩
  | 12 => ⟨S_, .f32⟩
  | 13 => ⟨S1x64x1x1, .f32⟩
  | 14 => ⟨S1x64x1x1, .f32⟩
  | 15 => ⟨S1x64x1x1, .f32⟩
  | 16 => ⟨S16x64x1024x20, .f32⟩
  | 17 => ⟨S16x64x1024x20, .f32⟩
  | 18 => ⟨S16x64x1024x20, .f32⟩
  | 19 => ⟨S16x64x1024x20, .f32⟩
  | 20 => ⟨S_, .f32⟩
  | 21 => ⟨S1x64x1x1, .f32⟩
  | 22 => ⟨S1x64x1x1, .f32⟩
  | 23 => ⟨S1x64x1x1, .f32⟩
  | 24 => ⟨S16x64x1024x20, .f32⟩
  | 25 => ⟨S16x64x1024x20, .f32⟩
  | 26 => ⟨S1x64x1x1, .f32⟩
  | 27 => ⟨S16x64x1024x20, .f32⟩
  | 28 => ⟨S16x64x1024x20, .f32⟩
  | 29 => ⟨S_, .f32⟩
  | 30 => ⟨S16x64x1024x20, .f32⟩
  | 31 => ⟨S16x64x1024x20, .f32⟩
  | 32 => ⟨S_, .f32⟩
  | 33 => ⟨S16x64x1024, .f32⟩
  | 34 => ⟨S16x64x1024x1, .f32⟩
  | 35 => ⟨S16x192x1024x1, .f32⟩
  | 36 => ⟨S16x1024x1x1024, .f32⟩
  | 37 => ⟨S16x1024x1024x1, .f32⟩
  | 38 => ⟨S_, .f32⟩
  | 39 => ⟨S1024, .f32⟩
  | 40 => ⟨S1x1024x1x1, .f32⟩
  | 41 => ⟨S_, .f32⟩
  | 42 => ⟨S1x1024x1x1, .f32⟩
  | 43 => ⟨S1x1024x1x1, .f32⟩
  | 44 => ⟨S_, .i32⟩
  | 45 => ⟨S_, .f32⟩
  | 46 => ⟨S1024, .f32⟩
  | 47 => ⟨S1x1024x1x1, .f32⟩
  | 48 => ⟨S_, .f32⟩
  | 49 => ⟨S1x1024x1x1, .f32⟩
  | 50 => ⟨S1x1024x1x1, .f32⟩
  | 51 => ⟨S16x1024x1024x1, .f32⟩
  | 52 => ⟨S16x1024x1024x1, .f32⟩
  | 53 => ⟨S16x1024x1024x1, .f32⟩
  | 54 => ⟨S_, .f32⟩
  | 55 => ⟨S_, .f32⟩
  | 56 => ⟨S_, .f32⟩
  | 57 => ⟨S_, .f32⟩
  | 58 => ⟨S1024, .f32⟩
  | 59 => ⟨S1x1024x1x1, .f32⟩
  | 60 => ⟨S1x1024x1x1, .f32⟩
  | 61 => ⟨S1x1024x1x1, .f32⟩
  | 62 => ⟨S_, .f32⟩
  | 63 => ⟨S_, .i1⟩
  | 64 => ⟨S_, .f32⟩
  | 65 => ⟨S_, .f32⟩
  | 66 => ⟨S1x1024x1x1, .f32⟩
  | 67 => ⟨S1x1024x1x1, .f32⟩
  | 68 => ⟨S1x1024x1x1, .f32⟩
  | 69 => ⟨S16x1024x1024x1, .f32⟩
  | 70 => ⟨S16x1024x1024x1, .f32⟩
  | 71 => ⟨S16x1024x1024x1, .f32⟩
  | 72 => ⟨S16x1024x1024x1, .f32⟩
  | 73 => ⟨S_, .f32⟩
  | 74 => ⟨S1x1024x1x1, .f32⟩
  | 75 => ⟨S1x1024x1x1, .f32⟩
  | 76 => ⟨S1x1024x1x1, .f32⟩
  | 77 => ⟨S16x1024x1024x1, .f32⟩
  | 78 => ⟨S16x1024x1024x1, .f32⟩
  | 79 => ⟨S1x1024x1x1, .f32⟩
  | 80 => ⟨S16x1024x1024x1, .f32⟩
  | 81 => ⟨S16x1024x1024x1, .f32⟩
  | 82 => ⟨S_, .f32⟩
  | 83 => ⟨S16x1024x1024x1, .f32⟩
  | 84 => ⟨S16x1024x1024x1, .f32⟩
  | 85 => ⟨S_, .f32⟩
  | 86 => ⟨S16x1024x1, .f32⟩
  | 87 => ⟨S16x1024x1x1, .f32⟩
  | 88 => ⟨S16x1024x1024x1, .f32⟩
  | 89 => ⟨S16x1216x1024x1, .f32⟩
  | 90 => ⟨S16x1024x1x512, .f32⟩
  | 91 => ⟨S16x512x1024x1, .f32⟩
  | 92 => ⟨S_, .f32⟩
  | 93 => ⟨S512, .f32⟩
  | 94 => ⟨S1x512x1x1, .f32⟩
  | 95 => ⟨S_, .f32⟩
  | 96 => ⟨S1x512x1x1, .f32⟩
  | 97 => ⟨S1x512x1x1, .f32⟩
  | 98 => ⟨S_, .i32⟩
  | 99 => ⟨S_, .f32⟩
  | 100 => ⟨S512, .f32⟩
  | 101 => ⟨S1x512x1x1, .f32⟩
  | 102 => ⟨S_, .f32⟩
  | 103 => ⟨S1x512x1x1, .f32⟩
  | 104 => ⟨S1x512x1x1, .f32⟩
  | 105 => ⟨S16x512x1024x1, .f32⟩
  | 106 => ⟨S16x512x1024x1, .f32⟩
  | 107 => ⟨S16x512x1024x1, .f32⟩
  | 108 => ⟨S_, .f32⟩
  | 109 => ⟨S_, .f32⟩
  | 110 => ⟨S_, .f32⟩
  | 111 => ⟨S_, .f32⟩
  | 112 => ⟨S512, .f32⟩
  | 113 => ⟨S1x512x1x1, .f32⟩
  | 114 => ⟨S1x512x1x1, .f32⟩
  | 115 => ⟨S1x512x1x1, .f32⟩
  | 116 => ⟨S_, .f32⟩
  | 117 => ⟨S_, .i1⟩
  | 118 => ⟨S_, .f32⟩
  | 119 => ⟨S_, .f32⟩
  | 120 => ⟨S1x512x1x1, .f32⟩
  | 121 => ⟨S1x512x1x1, .f32⟩
  | 122 => ⟨S1x512x1x1, .f32⟩
  | 123 => ⟨S16x512x1024x1, .f32⟩
  | 124 => ⟨S16x512x1024x1, .f32⟩
  | 125 => ⟨S16x512x1024x1, .f32⟩
  | 126 => ⟨S16x512x1024x1, .f32⟩
  | 127 => ⟨S_, .f32⟩
  | _ => ⟨S16x6x1024, .f32⟩

abbrev hbmTy0_4 (i : Nat) : BufTy := match i % 128 with
  | 0 => ⟨S1x512x1x1, .f32⟩
  | 1 => ⟨S1x512x1x1, .f32⟩
  | 2 => ⟨S1x512x1x1, .f32⟩
  | 3 => ⟨S16x512x1024x1, .f32⟩
  | 4 => ⟨S16x512x1024x1, .f32⟩
  | 5 => ⟨S1x512x1x1, .f32⟩
  | 6 => ⟨S16x512x1024x1, .f32⟩
  | 7 => ⟨S16x512x1024x1, .f32⟩
  | 8 => ⟨S_, .f32⟩
  | 9 => ⟨S16x512x1024x1, .f32⟩
  | 10 => ⟨S16x512x1024x1, .f32⟩
  | 11 => ⟨S16x1024x1x256, .f32⟩
  | 12 => ⟨S16x256x1024x1, .f32⟩
  | 13 => ⟨S_, .f32⟩
  | 14 => ⟨S256, .f32⟩
  | 15 => ⟨S1x256x1x1, .f32⟩
  | 16 => ⟨S_, .f32⟩
  | 17 => ⟨S1x256x1x1, .f32⟩
  | 18 => ⟨S1x256x1x1, .f32⟩
  | 19 => ⟨S_, .i32⟩
  | 20 => ⟨S_, .f32⟩
  | 21 => ⟨S256, .f32⟩
  | 22 => ⟨S1x256x1x1, .f32⟩
  | 23 => ⟨S_, .f32⟩
  | 24 => ⟨S1x256x1x1, .f32⟩
  | 25 => ⟨S1x256x1x1, .f32⟩
  | 26 => ⟨S16x256x1024x1, .f32⟩
  | 27 => ⟨S16x256x1024x1, .f32⟩
  | 28 => ⟨S16x256x1024x1, .f32⟩
  | 29 => ⟨S_, .f32⟩
  | 30 => ⟨S_, .f32⟩
  | 31 => ⟨S_, .f32⟩
  | 32 => ⟨S_, .f32⟩
  | 33 => ⟨S256, .f32⟩
  | 34 => ⟨S1x256x1x1, .f32⟩
  | 35 => ⟨S1x256x1x1, .f32⟩
  | 36 => ⟨S1x256x1x1, .f32⟩
  | 37 => ⟨S_, .f32⟩
  | 38 => ⟨S_, .i1⟩
  | 39 => ⟨S_, .f32⟩
  | 40 => ⟨S_, .f32⟩
  | 41 => ⟨S1x256x1x1, .f32⟩
  | 42 => ⟨S1x256x1x1, .f32⟩
  | 43 => ⟨S1x256x1x1, .f32⟩
  | 44 => ⟨S16x256x1024x1, .f32⟩
  | 45 => ⟨S16x256x1024x1, .f32⟩
  | 46 => ⟨S16x256x1024x1, .f32⟩
  | 47 => ⟨S16x256x1024x1, .f32⟩
  | 48 => ⟨S_, .f32⟩
  | 49 => ⟨S1x256x1x1, .f32⟩
  | 50 => ⟨S1x256x1x1, .f32⟩
  | 51 => ⟨S1x256x1x1, .f32⟩
  | 52 => ⟨S16x256x1024x1, .f32⟩
  | 53 => ⟨S16x256x1024x1, .f32⟩
  | 54 => ⟨S1x256x1x1, .f32⟩
  | 55 => ⟨S16x256x1024x1, .f32⟩
  | 56 => ⟨S16x256x1024x1, .f32⟩
  | 57 => ⟨S_, .f32⟩
  | 58 => ⟨S16x256x1024x1, .f32⟩
  | 59 => ⟨S16x256x1024x1, .f32⟩
  | 60 => ⟨S16x1024x1x128, .f32⟩
  | 61 => ⟨S16x128x1024x1, .f32⟩
  | 62 => ⟨S_, .f32⟩
  | 63 => ⟨S16x128x1024x1, .f32⟩
  | 64 => ⟨S16x128x1024x1, .f32⟩
  | 65 => ⟨S16x1024x1x1, .f32⟩
  | 66 => ⟨S16x1x1024x1, .f32⟩
  | 67 => ⟨S16x1024, .f32⟩
  | 68 => ⟨S16x1024, .f32⟩
  | 69 => ⟨S16x1024, .f32⟩
  | 70 => ⟨S_, .f32⟩
  | 71 => ⟨S16x1024, .f32⟩
  | 72 => ⟨S16x1024, .f32⟩
  | 73 => ⟨S_, .f32⟩
  | 74 => ⟨S16x1024, .f32⟩
  | 75 => ⟨S16x1024, .f32⟩
  | 76 => ⟨S16x1024x1x128, .f32⟩
  | 77 => ⟨S16x128x1024x1, .f32⟩
  | 78 => ⟨S_, .f32⟩
  | 79 => ⟨S16x128x1024x1, .f32⟩
  | 80 => ⟨S16x128x1024x1, .f32⟩
  | 81 => ⟨S16x128x1024, .f32⟩
  | 82 => ⟨S16x1024x128, .f32⟩
  | 83 => ⟨S16x1024x128, .f32⟩
  | 84 => ⟨S_, .f32⟩
  | 85 => ⟨S16x1024, .f32⟩
  | 86 => ⟨S16x1024x1, .f32⟩
  | 87 => ⟨S16x128x1024, .f32⟩
  | 88 => ⟨S16x1024x1024, .f32⟩
  | 89 => ⟨S_, .f32⟩
  | 90 => ⟨S16x1024x1024, .f32⟩
  | 91 => ⟨S16x1024x1024, .f32⟩
  | 92 => ⟨S16x1024x1024, .f32⟩
  | 93 => ⟨S16x1024x1024, .f32⟩
  | 94 => ⟨S16x1x1024, .f32⟩
  | 95 => ⟨S16x1024x1024, .f32⟩
  | 96 => ⟨S16x1024x1024, .f32⟩
  | 97 => ⟨S_, .f32⟩
  | 98 => ⟨S16x1024x1024, .f32⟩
  | 99 => ⟨S16x1024x1024, .f32⟩
  | _ => ⟨S16x6x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x6x1024, .f32⟩

abbrev bufTy : (tb : Table) → Fin (tcTables nBuf tb) → BufTy
  | .hbm, ⟨i, _⟩ => hbmTy i
  | _, _ => ⟨S16x6x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_values : Ref sig .tc := ⟨.hbm, 43, rfl⟩
abbrev main_indices : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_1 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_c_2 : Ref sig .tc := ⟨.hbm, 56, rfl⟩
abbrev main_v22 : Ref sig .tc := ⟨.hbm, 57, rfl⟩
abbrev main_v23 : Ref sig .tc := ⟨.hbm, 58, rfl⟩
abbrev main_c_3 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_4 : Ref sig .tc := ⟨.hbm, 75, rfl⟩
abbrev main_v39 : Ref sig .tc := ⟨.hbm, 76, rfl⟩
abbrev main_v40 : Ref sig .tc := ⟨.hbm, 77, rfl⟩
abbrev main_cst_5 : Ref sig .tc := ⟨.hbm, 78, rfl⟩
abbrev main_v41 : Ref sig .tc := ⟨.hbm, 79, rfl⟩
abbrev main_v42 : Ref sig .tc := ⟨.hbm, 80, rfl⟩
abbrev main_c_6 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_cst_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_cst_1 : Ref sig .tc := ⟨.hbm, 92, rfl⟩
abbrev main_call0_v8 : Ref sig .tc := ⟨.hbm, 93, rfl⟩
abbrev main_call0_cst_2 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_v12 : Ref sig .tc := ⟨.hbm, 98, rfl⟩
abbrev main_call0_cst_3 : Ref sig .tc := ⟨.hbm, 99, rfl⟩
abbrev main_call0_v13 : Ref sig .tc := ⟨.hbm, 100, rfl⟩
abbrev main_call0_cst_4 : Ref sig .tc := ⟨.hbm, 101, rfl⟩
abbrev main_call0_call0_v0 : Ref sig .tc := ⟨.hbm, 102, rfl⟩
abbrev main_call0_call0_v1 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_cst_7 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_call1_cst : Ref sig .tc := ⟨.hbm, 119, rfl⟩
abbrev main_call1_v0 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_cst_8 : Ref sig .tc := ⟨.hbm, 124, rfl⟩
abbrev main_v60 : Ref sig .tc := ⟨.hbm, 125, rfl⟩
abbrev main_v61 : Ref sig .tc := ⟨.hbm, 126, rfl⟩
abbrev main_cst_9 : Ref sig .tc := ⟨.hbm, 127, rfl⟩
abbrev main_v62 : Ref sig .tc := ⟨.hbm, 128, rfl⟩
abbrev main_v63 : Ref sig .tc := ⟨.hbm, 129, rfl⟩
abbrev main_c_10 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_cst_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_v6 : Ref sig .tc := ⟨.hbm, 139, rfl⟩
abbrev main_call2_v7 : Ref sig .tc := ⟨.hbm, 140, rfl⟩
abbrev main_call2_cst_1 : Ref sig .tc := ⟨.hbm, 141, rfl⟩
abbrev main_call2_v8 : Ref sig .tc := ⟨.hbm, 142, rfl⟩
abbrev main_call2_cst_2 : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_v12 : Ref sig .tc := ⟨.hbm, 147, rfl⟩
abbrev main_call2_cst_3 : Ref sig .tc := ⟨.hbm, 148, rfl⟩
abbrev main_call2_v13 : Ref sig .tc := ⟨.hbm, 149, rfl⟩
abbrev main_call2_cst_4 : Ref sig .tc := ⟨.hbm, 150, rfl⟩
abbrev main_call2_call0_v0 : Ref sig .tc := ⟨.hbm, 151, rfl⟩
abbrev main_call2_call0_v1 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_cst_11 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_call3_cst : Ref sig .tc := ⟨.hbm, 168, rfl⟩
abbrev main_call3_v0 : Ref sig .tc := ⟨.hbm, 169, rfl⟩
abbrev main_v78 : Ref sig .tc := ⟨.hbm, 170, rfl⟩
abbrev main_cst_12 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_cst_13 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_cst_14 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_values_15 : Ref sig .tc := ⟨.hbm, 190, rfl⟩
abbrev main_indices_16 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_c_17 : Ref sig .tc := ⟨.hbm, 196, rfl⟩
abbrev main_v99 : Ref sig .tc := ⟨.hbm, 197, rfl⟩
abbrev main_v100 : Ref sig .tc := ⟨.hbm, 198, rfl⟩
abbrev main_c_18 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_c_19 : Ref sig .tc := ⟨.hbm, 203, rfl⟩
abbrev main_v104 : Ref sig .tc := ⟨.hbm, 204, rfl⟩
abbrev main_v105 : Ref sig .tc := ⟨.hbm, 205, rfl⟩
abbrev main_c_20 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_cst_21 : Ref sig .tc := ⟨.hbm, 222, rfl⟩
abbrev main_v121 : Ref sig .tc := ⟨.hbm, 223, rfl⟩
abbrev main_v122 : Ref sig .tc := ⟨.hbm, 224, rfl⟩
abbrev main_cst_22 : Ref sig .tc := ⟨.hbm, 225, rfl⟩
abbrev main_v123 : Ref sig .tc := ⟨.hbm, 226, rfl⟩
abbrev main_v124 : Ref sig .tc := ⟨.hbm, 227, rfl⟩
abbrev main_c_23 : Ref sig .tc := ⟨.hbm, 228, rfl⟩
abbrev main_call4_cst : Ref sig .tc := ⟨.hbm, 229, rfl⟩
abbrev main_call4_v0 : Ref sig .tc := ⟨.hbm, 230, rfl⟩
abbrev main_call4_v1 : Ref sig .tc := ⟨.hbm, 231, rfl⟩
abbrev main_call4_cst_0 : Ref sig .tc := ⟨.hbm, 232, rfl⟩
abbrev main_call4_v2 : Ref sig .tc := ⟨.hbm, 233, rfl⟩
abbrev main_call4_v3 : Ref sig .tc := ⟨.hbm, 234, rfl⟩
abbrev main_call4_v4 : Ref sig .tc := ⟨.hbm, 235, rfl⟩
abbrev main_call4_v5 : Ref sig .tc := ⟨.hbm, 236, rfl⟩
abbrev main_call4_v6 : Ref sig .tc := ⟨.hbm, 237, rfl⟩
abbrev main_call4_v7 : Ref sig .tc := ⟨.hbm, 238, rfl⟩
abbrev main_call4_cst_1 : Ref sig .tc := ⟨.hbm, 239, rfl⟩
abbrev main_call4_v8 : Ref sig .tc := ⟨.hbm, 240, rfl⟩
abbrev main_call4_cst_2 : Ref sig .tc := ⟨.hbm, 241, rfl⟩
abbrev main_call4_v9 : Ref sig .tc := ⟨.hbm, 242, rfl⟩
abbrev main_call4_v10 : Ref sig .tc := ⟨.hbm, 243, rfl⟩
abbrev main_call4_v11 : Ref sig .tc := ⟨.hbm, 244, rfl⟩
abbrev main_call4_v12 : Ref sig .tc := ⟨.hbm, 245, rfl⟩
abbrev main_call4_cst_3 : Ref sig .tc := ⟨.hbm, 246, rfl⟩
abbrev main_call4_v13 : Ref sig .tc := ⟨.hbm, 247, rfl⟩
abbrev main_call4_cst_4 : Ref sig .tc := ⟨.hbm, 248, rfl⟩
abbrev main_call4_call0_v0 : Ref sig .tc := ⟨.hbm, 249, rfl⟩
abbrev main_call4_call0_v1 : Ref sig .tc := ⟨.hbm, 250, rfl⟩
abbrev main_v125 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_v130 : Ref sig .tc := ⟨.hbm, 256, rfl⟩
abbrev main_cst_24 : Ref sig .tc := ⟨.hbm, 257, rfl⟩
abbrev main_v131 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_call5_cst : Ref sig .tc := ⟨.hbm, 266, rfl⟩
abbrev main_call5_v0 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_cst_25 : Ref sig .tc := ⟨.hbm, 271, rfl⟩
abbrev main_v142 : Ref sig .tc := ⟨.hbm, 272, rfl⟩
abbrev main_v143 : Ref sig .tc := ⟨.hbm, 273, rfl⟩
abbrev main_cst_26 : Ref sig .tc := ⟨.hbm, 274, rfl⟩
abbrev main_v144 : Ref sig .tc := ⟨.hbm, 275, rfl⟩
abbrev main_v145 : Ref sig .tc := ⟨.hbm, 276, rfl⟩
abbrev main_c_27 : Ref sig .tc := ⟨.hbm, 277, rfl⟩
abbrev main_call6_cst : Ref sig .tc := ⟨.hbm, 278, rfl⟩
abbrev main_call6_v0 : Ref sig .tc := ⟨.hbm, 279, rfl⟩
abbrev main_call6_v1 : Ref sig .tc := ⟨.hbm, 280, rfl⟩
abbrev main_call6_cst_0 : Ref sig .tc := ⟨.hbm, 281, rfl⟩
abbrev main_call6_v2 : Ref sig .tc := ⟨.hbm, 282, rfl⟩
abbrev main_call6_v3 : Ref sig .tc := ⟨.hbm, 283, rfl⟩
abbrev main_call6_v4 : Ref sig .tc := ⟨.hbm, 284, rfl⟩
abbrev main_call6_v5 : Ref sig .tc := ⟨.hbm, 285, rfl⟩
abbrev main_call6_v6 : Ref sig .tc := ⟨.hbm, 286, rfl⟩
abbrev main_call6_v7 : Ref sig .tc := ⟨.hbm, 287, rfl⟩
abbrev main_call6_cst_1 : Ref sig .tc := ⟨.hbm, 288, rfl⟩
abbrev main_call6_v8 : Ref sig .tc := ⟨.hbm, 289, rfl⟩
abbrev main_call6_cst_2 : Ref sig .tc := ⟨.hbm, 290, rfl⟩
abbrev main_call6_v9 : Ref sig .tc := ⟨.hbm, 291, rfl⟩
abbrev main_call6_v10 : Ref sig .tc := ⟨.hbm, 292, rfl⟩
abbrev main_call6_v11 : Ref sig .tc := ⟨.hbm, 293, rfl⟩
abbrev main_call6_v12 : Ref sig .tc := ⟨.hbm, 294, rfl⟩
abbrev main_call6_cst_3 : Ref sig .tc := ⟨.hbm, 295, rfl⟩
abbrev main_call6_v13 : Ref sig .tc := ⟨.hbm, 296, rfl⟩
abbrev main_call6_cst_4 : Ref sig .tc := ⟨.hbm, 297, rfl⟩
abbrev main_call6_call0_v0 : Ref sig .tc := ⟨.hbm, 298, rfl⟩
abbrev main_call6_call0_v1 : Ref sig .tc := ⟨.hbm, 299, rfl⟩
abbrev main_v146 : Ref sig .tc := ⟨.hbm, 300, rfl⟩
abbrev main_v147 : Ref sig .tc := ⟨.hbm, 301, rfl⟩
abbrev main_v148 : Ref sig .tc := ⟨.hbm, 302, rfl⟩
abbrev main_v149 : Ref sig .tc := ⟨.hbm, 303, rfl⟩
abbrev main_v150 : Ref sig .tc := ⟨.hbm, 304, rfl⟩
abbrev main_v151 : Ref sig .tc := ⟨.hbm, 305, rfl⟩
abbrev main_cst_28 : Ref sig .tc := ⟨.hbm, 306, rfl⟩
abbrev main_v152 : Ref sig .tc := ⟨.hbm, 307, rfl⟩
abbrev main_v153 : Ref sig .tc := ⟨.hbm, 308, rfl⟩
abbrev main_v154 : Ref sig .tc := ⟨.hbm, 309, rfl⟩
abbrev main_v155 : Ref sig .tc := ⟨.hbm, 310, rfl⟩
abbrev main_v156 : Ref sig .tc := ⟨.hbm, 311, rfl⟩
abbrev main_v157 : Ref sig .tc := ⟨.hbm, 312, rfl⟩
abbrev main_v158 : Ref sig .tc := ⟨.hbm, 313, rfl⟩
abbrev main_v159 : Ref sig .tc := ⟨.hbm, 314, rfl⟩
abbrev main_call7_cst : Ref sig .tc := ⟨.hbm, 315, rfl⟩
abbrev main_call7_v0 : Ref sig .tc := ⟨.hbm, 316, rfl⟩
abbrev main_v160 : Ref sig .tc := ⟨.hbm, 317, rfl⟩
abbrev main_cst_29 : Ref sig .tc := ⟨.hbm, 318, rfl⟩
abbrev main_v161 : Ref sig .tc := ⟨.hbm, 319, rfl⟩
abbrev main_v162 : Ref sig .tc := ⟨.hbm, 320, rfl⟩
abbrev main_v163 : Ref sig .tc := ⟨.hbm, 321, rfl⟩
abbrev main_v164 : Ref sig .tc := ⟨.hbm, 322, rfl⟩
abbrev main_v165 : Ref sig .tc := ⟨.hbm, 323, rfl⟩
abbrev main_cst_30 : Ref sig .tc := ⟨.hbm, 324, rfl⟩
abbrev main_v166 : Ref sig .tc := ⟨.hbm, 325, rfl⟩
abbrev main_v167 : Ref sig .tc := ⟨.hbm, 326, rfl⟩
abbrev main_v168 : Ref sig .tc := ⟨.hbm, 327, rfl⟩
abbrev main_cst_31 : Ref sig .tc := ⟨.hbm, 328, rfl⟩
abbrev main_v169 : Ref sig .tc := ⟨.hbm, 329, rfl⟩
abbrev main_v170 : Ref sig .tc := ⟨.hbm, 330, rfl⟩
abbrev main_v171 : Ref sig .tc := ⟨.hbm, 331, rfl⟩
abbrev main_v172 : Ref sig .tc := ⟨.hbm, 332, rfl⟩
abbrev main_v173 : Ref sig .tc := ⟨.hbm, 333, rfl⟩
abbrev main_v174 : Ref sig .tc := ⟨.hbm, 334, rfl⟩
abbrev main_v175 : Ref sig .tc := ⟨.hbm, 335, rfl⟩
abbrev main_v176 : Ref sig .tc := ⟨.hbm, 336, rfl⟩
abbrev main_values_32 : Ref sig .tc := ⟨.hbm, 337, rfl⟩
abbrev main_indices_33 : Ref sig .tc := ⟨.hbm, 338, rfl⟩
abbrev main_v177 : Ref sig .tc := ⟨.hbm, 339, rfl⟩
abbrev main_v178 : Ref sig .tc := ⟨.hbm, 340, rfl⟩
abbrev main_v179 : Ref sig .tc := ⟨.hbm, 341, rfl⟩
abbrev main_v180 : Ref sig .tc := ⟨.hbm, 342, rfl⟩
abbrev main_c_34 : Ref sig .tc := ⟨.hbm, 343, rfl⟩
abbrev main_v181 : Ref sig .tc := ⟨.hbm, 344, rfl⟩
abbrev main_v182 : Ref sig .tc := ⟨.hbm, 345, rfl⟩
abbrev main_c_35 : Ref sig .tc := ⟨.hbm, 346, rfl⟩
abbrev main_v183 : Ref sig .tc := ⟨.hbm, 347, rfl⟩
abbrev main_v184 : Ref sig .tc := ⟨.hbm, 348, rfl⟩
abbrev main_v185 : Ref sig .tc := ⟨.hbm, 349, rfl⟩
abbrev main_c_36 : Ref sig .tc := ⟨.hbm, 350, rfl⟩
abbrev main_v186 : Ref sig .tc := ⟨.hbm, 351, rfl⟩
abbrev main_v187 : Ref sig .tc := ⟨.hbm, 352, rfl⟩
abbrev main_c_37 : Ref sig .tc := ⟨.hbm, 353, rfl⟩
abbrev main_v188 : Ref sig .tc := ⟨.hbm, 354, rfl⟩
abbrev main_v189 : Ref sig .tc := ⟨.hbm, 355, rfl⟩
abbrev main_v190 : Ref sig .tc := ⟨.hbm, 356, rfl⟩
abbrev main_v191 : Ref sig .tc := ⟨.hbm, 357, rfl⟩
abbrev main_v192 : Ref sig .tc := ⟨.hbm, 358, rfl⟩
abbrev main_v193 : Ref sig .tc := ⟨.hbm, 359, rfl⟩
abbrev main_v194 : Ref sig .tc := ⟨.hbm, 360, rfl⟩
abbrev main_v195 : Ref sig .tc := ⟨.hbm, 361, rfl⟩
abbrev main_v196 : Ref sig .tc := ⟨.hbm, 362, rfl⟩
abbrev main_v197 : Ref sig .tc := ⟨.hbm, 363, rfl⟩
abbrev main_v198 : Ref sig .tc := ⟨.hbm, 364, rfl⟩
abbrev main_v199 : Ref sig .tc := ⟨.hbm, 365, rfl⟩
abbrev main_v200 : Ref sig .tc := ⟨.hbm, 366, rfl⟩
abbrev main_v201 : Ref sig .tc := ⟨.hbm, 367, rfl⟩
abbrev main_v202 : Ref sig .tc := ⟨.hbm, 368, rfl⟩
abbrev main_cst_38 : Ref sig .tc := ⟨.hbm, 369, rfl⟩
abbrev main_v203 : Ref sig .tc := ⟨.hbm, 370, rfl⟩
abbrev main_v204 : Ref sig .tc := ⟨.hbm, 371, rfl⟩
abbrev main_cst_39 : Ref sig .tc := ⟨.hbm, 372, rfl⟩
abbrev main_v205 : Ref sig .tc := ⟨.hbm, 373, rfl⟩
abbrev main_v206 : Ref sig .tc := ⟨.hbm, 374, rfl⟩
abbrev main_c_40 : Ref sig .tc := ⟨.hbm, 375, rfl⟩
abbrev main_call8_cst : Ref sig .tc := ⟨.hbm, 376, rfl⟩
abbrev main_call8_v0 : Ref sig .tc := ⟨.hbm, 377, rfl⟩
abbrev main_call8_v1 : Ref sig .tc := ⟨.hbm, 378, rfl⟩
abbrev main_call8_cst_0 : Ref sig .tc := ⟨.hbm, 379, rfl⟩
abbrev main_call8_v2 : Ref sig .tc := ⟨.hbm, 380, rfl⟩
abbrev main_call8_v3 : Ref sig .tc := ⟨.hbm, 381, rfl⟩
abbrev main_call8_v4 : Ref sig .tc := ⟨.hbm, 382, rfl⟩
abbrev main_call8_v5 : Ref sig .tc := ⟨.hbm, 383, rfl⟩
abbrev main_call8_v6 : Ref sig .tc := ⟨.hbm, 384, rfl⟩
abbrev main_call8_v7 : Ref sig .tc := ⟨.hbm, 385, rfl⟩
abbrev main_call8_cst_1 : Ref sig .tc := ⟨.hbm, 386, rfl⟩
abbrev main_call8_v8 : Ref sig .tc := ⟨.hbm, 387, rfl⟩
abbrev main_call8_cst_2 : Ref sig .tc := ⟨.hbm, 388, rfl⟩
abbrev main_call8_v9 : Ref sig .tc := ⟨.hbm, 389, rfl⟩
abbrev main_call8_v10 : Ref sig .tc := ⟨.hbm, 390, rfl⟩
abbrev main_call8_v11 : Ref sig .tc := ⟨.hbm, 391, rfl⟩
abbrev main_call8_v12 : Ref sig .tc := ⟨.hbm, 392, rfl⟩
abbrev main_call8_cst_3 : Ref sig .tc := ⟨.hbm, 393, rfl⟩
abbrev main_call8_v13 : Ref sig .tc := ⟨.hbm, 394, rfl⟩
abbrev main_call8_cst_4 : Ref sig .tc := ⟨.hbm, 395, rfl⟩
abbrev main_call8_call0_v0 : Ref sig .tc := ⟨.hbm, 396, rfl⟩
abbrev main_call8_call0_v1 : Ref sig .tc := ⟨.hbm, 397, rfl⟩
abbrev main_v207 : Ref sig .tc := ⟨.hbm, 398, rfl⟩
abbrev main_v208 : Ref sig .tc := ⟨.hbm, 399, rfl⟩
abbrev main_v209 : Ref sig .tc := ⟨.hbm, 400, rfl⟩
abbrev main_v210 : Ref sig .tc := ⟨.hbm, 401, rfl⟩
abbrev main_v211 : Ref sig .tc := ⟨.hbm, 402, rfl⟩
abbrev main_v212 : Ref sig .tc := ⟨.hbm, 403, rfl⟩
abbrev main_cst_41 : Ref sig .tc := ⟨.hbm, 404, rfl⟩
abbrev main_v213 : Ref sig .tc := ⟨.hbm, 405, rfl⟩
abbrev main_v214 : Ref sig .tc := ⟨.hbm, 406, rfl⟩
abbrev main_v215 : Ref sig .tc := ⟨.hbm, 407, rfl⟩
abbrev main_v216 : Ref sig .tc := ⟨.hbm, 408, rfl⟩
abbrev main_v217 : Ref sig .tc := ⟨.hbm, 409, rfl⟩
abbrev main_v218 : Ref sig .tc := ⟨.hbm, 410, rfl⟩
abbrev main_v219 : Ref sig .tc := ⟨.hbm, 411, rfl⟩
abbrev main_v220 : Ref sig .tc := ⟨.hbm, 412, rfl⟩
abbrev main_call9_cst : Ref sig .tc := ⟨.hbm, 413, rfl⟩
abbrev main_call9_v0 : Ref sig .tc := ⟨.hbm, 414, rfl⟩
abbrev main_v221 : Ref sig .tc := ⟨.hbm, 415, rfl⟩
abbrev main_cst_42 : Ref sig .tc := ⟨.hbm, 416, rfl⟩
abbrev main_v222 : Ref sig .tc := ⟨.hbm, 417, rfl⟩
abbrev main_v223 : Ref sig .tc := ⟨.hbm, 418, rfl⟩
abbrev main_v224 : Ref sig .tc := ⟨.hbm, 419, rfl⟩
abbrev main_v225 : Ref sig .tc := ⟨.hbm, 420, rfl⟩
abbrev main_v226 : Ref sig .tc := ⟨.hbm, 421, rfl⟩
abbrev main_cst_43 : Ref sig .tc := ⟨.hbm, 422, rfl⟩
abbrev main_v227 : Ref sig .tc := ⟨.hbm, 423, rfl⟩
abbrev main_v228 : Ref sig .tc := ⟨.hbm, 424, rfl⟩
abbrev main_cst_44 : Ref sig .tc := ⟨.hbm, 425, rfl⟩
abbrev main_v229 : Ref sig .tc := ⟨.hbm, 426, rfl⟩
abbrev main_v230 : Ref sig .tc := ⟨.hbm, 427, rfl⟩
abbrev main_c_45 : Ref sig .tc := ⟨.hbm, 428, rfl⟩
abbrev main_call10_cst : Ref sig .tc := ⟨.hbm, 429, rfl⟩
abbrev main_call10_v0 : Ref sig .tc := ⟨.hbm, 430, rfl⟩
abbrev main_call10_v1 : Ref sig .tc := ⟨.hbm, 431, rfl⟩
abbrev main_call10_cst_0 : Ref sig .tc := ⟨.hbm, 432, rfl⟩
abbrev main_call10_v2 : Ref sig .tc := ⟨.hbm, 433, rfl⟩
abbrev main_call10_v3 : Ref sig .tc := ⟨.hbm, 434, rfl⟩
abbrev main_call10_v4 : Ref sig .tc := ⟨.hbm, 435, rfl⟩
abbrev main_call10_v5 : Ref sig .tc := ⟨.hbm, 436, rfl⟩
abbrev main_call10_v6 : Ref sig .tc := ⟨.hbm, 437, rfl⟩
abbrev main_call10_v7 : Ref sig .tc := ⟨.hbm, 438, rfl⟩
abbrev main_call10_cst_1 : Ref sig .tc := ⟨.hbm, 439, rfl⟩
abbrev main_call10_v8 : Ref sig .tc := ⟨.hbm, 440, rfl⟩
abbrev main_call10_cst_2 : Ref sig .tc := ⟨.hbm, 441, rfl⟩
abbrev main_call10_v9 : Ref sig .tc := ⟨.hbm, 442, rfl⟩
abbrev main_call10_v10 : Ref sig .tc := ⟨.hbm, 443, rfl⟩
abbrev main_call10_v11 : Ref sig .tc := ⟨.hbm, 444, rfl⟩
abbrev main_call10_v12 : Ref sig .tc := ⟨.hbm, 445, rfl⟩
abbrev main_call10_cst_3 : Ref sig .tc := ⟨.hbm, 446, rfl⟩
abbrev main_call10_v13 : Ref sig .tc := ⟨.hbm, 447, rfl⟩
abbrev main_call10_cst_4 : Ref sig .tc := ⟨.hbm, 448, rfl⟩
abbrev main_call10_call0_v0 : Ref sig .tc := ⟨.hbm, 449, rfl⟩
abbrev main_call10_call0_v1 : Ref sig .tc := ⟨.hbm, 450, rfl⟩
abbrev main_v231 : Ref sig .tc := ⟨.hbm, 451, rfl⟩
abbrev main_v232 : Ref sig .tc := ⟨.hbm, 452, rfl⟩
abbrev main_v233 : Ref sig .tc := ⟨.hbm, 453, rfl⟩
abbrev main_v234 : Ref sig .tc := ⟨.hbm, 454, rfl⟩
abbrev main_v235 : Ref sig .tc := ⟨.hbm, 455, rfl⟩
abbrev main_v236 : Ref sig .tc := ⟨.hbm, 456, rfl⟩
abbrev main_cst_46 : Ref sig .tc := ⟨.hbm, 457, rfl⟩
abbrev main_v237 : Ref sig .tc := ⟨.hbm, 458, rfl⟩
abbrev main_v238 : Ref sig .tc := ⟨.hbm, 459, rfl⟩
abbrev main_v239 : Ref sig .tc := ⟨.hbm, 460, rfl⟩
abbrev main_v240 : Ref sig .tc := ⟨.hbm, 461, rfl⟩
abbrev main_v241 : Ref sig .tc := ⟨.hbm, 462, rfl⟩
abbrev main_v242 : Ref sig .tc := ⟨.hbm, 463, rfl⟩
abbrev main_v243 : Ref sig .tc := ⟨.hbm, 464, rfl⟩
abbrev main_v244 : Ref sig .tc := ⟨.hbm, 465, rfl⟩
abbrev main_call11_cst : Ref sig .tc := ⟨.hbm, 466, rfl⟩
abbrev main_call11_v0 : Ref sig .tc := ⟨.hbm, 467, rfl⟩
abbrev main_v245 : Ref sig .tc := ⟨.hbm, 468, rfl⟩
abbrev main_cst_47 : Ref sig .tc := ⟨.hbm, 469, rfl⟩
abbrev main_v246 : Ref sig .tc := ⟨.hbm, 470, rfl⟩
abbrev main_v247 : Ref sig .tc := ⟨.hbm, 471, rfl⟩
abbrev main_v248 : Ref sig .tc := ⟨.hbm, 472, rfl⟩
abbrev main_v249 : Ref sig .tc := ⟨.hbm, 473, rfl⟩
abbrev main_v250 : Ref sig .tc := ⟨.hbm, 474, rfl⟩
abbrev main_v251 : Ref sig .tc := ⟨.hbm, 475, rfl⟩
abbrev main_cst_48 : Ref sig .tc := ⟨.hbm, 476, rfl⟩
abbrev main_v252 : Ref sig .tc := ⟨.hbm, 477, rfl⟩
abbrev main_v253 : Ref sig .tc := ⟨.hbm, 478, rfl⟩
abbrev main_cst_49 : Ref sig .tc := ⟨.hbm, 479, rfl⟩
abbrev main_v254 : Ref sig .tc := ⟨.hbm, 480, rfl⟩
abbrev main_v255 : Ref sig .tc := ⟨.hbm, 481, rfl⟩
abbrev main_c_50 : Ref sig .tc := ⟨.hbm, 482, rfl⟩
abbrev main_call12_cst : Ref sig .tc := ⟨.hbm, 483, rfl⟩
abbrev main_call12_v0 : Ref sig .tc := ⟨.hbm, 484, rfl⟩
abbrev main_call12_v1 : Ref sig .tc := ⟨.hbm, 485, rfl⟩
abbrev main_call12_cst_0 : Ref sig .tc := ⟨.hbm, 486, rfl⟩
abbrev main_call12_v2 : Ref sig .tc := ⟨.hbm, 487, rfl⟩
abbrev main_call12_v3 : Ref sig .tc := ⟨.hbm, 488, rfl⟩
abbrev main_call12_v4 : Ref sig .tc := ⟨.hbm, 489, rfl⟩
abbrev main_call12_v5 : Ref sig .tc := ⟨.hbm, 490, rfl⟩
abbrev main_call12_v6 : Ref sig .tc := ⟨.hbm, 491, rfl⟩
abbrev main_call12_v7 : Ref sig .tc := ⟨.hbm, 492, rfl⟩
abbrev main_call12_cst_1 : Ref sig .tc := ⟨.hbm, 493, rfl⟩
abbrev main_call12_v8 : Ref sig .tc := ⟨.hbm, 494, rfl⟩
abbrev main_call12_cst_2 : Ref sig .tc := ⟨.hbm, 495, rfl⟩
abbrev main_call12_v9 : Ref sig .tc := ⟨.hbm, 496, rfl⟩
abbrev main_call12_v10 : Ref sig .tc := ⟨.hbm, 497, rfl⟩
abbrev main_call12_v11 : Ref sig .tc := ⟨.hbm, 498, rfl⟩
abbrev main_call12_v12 : Ref sig .tc := ⟨.hbm, 499, rfl⟩
abbrev main_call12_cst_3 : Ref sig .tc := ⟨.hbm, 500, rfl⟩
abbrev main_call12_v13 : Ref sig .tc := ⟨.hbm, 501, rfl⟩
abbrev main_call12_cst_4 : Ref sig .tc := ⟨.hbm, 502, rfl⟩
abbrev main_call12_call0_v0 : Ref sig .tc := ⟨.hbm, 503, rfl⟩
abbrev main_call12_call0_v1 : Ref sig .tc := ⟨.hbm, 504, rfl⟩
abbrev main_v256 : Ref sig .tc := ⟨.hbm, 505, rfl⟩
abbrev main_v257 : Ref sig .tc := ⟨.hbm, 506, rfl⟩
abbrev main_v258 : Ref sig .tc := ⟨.hbm, 507, rfl⟩
abbrev main_v259 : Ref sig .tc := ⟨.hbm, 508, rfl⟩
abbrev main_v260 : Ref sig .tc := ⟨.hbm, 509, rfl⟩
abbrev main_v261 : Ref sig .tc := ⟨.hbm, 510, rfl⟩
abbrev main_cst_51 : Ref sig .tc := ⟨.hbm, 511, rfl⟩
abbrev main_v262 : Ref sig .tc := ⟨.hbm, 512, rfl⟩
abbrev main_v263 : Ref sig .tc := ⟨.hbm, 513, rfl⟩
abbrev main_v264 : Ref sig .tc := ⟨.hbm, 514, rfl⟩
abbrev main_v265 : Ref sig .tc := ⟨.hbm, 515, rfl⟩
abbrev main_v266 : Ref sig .tc := ⟨.hbm, 516, rfl⟩
abbrev main_v267 : Ref sig .tc := ⟨.hbm, 517, rfl⟩
abbrev main_v268 : Ref sig .tc := ⟨.hbm, 518, rfl⟩
abbrev main_v269 : Ref sig .tc := ⟨.hbm, 519, rfl⟩
abbrev main_call13_cst : Ref sig .tc := ⟨.hbm, 520, rfl⟩
abbrev main_call13_v0 : Ref sig .tc := ⟨.hbm, 521, rfl⟩
abbrev main_v270 : Ref sig .tc := ⟨.hbm, 522, rfl⟩
abbrev main_v271 : Ref sig .tc := ⟨.hbm, 523, rfl⟩
abbrev main_v272 : Ref sig .tc := ⟨.hbm, 524, rfl⟩
abbrev main_cst_52 : Ref sig .tc := ⟨.hbm, 525, rfl⟩
abbrev main_v273 : Ref sig .tc := ⟨.hbm, 526, rfl⟩
abbrev main_v274 : Ref sig .tc := ⟨.hbm, 527, rfl⟩
abbrev main_cst_53 : Ref sig .tc := ⟨.hbm, 528, rfl⟩
abbrev main_v275 : Ref sig .tc := ⟨.hbm, 529, rfl⟩
abbrev main_v276 : Ref sig .tc := ⟨.hbm, 530, rfl⟩
abbrev main_c_54 : Ref sig .tc := ⟨.hbm, 531, rfl⟩
abbrev main_call14_cst : Ref sig .tc := ⟨.hbm, 532, rfl⟩
abbrev main_call14_v0 : Ref sig .tc := ⟨.hbm, 533, rfl⟩
abbrev main_call14_v1 : Ref sig .tc := ⟨.hbm, 534, rfl⟩
abbrev main_call14_cst_0 : Ref sig .tc := ⟨.hbm, 535, rfl⟩
abbrev main_call14_v2 : Ref sig .tc := ⟨.hbm, 536, rfl⟩
abbrev main_call14_v3 : Ref sig .tc := ⟨.hbm, 537, rfl⟩
abbrev main_call14_v4 : Ref sig .tc := ⟨.hbm, 538, rfl⟩
abbrev main_call14_v5 : Ref sig .tc := ⟨.hbm, 539, rfl⟩
abbrev main_call14_v6 : Ref sig .tc := ⟨.hbm, 540, rfl⟩
abbrev main_call14_v7 : Ref sig .tc := ⟨.hbm, 541, rfl⟩
abbrev main_call14_cst_1 : Ref sig .tc := ⟨.hbm, 542, rfl⟩
abbrev main_call14_v8 : Ref sig .tc := ⟨.hbm, 543, rfl⟩
abbrev main_call14_cst_2 : Ref sig .tc := ⟨.hbm, 544, rfl⟩
abbrev main_call14_v9 : Ref sig .tc := ⟨.hbm, 545, rfl⟩
abbrev main_call14_v10 : Ref sig .tc := ⟨.hbm, 546, rfl⟩
abbrev main_call14_v11 : Ref sig .tc := ⟨.hbm, 547, rfl⟩
abbrev main_call14_v12 : Ref sig .tc := ⟨.hbm, 548, rfl⟩
abbrev main_call14_cst_3 : Ref sig .tc := ⟨.hbm, 549, rfl⟩
abbrev main_call14_v13 : Ref sig .tc := ⟨.hbm, 550, rfl⟩
abbrev main_call14_cst_4 : Ref sig .tc := ⟨.hbm, 551, rfl⟩
abbrev main_call14_call0_v0 : Ref sig .tc := ⟨.hbm, 552, rfl⟩
abbrev main_call14_call0_v1 : Ref sig .tc := ⟨.hbm, 553, rfl⟩
abbrev main_v277 : Ref sig .tc := ⟨.hbm, 554, rfl⟩
abbrev main_v278 : Ref sig .tc := ⟨.hbm, 555, rfl⟩
abbrev main_v279 : Ref sig .tc := ⟨.hbm, 556, rfl⟩
abbrev main_v280 : Ref sig .tc := ⟨.hbm, 557, rfl⟩
abbrev main_v281 : Ref sig .tc := ⟨.hbm, 558, rfl⟩
abbrev main_v282 : Ref sig .tc := ⟨.hbm, 559, rfl⟩
abbrev main_cst_55 : Ref sig .tc := ⟨.hbm, 560, rfl⟩
abbrev main_v283 : Ref sig .tc := ⟨.hbm, 561, rfl⟩
abbrev main_v284 : Ref sig .tc := ⟨.hbm, 562, rfl⟩
abbrev main_v285 : Ref sig .tc := ⟨.hbm, 563, rfl⟩
abbrev main_v286 : Ref sig .tc := ⟨.hbm, 564, rfl⟩
abbrev main_v287 : Ref sig .tc := ⟨.hbm, 565, rfl⟩
abbrev main_v288 : Ref sig .tc := ⟨.hbm, 566, rfl⟩
abbrev main_v289 : Ref sig .tc := ⟨.hbm, 567, rfl⟩
abbrev main_v290 : Ref sig .tc := ⟨.hbm, 568, rfl⟩
abbrev main_call15_cst : Ref sig .tc := ⟨.hbm, 569, rfl⟩
abbrev main_call15_v0 : Ref sig .tc := ⟨.hbm, 570, rfl⟩
abbrev main_v291 : Ref sig .tc := ⟨.hbm, 571, rfl⟩
abbrev main_v292 : Ref sig .tc := ⟨.hbm, 572, rfl⟩
abbrev main_v293 : Ref sig .tc := ⟨.hbm, 573, rfl⟩
abbrev main_call16_cst : Ref sig .tc := ⟨.hbm, 574, rfl⟩
abbrev main_call16_v0 : Ref sig .tc := ⟨.hbm, 575, rfl⟩
abbrev main_v294 : Ref sig .tc := ⟨.hbm, 576, rfl⟩
abbrev main_v295 : Ref sig .tc := ⟨.hbm, 577, rfl⟩
abbrev main_v296 : Ref sig .tc := ⟨.hbm, 578, rfl⟩
abbrev main_v297 : Ref sig .tc := ⟨.hbm, 579, rfl⟩
abbrev main_v298 : Ref sig .tc := ⟨.hbm, 580, rfl⟩
abbrev main_v299 : Ref sig .tc := ⟨.hbm, 581, rfl⟩
abbrev main_cst_56 : Ref sig .tc := ⟨.hbm, 582, rfl⟩
abbrev main_v300 : Ref sig .tc := ⟨.hbm, 583, rfl⟩
abbrev main_v301 : Ref sig .tc := ⟨.hbm, 584, rfl⟩
abbrev main_cst_57 : Ref sig .tc := ⟨.hbm, 585, rfl⟩
abbrev main_v302 : Ref sig .tc := ⟨.hbm, 586, rfl⟩
abbrev main_v303 : Ref sig .tc := ⟨.hbm, 587, rfl⟩
abbrev main_v304 : Ref sig .tc := ⟨.hbm, 588, rfl⟩
abbrev main_v305 : Ref sig .tc := ⟨.hbm, 589, rfl⟩
abbrev main_call17_cst : Ref sig .tc := ⟨.hbm, 590, rfl⟩
abbrev main_call17_v0 : Ref sig .tc := ⟨.hbm, 591, rfl⟩
abbrev main_v306 : Ref sig .tc := ⟨.hbm, 592, rfl⟩
abbrev main_v307 : Ref sig .tc := ⟨.hbm, 593, rfl⟩
abbrev main_v308 : Ref sig .tc := ⟨.hbm, 594, rfl⟩
abbrev main_v309 : Ref sig .tc := ⟨.hbm, 595, rfl⟩
abbrev main_cst_58 : Ref sig .tc := ⟨.hbm, 596, rfl⟩
abbrev main_v310 : Ref sig .tc := ⟨.hbm, 597, rfl⟩
abbrev main_v311 : Ref sig .tc := ⟨.hbm, 598, rfl⟩
abbrev main_v312 : Ref sig .tc := ⟨.hbm, 599, rfl⟩
abbrev main_v313 : Ref sig .tc := ⟨.hbm, 600, rfl⟩
abbrev main_cst_59 : Ref sig .tc := ⟨.hbm, 601, rfl⟩
abbrev main_v314 : Ref sig .tc := ⟨.hbm, 602, rfl⟩
abbrev main_v315 : Ref sig .tc := ⟨.hbm, 603, rfl⟩
abbrev main_v316 : Ref sig .tc := ⟨.hbm, 604, rfl⟩
abbrev main_v317 : Ref sig .tc := ⟨.hbm, 605, rfl⟩
abbrev main_v318 : Ref sig .tc := ⟨.hbm, 606, rfl⟩
abbrev main_v319 : Ref sig .tc := ⟨.hbm, 607, rfl⟩
abbrev main_v320 : Ref sig .tc := ⟨.hbm, 608, rfl⟩
abbrev main_cst_60 : Ref sig .tc := ⟨.hbm, 609, rfl⟩
abbrev main_v321 : Ref sig .tc := ⟨.hbm, 610, rfl⟩
abbrev main_v322 : Ref sig .tc := ⟨.hbm, 611, rfl⟩

abbrev nD : Nat := 1
abbrev τ : Topo := Topo.v7x

variable {F : FTy → Type} [FloatOps F]
-- ==== Proof.Net.Value.lean ====
/- The kernel's run, with every array of the device memory as it ends. -/
module

public import proofs.«01_k».proof.Proof.Gen.KernelIdeal.Frame

@[expose] public section

set_option maxRecDepth 16384

noncomputable section

namespace Cert.Net

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one
set_option backward.isDefEq.respectTransparency.types false in
/-- Every weakly fair execution of the kernel ends with every unscoped array holding what the last stretch leaves in it. -/
theorem ends : θ_run defs (onTc (τ := τ) (main (F := F))) ⟨m, fun _ => 0, ρ⟩ (fun r => ∀ c : Dev nD,
    ∀ b ∈ Pipeline.ucRefs τ sig, r.2.mem ((c : Thread nD τ).1, b) = W29 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun _ h _ => h)

/-- The four results and the arguments, when the kernel has run. -/
theorem kernel_run : θ_run defs (onTc (τ := τ) (main (F := F))) ⟨m, fun _ => 0, ρ⟩ (fun r => ∀ c : Dev nD,
      r.2.mem ((c.tc : Thread nD τ).loc main_v149) = W29 m ρ c (Proc.devRef .tc main_v149)
      ∧ r.2.mem ((c.tc : Thread nD τ).loc main_v147_1) = W29 m ρ c (Proc.devRef .tc main_v147_1)
      ∧ r.2.mem ((c.tc : Thread nD τ).loc main_v147_2) = W29 m ρ c (Proc.devRef .tc main_v147_2)
      ∧ r.2.mem ((c.tc : Thread nD τ).loc main_v9_0) = W29 m ρ c (Proc.devRef .tc main_v9_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c =>
      ⟨h c _ (mem_uc main_v149 (by decide)),
       h c _ (mem_uc main_v147_1 (by decide)),
       h c _ (mem_uc main_v147_2 (by decide)),
       h c _ (mem_uc main_v9_0 (by decide)),
       (h c _ (mem_uc main_arg0 (by decide))).trans (W29_main_arg0 m ρ c),
       (h c _ (mem_uc main_arg1 (by decide))).trans (W29_main_arg1 m ρ c),
       (h c _ (mem_uc main_arg2 (by decide))).trans (W29_main_arg2 m ρ c),
       (h c _ (mem_uc main_arg3 (by decide))).trans (W29_main_arg3 m ρ c),
       (h c _ (mem_uc main_arg4 (by decide))).trans (W29_main_arg4 m ρ c),
       (h c _ (mem_uc main_arg5 (by decide))).trans (W29_main_arg5 m ρ c),
       (h c _ (mem_uc main_arg6 (by decide))).trans (W29_main_arg6 m ρ c),
       (h c _ (mem_uc main_arg7 (by decide))).trans (W29_main_arg7 m ρ c),
       (h c _ (mem_uc main_arg8 (by decide))).trans (W29_main_arg8 m ρ c),
       (h c _ (mem_uc main_arg9 (by decide))).trans (W29_main_arg9 m ρ c),
       (h c _ (mem_uc main_arg10 (by decide))).trans (W29_main_arg10 m ρ c),
       (h c _ (mem_uc main_arg11 (by decide))).trans (W29_main_arg11 m ρ c),
       (h c _ (mem_uc main_arg12 (by decide))).trans (W29_main_arg12 m ρ c),
       (h c _ (mem_uc main_arg13 (by decide))).trans (W29_main_arg13 m ρ c),
       (h c _ (mem_uc main_arg14 (by decide))).trans (W29_main_arg14 m ρ c),
       (h c _ (mem_uc main_arg15 (by decide))).trans (W29_main_arg15 m ρ c),
       (h c _ (mem_uc main_arg16 (by decide))).trans (W29_main_arg16 m ρ c),
       (h c _ (mem_uc main_arg17 (by decide))).trans (W29_main_arg17 m ρ c),
       (h c _ (mem_uc main_arg18 (by decide))).trans (W29_main_arg18 m ρ c),
       (h c _ (mem_uc main_arg19 (by decide))).trans (W29_main_arg19 m ρ c),
       (h c _ (mem_uc main_arg20 (by decide))).trans (W29_main_arg20 m ρ c),
       (h c _ (mem_uc main_arg21 (by decide))).trans (W29_main_arg21 m ρ c),
       (h c _ (mem_uc main_arg22 (by decide))).trans (W29_main_arg22 m ρ c),
       (h c _ (mem_uc main_arg23 (by decide))).trans (W29_main_arg23 m ρ c),
       (h c _ (mem_uc main_arg24 (by decide))).trans (W29_main_arg24 m ρ c),
       (h c _ (mem_uc main_arg25 (by decide))).trans (W29_main_arg25 m ρ c),
       (h c _ (mem_uc main_arg26 (by decide))).trans (W29_main_arg26 m ρ c),
       (h c _ (mem_uc main_arg27 (by decide))).trans (W29_main_arg27 m ρ c)⟩) (ends m ρ)

end Cert.Net

end
-- ==== Proof.Net.Select.lean ====
/- Choosing the neighbours of a point: the rounds of "take the greatest entry, lowest position first, and strike it
   out" of the kernel, and that they name the positions the host's stable sort puts first. -/
module

public import Idealize.ShloMosaic.Lib.SortFacts
public import Mathlib.Data.EReal.Operations

@[expose] public section

noncomputable section

namespace Cert.Net

open Idealize.ShloMosaic

/-- `p` is the lowest position at which the row `w` attains its greatest entry. -/
def IsTop {n : ℕ} (w : Fin n → EReal) (p : Fin n) : Prop := (∀ j, w j ≤ w p) ∧ ∀ j, j < p → w j ≠ w p

/-- A row has one such position only. -/
theorem IsTop.unique {n : ℕ} {w : Fin n → EReal} {p q : Fin n} (hp : IsTop w p) (hq : IsTop w q) : p = q := by
  have h : w p = w q := le_antisymm (hq.1 p) (hp.1 q)
  rcases lt_trichotomy p q with h' | h' | h'
  · exact absurd h (hq.2 p h')
  · exact h'
  · exact absurd h.symm (hp.2 q h')

/-- A row that is not empty has such a position. -/
theorem exists_isTop {n : ℕ} [NeZero n] (w : Fin n → EReal) : ∃ p, IsTop w p := by
  obtain ⟨q, -, hq'⟩ := Finset.exists_max_image Finset.univ w ⟨0, Finset.mem_univ _⟩
  have hq : ∀ j, w j ≤ w q := fun j => hq' j (Finset.mem_univ j)
  have hne : (Finset.univ.filter fun j => w j = w q).Nonempty := ⟨q, by simp⟩
  refine ⟨(Finset.univ.filter fun j => w j = w q).min' hne, ?_, ?_⟩
  · have := Finset.min'_mem _ hne
    rw [Finset.mem_filter] at this
    intro j; rw [this.2]; exact hq j
  · intro j hj he
    have := Finset.min'_mem _ hne
    rw [Finset.mem_filter] at this
    have h2 := Finset.min'_le (Finset.univ.filter fun j => w j = w q) j (by
      rw [Finset.mem_filter]; exact ⟨Finset.mem_univ _, he.trans this.2⟩)
    exact absurd hj (not_lt.mpr h2)

/-- The lowest position of the greatest entry. -/
def top {n : ℕ} [NeZero n] (w : Fin n → EReal) : Fin n := Classical.choose (exists_isTop w)

/-- `top` is that position. -/
theorem top_spec {n : ℕ} [NeZero n] (w : Fin n → EReal) : IsTop w (top w) := Classical.choose_spec (exists_isTop w)

/-- The row with its first greatest entry struck out. -/
def strike {n : ℕ} [NeZero n] (w : Fin n → EReal) : Fin n → EReal := fun k => if k = top w then ⊥ else w k

/-- The position chosen in round `j`. -/
def pick {n : ℕ} [NeZero n] (w : Fin n → EReal) (j : ℕ) : Fin n := top (strike^[j] w)

/-- After `j` rounds the positions chosen so far hold `⊥` and the others what they held. -/
theorem strike_iterate {n : ℕ} [NeZero n] (w : Fin n → EReal) (j : ℕ) (k : Fin n) :
    (strike^[j] w) k = if ∃ i, i < j ∧ pick w i = k then ⊥ else w k := by
  induction j with
  | zero => simp
  | succ j ih =>
    rw [Function.iterate_succ_apply']
    have hs : ∀ v : Fin n → EReal, strike v k = if k = top v then ⊥ else v k := fun _ => rfl
    rw [hs]
    by_cases h : k = top (strike^[j] w)
    · rw [if_pos h, if_pos ⟨j, Nat.lt_succ_self j, h.symm⟩]
    · rw [if_neg h]
      have ih' : (strike^[j] w) k = if ∃ i, i < j ∧ pick w i = k then ⊥ else w k := ih
      rw [ih']
      congr 1
      refine propext ⟨fun ⟨i, hi, e⟩ => ⟨i, Nat.lt_succ_of_lt hi, e⟩, fun ⟨i, hi, e⟩ => ?_⟩
      rcases Nat.lt_succ_iff_lt_or_eq.mp hi with h' | h'
      · exact ⟨i, h', e⟩
      · subst h'; exact absurd e.symm h

/-- Position `a` comes before position `b`: a greater entry, or an equal one at a lower position. -/
def Ahead {n : ℕ} (w : Fin n → EReal) (a b : Fin n) : Prop := w b < w a ∨ (w a = w b ∧ a < b)

theorem Ahead.trans {n : ℕ} {w : Fin n → EReal} {a b c : Fin n} (h : Ahead w a b) (h' : Ahead w b c) : Ahead w a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

/-- Inserting a position lower than all those of an ordered list keeps the list ordered. -/
theorem pairwise_insert {n : ℕ} (w : Fin n → EReal) (before : Fin n → Fin n → Bool)
    (hb : ∀ k k', before k k' = true ↔ w k' < w k) (a : Fin n) (l : List (Fin n)) (hl : l.Pairwise (Ahead w))
    (ha : ∀ b ∈ l, a < b) : (insertBefore before a l).Pairwise (Ahead w) := by
  induction l with
  | nil => simp [insertBefore]
  | cons b l ih =>
    unfold insertBefore
    rw [List.pairwise_cons] at hl
    split
    · rename_i h
      rw [List.pairwise_cons]
      refine ⟨fun c hc => ?_, ih hl.2 fun c hc => ha c (List.mem_cons_of_mem _ hc)⟩
      rcases List.mem_cons.mp ((perm_insertBefore before a l).mem_iff.mp hc) with e | hc
      · subst e; exact .inl ((hb _ _).mp h)
      · exact hl.1 c hc
    · rename_i h
      have hab : Ahead w a b := by
        have : ¬ w a < w b := fun h' => h ((hb _ _).mpr h')
        rcases lt_or_eq_of_le (not_lt.mp this) with h' | h'
        · exact .inl h'
        · exact .inr ⟨h'.symm, ha b List.mem_cons_self⟩
      rw [List.pairwise_cons]
      refine ⟨fun c hc => ?_, List.pairwise_cons.mpr hl⟩
      rcases List.mem_cons.mp hc with e | hc
      · subst e; exact hab
      · exact hab.trans (hl.1 c hc)

/-- The stable sort of positions in increasing order is ordered. -/
theorem pairwise_sort {n : ℕ} (w : Fin n → EReal) (before : Fin n → Fin n → Bool)
    (hb : ∀ k k', before k k' = true ↔ w k' < w k) (l : List (Fin n)) (hl : l.Pairwise (· < ·)) :
    (stableSort before l).Pairwise (Ahead w) := by
  induction l with
  | nil => simp [stableSort]
  | cons a l ih =>
    unfold stableSort
    rw [List.pairwise_cons] at hl
    refine pairwise_insert w before hb a _ (ih hl.2) fun b hb' => ?_
    exact hl.1 b ((perm_stableSort before l).mem_iff.mp hb')

/-- Of two places of the sorted order the earlier one holds the position that comes before. -/
theorem sortedFrom_ahead {n : ℕ} (w : Fin n → EReal) (before : Fin n → Fin n → Bool)
    (hb : ∀ k k', before k k' = true ↔ w k' < w k) {i j : Fin n} (h : i < j) :
    Ahead w (sortedFrom before i) (sortedFrom before j) := by
  have hp := pairwise_sort w before hb (List.finRange n) (List.pairwise_lt_finRange n)
  unfold sortedFrom
  rw [List.pairwise_iff_get] at hp
  exact hp _ _ h

/-- The stable sort's place `j` is the position of round `j`, when no entry of the row is `⊥`. -/
theorem sortedFrom_eq_pick {n : ℕ} [NeZero n] (w : Fin n → EReal) (hw : ∀ k, w k ≠ ⊥) (before : Fin n → Fin n → Bool)
    (hb : ∀ k k', before k k' = true ↔ w k' < w k) (j : Fin n) : sortedFrom before j = pick w j.val := by
  obtain ⟨j, hj⟩ := j
  induction j using Nat.strong_induction_on with
  | _ j ih =>
    have hdrop : ∀ k : Fin n, (strike^[j] w) (sortedFrom before k) = if k.val < j then ⊥ else w (sortedFrom before k) := by
      intro k
      rw [strike_iterate]
      congr 1
      refine propext ⟨fun ⟨i, hi, e⟩ => ?_, fun h => ⟨k.val, h, (ih k.val h k.isLt).symm⟩⟩
      have h1 := ih i hi (hi.trans hj)
      have : (⟨i, hi.trans hj⟩ : Fin n) = k := sortedFrom_injective before (h1.trans e)
      rw [← this]; exact hi
    refine IsTop.unique (w := strike^[j] w) ?_ (top_spec _)
    constructor
    · intro k
      obtain ⟨i, rfl⟩ := sortedFrom_surjective before k
      rw [hdrop, hdrop, if_neg (by simp : ¬ (⟨j, hj⟩ : Fin n).val < j)]
      split
      · exact bot_le
      · rename_i h
        rcases Nat.lt_or_eq_of_le (not_lt.mp h) with h' | h'
        · rcases sortedFrom_ahead w before hb (show (⟨j, hj⟩ : Fin n) < i from h') with h2 | h2
          · exact h2.le
          · exact h2.1.symm.le
        · have : i = ⟨j, hj⟩ := Fin.ext h'.symm
          rw [this]
    · intro k hk
      obtain ⟨i, rfl⟩ := sortedFrom_surjective before k
      rw [hdrop, hdrop, if_neg (by simp : ¬ (⟨j, hj⟩ : Fin n).val < j)]
      split
      · exact fun h => hw _ h.symm
      · rename_i h
        rcases Nat.lt_or_eq_of_le (not_lt.mp h) with h' | h'
        · rcases sortedFrom_ahead w before hb (show (⟨j, hj⟩ : Fin n) < i from h') with h2 | h2
          · exact h2.ne
          · exact absurd hk (not_lt.mpr h2.2.le)
        · have : i = ⟨j, hj⟩ := Fin.ext h'.symm
          rw [this] at hk
          exact absurd hk (lt_irrefl _)

end Cert.Net

end
-- ==== Proof.Net.Model.lean ====
/- The network over the real numbers: what every stage holds when the arguments are finite. Indices: `b` a cloud of the
   batch, `n` a point, `k` a neighbour's rank, `o` a channel. -/
module

public import proofs.«01_k».proof.Proof.Net.Select
public import Mathlib.Analysis.SpecialFunctions.Pow.Real

@[expose] public section

noncomputable section

namespace Cert.Net

/-- The small number added to every variance: the f32 literal nearest `1e-5`. -/
def eps : ℝ := 10995116 / 2 ^ 40

theorem eps_pos : 0 < eps := by unfold eps; norm_num

/-- The mean of a finite family. -/
def mean {ι : Type} [Fintype ι] (f : ι → ℝ) : ℝ := (∑ i, f i) / Fintype.card ι

/-- Its variance: the mean squared distance from the mean. -/
def var {ι : Type} [Fintype ι] (f : ι → ℝ) : ℝ := (∑ i, (f i - mean f) * (f i - mean f)) / Fintype.card ι

theorem var_nonneg {ι : Type} [Fintype ι] (f : ι → ℝ) : 0 ≤ var f :=
  div_nonneg (Finset.sum_nonneg fun i _ => mul_self_nonneg _) (Nat.cast_nonneg _)

/-- The variance is the mean square less the squared mean. -/
theorem var_eq {ι : Type} [Fintype ι] [Nonempty ι] (f : ι → ℝ) :
    var f = (∑ i, f i * f i) / Fintype.card ι - mean f * mean f := by
  have hc : (Fintype.card ι : ℝ) ≠ 0 := Nat.cast_ne_zero.mpr Fintype.card_ne_zero
  have h : ∑ i, (f i - mean f) * (f i - mean f)
      = (∑ i, f i * f i) - 2 * mean f * (∑ i, f i) + Fintype.card ι * (mean f * mean f) := by
    have : ∀ i, (f i - mean f) * (f i - mean f) = f i * f i - 2 * mean f * f i + mean f * mean f := fun i => by ring
    simp only [this, Finset.sum_add_distrib, Finset.sum_sub_distrib, ← Finset.mul_sum, Finset.sum_const,
      Finset.card_univ, nsmul_eq_mul]
    ring
  have hs : (∑ i, f i) = Fintype.card ι * mean f := by rw [mean, mul_div_cancel₀ _ hc]
  unfold var
  rw [h, hs, show (∑ i, f i * f i) - 2 * mean f * (Fintype.card ι * mean f) + Fintype.card ι * (mean f * mean f)
    = (∑ i, f i * f i) - Fintype.card ι * (mean f * mean f) by ring, sub_div, mul_div_cancel_left₀ _ hc]

/-- Normalisation with mean `m`, variance `v`, scale `g`, offset `b`, then the positive part. -/
def bnr (m v g b x : ℝ) : ℝ := max (g * (x - m) / Real.sqrt (v + eps) + b) 0

/-- The same with any scale and offset, finite or not. -/
def wide (m v : ℝ) (g b : EReal) (x : ℝ) : EReal := max (g * ((x - m : ℝ) : EReal) * ((1 / Real.sqrt (v + eps) : ℝ) : EReal) + b) 0

theorem bnr_mono {m v g b : ℝ} (hg : 0 ≤ g) {x y : ℝ} (h : x ≤ y) : bnr m v g b x ≤ bnr m v g b y := by
  unfold bnr
  refine max_le_max ?_ le_rfl
  have := mul_le_mul_of_nonneg_left (sub_le_sub_right h m) hg
  have h2 := div_le_div_of_nonneg_right this (Real.sqrt_nonneg (v + eps))
  linarith

/-- The greatest of a family over `Fin (n + 1)`. -/
def sup {n : ℕ} [NeZero n] (f : Fin n → ℝ) : ℝ := Finset.univ.sup' ⟨0, Finset.mem_univ _⟩ f

theorem le_sup {n : ℕ} [NeZero n] (f : Fin n → ℝ) (i : Fin n) : f i ≤ sup f := Finset.le_sup' f (Finset.mem_univ i)

theorem exists_sup {n : ℕ} [NeZero n] (f : Fin n → ℝ) : ∃ i, sup f = f i := by
  obtain ⟨i, -, h⟩ := Finset.exists_mem_eq_sup' (⟨0, Finset.mem_univ _⟩ : (Finset.univ : Finset (Fin n)).Nonempty) f
  exact ⟨i, h⟩

theorem sup_eq {n : ℕ} [NeZero n] (f : Fin n → ℝ) (i : Fin n) (h : ∀ j, f j ≤ f i) : sup f = f i :=
  le_antisymm (Finset.sup'_le _ _ fun j _ => h j) (le_sup f i)

/-- A normalisation with a scale that is not negative may be taken after a maximum. -/
theorem bnr_sup {n : ℕ} [NeZero n] {m v g b : ℝ} (hg : 0 ≤ g) (f : Fin n → ℝ) :
    bnr m v g b (sup f) = sup fun i => bnr m v g b (f i) := by
  obtain ⟨i, hi⟩ := exists_sup f
  rw [hi]
  exact (sup_eq (fun i => bnr m v g b (f i)) i fun j => bnr_mono hg (hi ▸ le_sup f j)).symm

/-- Minus the squared distance between two points of a cloud, each a row of features. -/
def pd {C : ℕ} (X : Fin 1024 → Fin C → ℝ) (i j : Fin 1024) : ℝ :=
  2 * (∑ c, X i c * X j c) - (∑ c, X i c * X i c) - ∑ c, X j c * X j c

/-- The neighbour of rank `k` of the point `n`: by closeness, then by position. -/
def nb {C : ℕ} (X : Fin 1024 → Fin C → ℝ) (n : Fin 1024) (k : Fin 20) : Fin 1024 :=
  pick (fun j => ((pd X n j : ℝ) : EReal)) k.val

/-- The edge convolution: the difference to the neighbour and the point itself, against the two halves of the weight. -/
def edge {C : ℕ} (W : Fin 64 → Fin (C + C) → ℝ) (X : Fin 1024 → Fin C → ℝ) (n : Fin 1024) (k : Fin 20) (o : Fin 64) : ℝ :=
  (∑ c : Fin C, (X (nb X n k) c - X n c) * W o (Fin.castAdd C c)) + ∑ c : Fin C, X n c * W o (Fin.natAdd C c)

/-- The real arguments. -/
structure Par where
  x : Fin 16 → Fin 6 → Fin 1024 → ℝ
  W1 : Fin 64 → Fin (6 + 6) → ℝ
  g1 : Fin 64 → ℝ
  b1 : Fin 64 → ℝ
  W1b : Fin 64 → Fin 64 → ℝ
  g1b : Fin 64 → ℝ
  b1b : Fin 64 → ℝ
  W2 : Fin 64 → Fin (64 + 64) → ℝ
  g2 : Fin 64 → ℝ
  b2 : Fin 64 → ℝ
  W2b : Fin 64 → Fin 64 → ℝ
  g2b : Fin 64 → ℝ
  b2b : Fin 64 → ℝ
  W3 : Fin 64 → Fin (64 + 64) → ℝ
  g3 : Fin 64 → ℝ
  b3 : Fin 64 → ℝ
  W5 : Fin 1024 → Fin 192 → ℝ
  g5 : Fin 1024 → ℝ
  b5 : Fin 1024 → ℝ
  W6 : Fin 512 → Fin (1024 + 192) → ℝ
  g6 : Fin 512 → ℝ
  b6 : Fin 512 → ℝ
  W7 : Fin 256 → Fin 512 → ℝ
  g7 : Fin 256 → EReal
  b7 : Fin 256 → EReal
  hg1b : ∀ o, 0 ≤ g1b o
  hg2b : ∀ o, 0 ≤ g2b o
  hg3 : ∀ o, 0 ≤ g3 o
  hg5 : ∀ o, 0 ≤ g5 o

/-- An array over the edges: cloud, point, rank, channel. -/
abbrev Edges := Fin 16 → Fin 1024 → Fin 20 → Fin 64 → ℝ

/-- An array over the points: cloud, point, channel. -/
abbrev Points (C : ℕ) := Fin 16 → Fin 1024 → Fin C → ℝ

/-- One channel of an array over the edges, as a family. -/
def chanE (c : Edges) (o : Fin 64) : Fin 16 × Fin 1024 × Fin 20 → ℝ := fun i => c i.1 i.2.1 i.2.2 o

/-- One channel of an array over the points, as a family. -/
def chanP {C : ℕ} (c : Points C) (o : Fin C) : Fin 16 × Fin 1024 → ℝ := fun i => c i.1 i.2 o

/-- Batch normalisation and positive part over the edges. -/
def bnE (g b : Fin 64 → ℝ) (c : Edges) : Edges :=
  fun i n k o => bnr (mean (chanE c o)) (var (chanE c o)) (g o) (b o) (c i n k o)

/-- Batch normalisation and positive part over the points. -/
def bnP {C : ℕ} (g b : Fin C → ℝ) (c : Points C) : Points C :=
  fun i n o => bnr (mean (chanP c o)) (var (chanP c o)) (g o) (b o) (c i n o)

/-- A convolution with kernel size one over the edges. -/
def convE (W : Fin 64 → Fin 64 → ℝ) (h : Edges) : Edges := fun i n k o => ∑ c, h i n k c * W o c

/-- A convolution with kernel size one over the points. -/
def convP {C D : ℕ} (W : Fin D → Fin C → ℝ) (h : Points C) : Points D := fun i n o => ∑ c, h i n c * W o c

/-- The greatest over the neighbours. -/
def maxE (c : Edges) : Points 64 := fun i n o => sup fun k => c i n k o

/-- The edge convolution of every cloud. -/
def edges {C : ℕ} (W : Fin 64 → Fin (C + C) → ℝ) (X : Points C) : Edges := fun i n k o => edge W (X i) n k o

namespace Par

variable (P : Par)

/-- The clouds, a row of features per point. -/
def X0 : Points 6 := fun i n c => P.x i c n
/-- The first edge convolution. -/
def c1 : Edges := edges P.W1 P.X0
/-- The convolution after it. -/
def c2 : Edges := convE P.W1b (bnE P.g1 P.b1 P.c1)
/-- The first features: normalised, greatest over the neighbours. -/
def x1 : Points 64 := maxE (bnE P.g1b P.b1b P.c2)
/-- The second edge convolution. -/
def c3 : Edges := edges P.W2 P.x1
/-- The convolution after it. -/
def c4 : Edges := convE P.W2b (bnE P.g2 P.b2 P.c3)
/-- The second features. -/
def x2 : Points 64 := maxE (bnE P.g2b P.b2b P.c4)
/-- The third edge convolution. -/
def c5 : Edges := edges P.W3 P.x2
/-- The third features. -/
def x3 : Points 64 := maxE (bnE P.g3 P.b3 P.c5)
/-- The three features side by side. -/
def xcat : Points 192 := fun i n c =>
  if h : c.val < 64 then P.x1 i n ⟨c.val, h⟩
  else if h2 : c.val < 128 then P.x2 i n ⟨c.val - 64, by omega⟩ else P.x3 i n ⟨c.val - 128, by omega⟩
/-- The convolution of all features. -/
def c6 : Points 1024 := convP P.W5 P.xcat
/-- The greatest over a cloud's points of its normalisation. -/
def pool (i : Fin 16) (o : Fin 1024) : ℝ := sup fun n => bnP P.g5 P.b5 P.c6 i n o
/-- The convolution of the pooled features with the points' own. -/
def c7 : Points 512 := fun i n o =>
  (∑ c : Fin 1024, P.pool i c * P.W6 o (Fin.castAdd 192 c)) + ∑ c : Fin 192, P.xcat i n c * P.W6 o (Fin.natAdd 1024 c)
/-- The convolution after it. -/
def c8 : Points 256 := convP P.W7 (bnP P.g6 P.b6 P.c7)
/-- The features that the three heads read. -/
def net (i : Fin 16) (n : Fin 1024) (o : Fin 256) : EReal :=
  wide (mean (chanP P.c8 o)) (var (chanP P.c8 o)) (P.g7 o) (P.b7 o) (P.c8 i n o)

/-- The first features are the normalisation of the greatest over the neighbours. -/
theorem x1_eq (i n o) : P.x1 i n o
    = bnr (mean (chanE P.c2 o)) (var (chanE P.c2 o)) (P.g1b o) (P.b1b o) (maxE P.c2 i n o) :=
  (bnr_sup (P.hg1b o) fun k => P.c2 i n k o).symm
/-- The same of the second features. -/
theorem x2_eq (i n o) : P.x2 i n o
    = bnr (mean (chanE P.c4 o)) (var (chanE P.c4 o)) (P.g2b o) (P.b2b o) (maxE P.c4 i n o) :=
  (bnr_sup (P.hg2b o) fun k => P.c4 i n k o).symm
/-- The same of the third features. -/
theorem x3_eq (i n o) : P.x3 i n o
    = bnr (mean (chanE P.c5 o)) (var (chanE P.c5 o)) (P.g3 o) (P.b3 o) (maxE P.c5 i n o) :=
  (bnr_sup (P.hg3 o) fun k => P.c5 i n k o).symm
/-- The same of the pooled features. -/
theorem pool_eq (i o) : P.pool i o
    = bnr (mean (chanP P.c6 o)) (var (chanP P.c6 o)) (P.g5 o) (P.b5 o) (sup fun n => P.c6 i n o) :=
  (bnr_sup (P.hg5 o) _).symm

end Par

end Cert.Net

end
-- ==== Proof.Net.Consts.lean ====
/- The literals the two programs write, as the numbers they are. -/
module

public import proofs.«01_k».proof.Proof.Net.Model
public import Idealize.ShloMosaic.Lib.Pipeline.ValueKit

@[expose] public section

noncomputable section

namespace Cert.Net

open Idealize.ShloMosaic

theorem lit_neg_inf : Ideal.ofBits .f32 0xFF800000#32 = ⊥ := by
  simp [Ideal.ofBits, Ideal.ieee]

theorem lit_zero : Ideal.ofBits .f32 0x00000000#32 = ((0 : ℝ) : EReal) := by
  simp [Ideal.ofBits, Ideal.ieee]

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_neg_two : Ideal.ofBits .f32 0xC0000000#32 = ((-2 : ℝ) : EReal) := by
  simp [Ideal.ofBits, Ideal.ieee, -EReal.coe_mul]; norm_num

theorem lit_eps : Ideal.ofBits .f32 0x3727C5AC#32 = ((eps : ℝ) : EReal) := by
  simp [Ideal.ofBits, Ideal.ieee, eps, -EReal.coe_mul]; norm_num

theorem lit_edges : Ideal.ofBits .f32 0x48A00000#32 = ((327680 : ℝ) : EReal) := by
  simp [Ideal.ofBits, Ideal.ieee, -EReal.coe_mul]; norm_num

theorem lit_points : Ideal.ofBits .f32 0x46800000#32 = ((16384 : ℝ) : EReal) := by
  simp [Ideal.ofBits, Ideal.ieee, -EReal.coe_mul]; norm_num

/-- A sum of real numbers is real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The greatest of a family of real numbers, taken from minus infinity up. -/
theorem fold_max_coe {n : ℕ} [NeZero n] (f : Fin n → ℝ) :
    Finset.univ.fold max (⊥ : EReal) (fun i => ((f i : ℝ) : EReal)) = ((sup f : ℝ) : EReal) := by
  obtain ⟨i, hi⟩ := exists_sup f
  apply le_antisymm
  · rw [Finset.fold_max_le]
    exact ⟨bot_le, fun j _ => EReal.coe_le_coe_iff.mpr (le_sup f j)⟩
  · rw [hi, Finset.le_fold_max]
    exact .inr ⟨i, Finset.mem_univ i, le_rfl⟩

theorem coe_max (a b : ℝ) : max ((a : ℝ) : EReal) ((b : ℝ) : EReal) = ((max a b : ℝ) : EReal) :=
  (EReal.coe_strictMono.monotone.map_max).symm

end Cert.Net

end
-- ==== Proof.Net.Tables.lean ====
/- The tables that carry a normalisation to a kernel: four rows, the mean, the scale, one over the root of the variance,
   the offset. And how numbers known to be real stay real. -/
module

public import proofs.«01_k».proof.Proof.Net.Consts

@[expose] public section

noncomputable section

namespace Cert.Net

open Idealize.ShloMosaic

/-- A table of four rows holds a normalisation. -/
def IsTab {C : ℕ} (t : Fin 4 → Fin C → EReal) (m v g b : Fin C → ℝ) : Prop :=
  ∀ c, t 0 c = ((m c : ℝ) : EReal) ∧ t 1 c = ((g c : ℝ) : EReal)
    ∧ t 2 c = ((1 / Real.sqrt (v c + eps) : ℝ) : EReal) ∧ t 3 c = ((b c : ℝ) : EReal)

/-- The kernel's normalisation of a real number. -/
theorem bn_real (m v g b x : ℝ) : max ((g : EReal) * ((x : EReal) - (m : EReal)) * ((1 / Real.sqrt (v + eps) : ℝ) : EReal) + (b : EReal)) 0
    = ((bnr m v g b x : ℝ) : EReal) := by
  unfold bnr
  rw [← EReal.coe_sub, ← EReal.coe_mul, ← EReal.coe_mul, ← EReal.coe_add, ← EReal.coe_zero, coe_max, mul_one_div]

/-- The same with the table's rows. -/
theorem IsTab.bn {C : ℕ} {t : Fin 4 → Fin C → EReal} {m v g b : Fin C → ℝ} (h : IsTab t m v g b) (c : Fin C) (x : ℝ) :
    max (t 1 c * ((x : EReal) - t 0 c) * t 2 c + t 3 c) 0 = ((bnr (m c) (v c) (g c) (b c) x : ℝ) : EReal) := by
  obtain ⟨h0, h1, h2, h3⟩ := h c
  rw [h0, h1, h2, h3, bn_real]

/-- A table of four rows holds a normalisation whose scale and offset may be infinite. -/
def IsWide {C : ℕ} (t : Fin 4 → Fin C → EReal) (m v : Fin C → ℝ) (g b : Fin C → EReal) : Prop :=
  ∀ c, t 0 c = ((m c : ℝ) : EReal) ∧ t 1 c = g c ∧ t 2 c = ((1 / Real.sqrt (v c + eps) : ℝ) : EReal) ∧ t 3 c = b c

/-- The kernel's normalisation with such a table's rows. -/
theorem IsWide.bn {C : ℕ} {t : Fin 4 → Fin C → EReal} {m v : Fin C → ℝ} {g b : Fin C → EReal} (h : IsWide t m v g b) (c : Fin C) (x : ℝ) :
    max (t 1 c * ((x : EReal) - t 0 c) * t 2 c + t 3 c) 0 = wide (m c) (v c) (g c) (b c) x := by
  obtain ⟨h0, h1, h2, h3⟩ := h c
  rw [h0, h1, h2, h3, ← EReal.coe_sub]
  rfl

/-- A real number less itself. -/
theorem coe_sub_self (x : ℝ) : ((x : ℝ) : EReal) - ((x : ℝ) : EReal) = 0 := by
  rw [← EReal.coe_sub, sub_self, EReal.coe_zero]

end Cert.Net

end
-- ==== Proof.Net.Sums.lean ====
/- Sums over three axes of an array, and a channel's mean and variance as the host computes them. -/
module

public import proofs.«01_k».proof.Proof.Net.Tables
public import proofs.«01_k».proof.Proof.Net.Consts
public import Idealize.ShloMosaic.Lib.Pointwise.Reduce
public import Idealize.ShloMosaic.PureOps.Ideal.Laws

@[expose] public section

set_option synthInstance.maxSize 4096
set_option maxRecDepth 16384

noncomputable section

namespace Cert.Net

open Idealize.ShloMosaic Idealize.ShloMosaic.Pointwise

/-- A sum over the first three axes. -/
theorem sum012 {a b c d : ℕ} (h : (⟨4, ![a, b, c, d]⟩ : Shape).ReducesTo [0, 1, 2] ⟨1, ![d]⟩)
    (v : (⟨4, ![a, b, c, d]⟩ : Shape).Idx → EReal) (o : Fin d) :
    Ideal.hostReduceAdd h v 0 (ix1 o) = ∑ p : Fin a × Fin c × Fin b, v (ix4 p.1 p.2.2 p.2.1 o) := by
  unfold Ideal.hostReduceAdd
  rw [zero_add]
  refine Finset.sum_filter_eq_sum_of_fiber _ (fun p : Fin a × Fin c × Fin b => ix4 p.1 p.2.2 p.2.1 o)
    (fun p q e => Prod.ext (congrFun e 0) (Prod.ext (congrFun e 2) (congrFun e 1))) (fun i => ⟨fun e => ?_, ?_⟩) v
  · refine ⟨(i 0, i 2, i 1), ?_⟩
    funext x
    apply Fin.ext
    match x with
    | ⟨0, _⟩ => rfl
    | ⟨1, _⟩ => rfl
    | ⟨2, _⟩ => rfl
    | ⟨3, _⟩ => exact (congrArg Fin.val (congrFun e 0)).symm
  · rintro ⟨p, rfl⟩
    funext x
    apply Fin.ext
    match x with
    | ⟨0, _⟩ => rfl

/-- A sum over every axis but the second. -/
theorem sum023 {a b c d : ℕ} (h : (⟨4, ![a, d, c, b]⟩ : Shape).ReducesTo [0, 2, 3] ⟨1, ![d]⟩)
    (v : (⟨4, ![a, d, c, b]⟩ : Shape).Idx → EReal) (o : Fin d) :
    Ideal.hostReduceAdd h v 0 (ix1 o) = ∑ p : Fin a × Fin c × Fin b, v (ix4 p.1 o p.2.1 p.2.2) := by
  unfold Ideal.hostReduceAdd
  rw [zero_add]
  refine Finset.sum_filter_eq_sum_of_fiber _ (fun p : Fin a × Fin c × Fin b => ix4 p.1 o p.2.1 p.2.2)
    (fun p q e => Prod.ext (congrFun e 0) (Prod.ext (congrFun e 2) (congrFun e 3))) (fun i => ⟨fun e => ?_, ?_⟩) v
  · refine ⟨(i 0, i 2, i 3), ?_⟩
    funext x
    apply Fin.ext
    match x with
    | ⟨0, _⟩ => rfl
    | ⟨1, _⟩ => exact (congrArg Fin.val (congrFun e 0)).symm
    | ⟨2, _⟩ => rfl
    | ⟨3, _⟩ => rfl
  · rintro ⟨p, rfl⟩
    funext x
    apply Fin.ext
    match x with
    | ⟨0, _⟩ => rfl

variable {ι : Type} [Fintype ι]

/-- A sum of reals over the number of its terms is the mean. -/
theorem mean_div (f : ι → ℝ) {N : ℝ} (hN : (Fintype.card ι : ℝ) = N) (h0 : N ≠ 0) :
    Ideal.div ((∑ i, f i : ℝ) : EReal) ((N : ℝ) : EReal) = ((mean f : ℝ) : EReal) := by
  rw [Ideal.div_coe h0, ← EReal.coe_mul, mul_one_div, mean, hN]

/-- The sum of the squared differences from the mean over the number of terms is the variance. -/
theorem var_div (f : ι → ℝ) {N : ℝ} (hN : (Fintype.card ι : ℝ) = N) (h0 : N ≠ 0) :
    Ideal.div ((∑ i, (f i - mean f) * (f i - mean f) : ℝ) : EReal) ((N : ℝ) : EReal) = ((var f : ℝ) : EReal) := by
  rw [Ideal.div_coe h0, ← EReal.coe_mul, mul_one_div, var, hN]

/-- The reciprocal root of a variance with the constant added. -/
theorem rsqrt_var (f : ι → ℝ) :
    Ideal.rsqrt (((var f : ℝ) : EReal) + ((eps : ℝ) : EReal)) = ((1 / Real.sqrt (var f + eps) : ℝ) : EReal) := by
  have h : 0 < var f + eps := add_pos_of_nonneg_of_pos (var_nonneg f) (by unfold eps; norm_num)
  rw [← EReal.coe_add, Ideal.rsqrt_coe, if_neg (not_lt.mpr h.le), if_neg h.ne', one_div]

/-- The number zero as a word, converted. -/
theorem conv_zero : (FloatOps.sitofp (F := Ideal) .f32 (0#32) : EReal) = ((0 : ℝ) : EReal) := by
  simp [FloatOps.sitofp]

/-- The guard on the number of terms. -/
theorem guard {N : ℝ} (h : 0 < N) (a b : EReal) : (if (0 : EReal) < ((N : ℝ) : EReal) then a else b) = a :=
  if_pos (by exact_mod_cast h)

theorem card_edges : (Fintype.card (Fin 16 × Fin 1024 × Fin 20) : ℝ) = 327680 := by simp
theorem card_points : (Fintype.card (Fin 16 × Fin 1024) : ℝ) = 16384 := by simp

end Cert.Net

end
-- ==== Proof.Net.Args.lean ====
/- The arguments as real numbers: what it means for twenty-five arrays to hold a network's parameters. -/
module

public import proofs.«01_k».proof.Proof.Net.Model
public import proofs.«01_k».proof.Proof.Net.Sums

@[expose] public section

noncomputable section

namespace Cert.Net

open Idealize.ShloMosaic Idealize.ShloMosaic.Pointwise

/-- The arrays hold the parameters `P`, entry by entry. -/
structure IsPar (P : Par) (a0 : (⟨3, ![16, 6, 1024]⟩ : Shape).Idx → EReal) (a1 : (⟨2, ![64, 12]⟩ : Shape).Idx → EReal) (a2 : (⟨1, ![64]⟩ : Shape).Idx → EReal) (a3 : (⟨1, ![64]⟩ : Shape).Idx → EReal) (a4 : (⟨2, ![64, 64]⟩ : Shape).Idx → EReal) (a5 : (⟨1, ![64]⟩ : Shape).Idx → EReal) (a6 : (⟨1, ![64]⟩ : Shape).Idx → EReal) (a7 : (⟨2, ![64, 128]⟩ : Shape).Idx → EReal) (a8 : (⟨1, ![64]⟩ : Shape).Idx → EReal) (a9 : (⟨1, ![64]⟩ : Shape).Idx → EReal) (a10 : (⟨2, ![64, 64]⟩ : Shape).Idx → EReal) (a11 : (⟨1, ![64]⟩ : Shape).Idx → EReal) (a12 : (⟨1, ![64]⟩ : Shape).Idx → EReal) (a13 : (⟨2, ![64, 128]⟩ : Shape).Idx → EReal) (a14 : (⟨1, ![64]⟩ : Shape).Idx → EReal) (a15 : (⟨1, ![64]⟩ : Shape).Idx → EReal) (a16 : (⟨2, ![1024, 192]⟩ : Shape).Idx → EReal) (a17 : (⟨1, ![1024]⟩ : Shape).Idx → EReal) (a18 : (⟨1, ![1024]⟩ : Shape).Idx → EReal) (a19 : (⟨2, ![512, 1216]⟩ : Shape).Idx → EReal) (a20 : (⟨1, ![512]⟩ : Shape).Idx → EReal) (a21 : (⟨1, ![512]⟩ : Shape).Idx → EReal) (a22 : (⟨2, ![256, 512]⟩ : Shape).Idx → EReal) (a23 : (⟨1, ![256]⟩ : Shape).Idx → EReal) (a24 : (⟨1, ![256]⟩ : Shape).Idx → EReal) : Prop where
  x : ∀ (i : Fin 16) (j : Fin 6) (k : Fin 1024), a0 (ix3 i j k) = ((P.x i j k : ℝ) : EReal)
  W1 : ∀ (i : Fin 64) (j : Fin (6 + 6)), a1 (ix2 i j) = ((P.W1 i j : ℝ) : EReal)
  g1 : ∀ (i : Fin 64), a2 (ix1 i) = ((P.g1 i : ℝ) : EReal)
  b1 : ∀ (i : Fin 64), a3 (ix1 i) = ((P.b1 i : ℝ) : EReal)
  W1b : ∀ (i : Fin 64) (j : Fin (64)), a4 (ix2 i j) = ((P.W1b i j : ℝ) : EReal)
  g1b : ∀ (i : Fin 64), a5 (ix1 i) = ((P.g1b i : ℝ) : EReal)
  b1b : ∀ (i : Fin 64), a6 (ix1 i) = ((P.b1b i : ℝ) : EReal)
  W2 : ∀ (i : Fin 64) (j : Fin (64 + 64)), a7 (ix2 i j) = ((P.W2 i j : ℝ) : EReal)
  g2 : ∀ (i : Fin 64), a8 (ix1 i) = ((P.g2 i : ℝ) : EReal)
  b2 : ∀ (i : Fin 64), a9 (ix1 i) = ((P.b2 i : ℝ) : EReal)
  W2b : ∀ (i : Fin 64) (j : Fin (64)), a10 (ix2 i j) = ((P.W2b i j : ℝ) : EReal)
  g2b : ∀ (i : Fin 64), a11 (ix1 i) = ((P.g2b i : ℝ) : EReal)
  b2b : ∀ (i : Fin 64), a12 (ix1 i) = ((P.b2b i : ℝ) : EReal)
  W3 : ∀ (i : Fin 64) (j : Fin (64 + 64)), a13 (ix2 i j) = ((P.W3 i j : ℝ) : EReal)
  g3 : ∀ (i : Fin 64), a14 (ix1 i) = ((P.g3 i : ℝ) : EReal)
  b3 : ∀ (i : Fin 64), a15 (ix1 i) = ((P.b3 i : ℝ) : EReal)
  W5 : ∀ (i : Fin 1024) (j : Fin (192)), a16 (ix2 i j) = ((P.W5 i j : ℝ) : EReal)
  g5 : ∀ (i : Fin 1024), a17 (ix1 i) = ((P.g5 i : ℝ) : EReal)
  b5 : ∀ (i : Fin 1024), a18 (ix1 i) = ((P.b5 i : ℝ) : EReal)
  W6 : ∀ (i : Fin 512) (j : Fin (1024 + 192)), a19 (ix2 i j) = ((P.W6 i j : ℝ) : EReal)
  g6 : ∀ (i : Fin 512), a20 (ix1 i) = ((P.g6 i : ℝ) : EReal)
  b6 : ∀ (i : Fin 512), a21 (ix1 i) = ((P.b6 i : ℝ) : EReal)
  W7 : ∀ (i : Fin 256) (j : Fin (512)), a22 (ix2 i j) = ((P.W7 i j : ℝ) : EReal)
  g7 : ∀ (i : Fin 256), a23 (ix1 i) = P.g7 i
  b7 : ∀ (i : Fin 256), a24 (ix1 i) = P.b7 i

end Cert.Net

end
-- ==== Proof.Net.Real.lean ====
/- What the precondition says of the arguments: they are the entries of a network's real parameters. -/
module

public import proofs.«01_k».proof.Proof.Net.Args
public import proofs.«01_k».proof.Proof.Net.Consts
public import proofs.«01_k».proof.Proof.Gen.Pre_finite_and_increasing
public import Idealize.ShloMosaic.Lib.ReduceAll
public import Idealize.ShloMosaic.Lib.StableHlo.ReadAt

@[expose] public section

set_option synthInstance.maxSize 4096
set_option maxRecDepth 16384

noncomputable section

namespace Cert.Net

open Idealize.ShloMosaic Idealize.ShloMosaic.Pointwise Cert.Pre_finite_and_increasing

variable {s : Shape} {axes : List (Fin s.rank)}

/-- An array whose every entry is below infinity in absolute value has real entries. -/
theorem real_of (a : FVec Ideal s .f32) (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32))) (constantI S_ 1 1#1) hr hu (fun k => k.elim0) = 1#1)
    (i : s.Idx) : a i = (((a i : EReal).toReal : ℝ) : EReal) := by
  have : Subsingleton S_.Idx := ⟨fun p q => funext fun k => k.elim0⟩
  have t : Ideal.cmp .olt (max (a i : EReal) (-(a i : EReal))) (Ideal.ofBits .f32 0x7F800000#32) = 1#1 :=
    Host.reduce_andi_all _ _ hr hu _ e i
  have htop : Ideal.ofBits .f32 0x7F800000#32 = ⊤ := by simp [Ideal.ofBits, Ideal.ieee]
  rw [htop] at t
  have lt : max (a i : EReal) (-(a i : EReal)) < ⊤ := by
    by_contra hn
    simp [Ideal.cmp, hn] at t
  have l := max_lt_iff.1 lt
  refine (EReal.coe_toReal l.1.ne fun hbot => ?_).symm
  rw [hbot] at l
  simp at l

/-- An array whose every entry is at least zero, read as real numbers, is not negative. -/
theorem nonneg_of (a : FVec Ideal s .f32) (hb : S_.BroadcastsInDim s (![] : Fin 0 → Fin s.rank)) (hr : s.ReducesTo axes S_) (hu : 0 < S_.numel)
    (e : Host.reduce IntOp.andi (cmpf .oge a (broadcastInDim s ![] hb (constant (F := Ideal) S_ .f32 0x00000000#32))) (constantI S_ 1 1#1) hr hu (fun k => k.elim0) = 1#1)
    (i : s.Idx) : 0 ≤ (a i : EReal).toReal := by
  have : Subsingleton S_.Idx := ⟨fun p q => funext fun k => k.elim0⟩
  have t : Ideal.cmp .oge (a i : EReal) (Ideal.ofBits .f32 0x00000000#32) = 1#1 :=
    Host.reduce_andi_all _ _ hr hu _ e i
  rw [lit_zero] at t
  refine EReal.toReal_nonneg ?_
  by_contra hn
  simp [Ideal.cmp, hn] at t

/-- Arguments of which the precondition holds are a network's parameters. -/
theorem par_of (a0 : FVec Ideal S16x6x1024 .f32) (a1 : FVec Ideal S64x12 .f32) (a2 : FVec Ideal S64 .f32) (a3 : FVec Ideal S64 .f32) (a4 : FVec Ideal S64x64 .f32) (a5 : FVec Ideal S64 .f32) (a6 : FVec Ideal S64 .f32) (a7 : FVec Ideal S64x128 .f32) (a8 : FVec Ideal S64 .f32) (a9 : FVec Ideal S64 .f32) (a10 : FVec Ideal S64x64 .f32) (a11 : FVec Ideal S64 .f32) (a12 : FVec Ideal S64 .f32) (a13 : FVec Ideal S64x128 .f32) (a14 : FVec Ideal S64 .f32) (a15 : FVec Ideal S64 .f32) (a16 : FVec Ideal S1024x192 .f32) (a17 : FVec Ideal S1024 .f32) (a18 : FVec Ideal S1024 .f32) (a19 : FVec Ideal S512x1216 .f32) (a20 : FVec Ideal S512 .f32) (a21 : FVec Ideal S512 .f32) (a22 : FVec Ideal S256x512 .f32) (a23 : FVec Ideal S256 .f32) (a24 : FVec Ideal S256 .f32) (a25 : FVec Ideal S128x256 .f32) (a26 : FVec Ideal S1x128 .f32) (a27 : FVec Ideal S128x256 .f32)
    (h : Cert.Pre_finite_and_increasing.fn (F := Ideal) a0 a1 a2 a3 a4 a5 a6 a7 a8 a9 a10 a11 a12 a13 a14 a15 a16 a17 a18 a19 a20 a21 a22 a23 a24 a25 a26 a27 = fun _ => 1#1) :
    ∃ P : Par, IsPar P a0 a1 a2 a3 a4 a5 a6 a7 a8 a9 a10 a11 a12 a13 a14 a15 a16 a17 a18 a19 a20 a21 a22 a23 a24 := by
  have e := congrFun h (fun k => k.elim0)
  simp only [fn, fn_part1, fn_part2, fn_part3, fn_part4, fn_part5, fn_part6, fn_part7, andi, IntOp.andi_eq_one, and_assoc] at e
  obtain ⟨-, h0, h1, h2, h3, h4, h5, h6, h7, h8, h9, h10, h11, h12, h13, h14, h15, h16, h17, h18, h19, h20, h21, h22, n5, n11, n14, n17⟩ := e
  exact ⟨{
      x := fun i j k => (a0 (ix3 i j k)).toReal,
      W1 := fun i j => (a1 (ix2 i j)).toReal,
      g1 := fun i => (a2 (ix1 i)).toReal,
      b1 := fun i => (a3 (ix1 i)).toReal,
      W1b := fun i j => (a4 (ix2 i j)).toReal,
      g1b := fun i => (a5 (ix1 i)).toReal,
      b1b := fun i => (a6 (ix1 i)).toReal,
      W2 := fun i j => (a7 (ix2 i j)).toReal,
      g2 := fun i => (a8 (ix1 i)).toReal,
      b2 := fun i => (a9 (ix1 i)).toReal,
      W2b := fun i j => (a10 (ix2 i j)).toReal,
      g2b := fun i => (a11 (ix1 i)).toReal,
      b2b := fun i => (a12 (ix1 i)).toReal,
      W3 := fun i j => (a13 (ix2 i j)).toReal,
      g3 := fun i => (a14 (ix1 i)).toReal,
      b3 := fun i => (a15 (ix1 i)).toReal,
      W5 := fun i j => (a16 (ix2 i j)).toReal,
      g5 := fun i => (a17 (ix1 i)).toReal,
      b5 := fun i => (a18 (ix1 i)).toReal,
      W6 := fun i j => (a19 (ix2 i j)).toReal,
      g6 := fun i => (a20 (ix1 i)).toReal,
      b6 := fun i => (a21 (ix1 i)).toReal,
      W7 := fun i j => (a22 (ix2 i j)).toReal,
      g7 := fun i => a23 (ix1 i),
      b7 := fun i => a24 (ix1 i),
      hg1b := fun o => nonneg_of a5 _ _ _ n5 (ix1 o),
      hg2b := fun o => nonneg_of a11 _ _ _ n11 (ix1 o),
      hg3 := fun o => nonneg_of a14 _ _ _ n14 (ix1 o),
      hg5 := fun o => nonneg_of a17 _ _ _ n17 (ix1 o) }, {
      x := fun i j k => real_of a0 _ _ _ h0 (ix3 i j k),
      W1 := fun i j => real_of a1 _ _ _ h1 (ix2 i j),
      g1 := fun i => real_of a2 _ _ _ h2 (ix1 i),
      b1 := fun i => real_of a3 _ _ _ h3 (ix1 i),
      W1b := fun i j => real_of a4 _ _ _ h4 (ix2 i j),
      g1b := fun i => real_of a5 _ _ _ h5 (ix1 i),
      b1b := fun i => real_of a6 _ _ _ h6 (ix1 i),
      W2 := fun i j => real_of a7 _ _ _ h7 (ix2 i j),
      g2 := fun i => real_of a8 _ _ _ h8 (ix1 i),
      b2 := fun i => real_of a9 _ _ _ h9 (ix1 i),
      W2b := fun i j => real_of a10 _ _ _ h10 (ix2 i j),
      g2b := fun i => real_of a11 _ _ _ h11 (ix1 i),
      b2b := fun i => real_of a12 _ _ _ h12 (ix1 i),
      W3 := fun i j => real_of a13 _ _ _ h13 (ix2 i j),
      g3 := fun i => real_of a14 _ _ _ h14 (ix1 i),
      b3 := fun i => real_of a15 _ _ _ h15 (ix1 i),
      W5 := fun i j => real_of a16 _ _ _ h16 (ix2 i j),
      g5 := fun i => real_of a17 _ _ _ h17 (ix1 i),
      b5 := fun i => real_of a18 _ _ _ h18 (ix1 i),
      W6 := fun i j => real_of a19 _ _ _ h19 (ix2 i j),
      g6 := fun i => real_of a20 _ _ _ h20 (ix1 i),
      b6 := fun i => real_of a21 _ _ _ h21 (ix1 i),
      W7 := fun i j => real_of a22 _ _ _ h22 (ix2 i j),
      g7 := fun _ => rfl,
      b7 := fun _ => rfl }⟩

end Cert.Net

end
-- ==== Proof.Net.Rounds.lean ====
/- The kernel's twenty rounds of "take the greatest of every row, then strike it out", written once: one round as a vector
   function, its iterates, and what a round stores. The three kernels that run the rounds unrolled store exactly these. -/
module

public import proofs.«01_k».proof.Proof.Gen.KernelIdeal.Frame

@[expose] public section

set_option synthInstance.maxSize 4096
set_option maxRecDepth 16384

noncomputable section

namespace Cert.Net

open Idealize.ShloMosaic Idealize.SL.Sem Cert.KernelIdeal Cert.KernelIdeal.Gen

variable {F : FTy → Type} [FloatOps F] [Named F]

/-- Every entry's column. -/
def cols : IVec S1024x1024 32 := iota .tc S1024x1024 32 [1] iota_S1024x1024_d1_w32

/-- Every row's greatest entry, along the row. -/
def rowMax (w : FVec F S1024x1024 .f32) : FVec F S1024x1024 .f32 :=
  broadcastTo S1024x1024 (shapeCast S1024x1 (multiReduction .maximumf [1] S1024 w 0xFF800000#32 reduces_S1024x1024_S1024
    (.inl rfl) rfl) shapeCasts_S1024_S1024x1) broadcasts_S1024x1_S1024x1024

/-- Where an entry is its row's greatest. -/
def isMax (w : FVec F S1024x1024 .f32) : IVec S1024x1024 1 := cmpf .oeq w (rowMax w)

/-- Every row's first column among the marked ones. -/
def firstCol (k : IVec S1024x1024 1) : IVec S1024 32 :=
  multiReductionI .minsi [1] S1024 (select k cols (broadcast S1024x1024 1024#32)) 2147483647#32
    reduces_S1024x1024_S1024 rfl

/-- The entry of every row in the given column. -/
def atCol (v : IVec S1024 32) : IVec S1024x1024 1 :=
  cmpi .eq cols (broadcastTo S1024x1024 (shapeCast S1024x1 v shapeCasts_S1024_S1024x1) broadcasts_S1024x1_S1024x1024)

/-- Every row's first greatest entry. -/
def hit (w : FVec F S1024x1024 .f32) : IVec S1024x1024 1 := atCol (firstCol (isMax w))

/-- Those entries struck out. -/
def step (w : FVec F S1024x1024 .f32) : FVec F S1024x1024 .f32 :=
  select (hit w) (broadcast S1024x1024 (Named.named κ "neg" 0xF149F2CA#32)) w

/-- The array after `j` rounds. -/
def rounds (w : FVec F S1024x1024 .f32) : ℕ → FVec F S1024x1024 .f32
  | 0 => w
  | j + 1 => step (rounds w j)

/-- The marks of a round as numbers. -/
def marks (k : IVec S1024x1024 1) : FVec F S1024x1024 .bf16 :=
  truncf .bf16 (sitofp (F := F) .f32 (extui 32 k natLt_1_32)) bitsLt_bf16_f32

/-- The rows the marks pick, of an array given in three parts (eight channels). -/
def picked8 (k : IVec S1024x1024 1) (a b c : FVec F S1024x8 .bf16) : FVec F S1024x8 .f32 :=
  addf (addf (matmul dot_S1024x1024_S1024x8_S1024x8_1_0_0_1_n_n none (marks k) a (constant S1024x8 .f32 0x00000000#32))
      (matmul dot_S1024x1024_S1024x8_S1024x8_1_0_0_1_n_n none (marks k) b (constant S1024x8 .f32 0x00000000#32)))
    (matmul dot_S1024x1024_S1024x8_S1024x8_1_0_0_1_n_n none (marks k) c (constant S1024x8 .f32 0x00000000#32))

/-- The same of 64 channels. -/
def picked64 (k : IVec S1024x1024 1) (a b c : FVec F S1024x64 .bf16) : FVec F S1024x64 .f32 :=
  addf (addf (matmul dot_S1024x1024_S1024x64_S1024x64_1_0_0_1_n_n none (marks k) a (constant S1024x64 .f32 0x00000000#32))
      (matmul dot_S1024x1024_S1024x64_S1024x64_1_0_0_1_n_n none (marks k) b (constant S1024x64 .f32 0x00000000#32)))
    (matmul dot_S1024x1024_S1024x64_S1024x64_1_0_0_1_n_n none (marks k) c (constant S1024x64 .f32 0x00000000#32))

/-- The edge convolution of six channels from the picked rows, the points and the padded weight. -/
def conv8 (f x : FVec F S1024x8 .f32) (w : FVec F S64x16 .f32) : FVec F S1024x64 .f32 :=
  matmul dot_S1024x16_S64x16_S1024x64_1_1_0_0_n_n none
    (concatenate S1024x16 1 [⟨S1024x6, extractStridedSlice S1024x6 ![0, 0] (subf f x) slices_S1024x8_o0_0_S1024x6⟩,
      ⟨S1024x6, extractStridedSlice S1024x6 ![0, 0] x slices_S1024x8_o0_0_S1024x6⟩,
      ⟨S1024x4, broadcast S1024x4 (Scalar.ofBits (F := F) .f32 0x00000000#32)⟩]
      concatenates_S1024x6_S1024x6_S1024x4_S1024x16_d1) w (constant S1024x64 .f32 0x00000000#32)

/-- The edge convolution of 64 channels. -/
def conv64 (f x : FVec F S1024x64 .f32) (w : Vec F S64x128 .f32) : FVec F S1024x64 .f32 :=
  matmul (φ₁ := .f32) (φ₂ := .f32) dot_S1024x128_S64x128_S1024x64_1_1_0_0_n_n none
    (concatenate S1024x128 1 [⟨S1024x64, subf f x⟩, ⟨S1024x64, x⟩] concatenates_S1024x64_S1024x64_S1024x128_d1) w
    (constant S1024x64 .f32 0x00000000#32)

/-- What round `j` stores in the first kernel. -/
def piece8 (x0 : Vec F S1x1024x8 .f32) (x1 : Vec F S64x16 .f32) (j : ℕ) : FVec F S1x1x1024x64 .f32 :=
  shapeCast S1x1x1024x64 (conv8 (picked8 (hit (rounds (k0_pay88 x0 x1) j)) (k0_pay90 x0 x1) (k0_pay91 x0 x1) (k0_pay92 x0 x1))
    (k0_pay87 x0 x1) (k0_pay89 x0 x1)) shapeCasts_S1024x64_S1x1x1024x64

section first

variable (x0 : Vec F S1x1024x8 .f32) (x1 : Vec F S64x16 .f32)

theorem k0_95 : k0_pay95 x0 x1 = rounds (k0_pay88 x0 x1) 2 := rfl
theorem k0_96 : k0_pay96 x0 x1 = rounds (k0_pay88 x0 x1) 3 := by
  unfold k0_pay96; rw [k0_95]; rfl
theorem k0_97 : k0_pay97 x0 x1 = isMax (rounds (k0_pay88 x0 x1) 3) := by
  unfold k0_pay97; rw [k0_95]; rfl
theorem k0_99 : k0_pay99 x0 x1 = rounds (k0_pay88 x0 x1) 5 := by
  unfold k0_pay99; rw [k0_96, k0_97]; rfl
theorem k0_100 : k0_pay100 x0 x1 = rounds (k0_pay88 x0 x1) 6 := by
  unfold k0_pay100; rw [k0_99]; rfl
theorem k0_101 : k0_pay101 x0 x1 = rowMax (rounds (k0_pay88 x0 x1) 6) := by
  unfold k0_pay101; rw [k0_99]; rfl
theorem k0_102 : k0_pay102 x0 x1 = rounds (k0_pay88 x0 x1) 8 := by
  unfold k0_pay102; rw [k0_100, k0_101]; rfl
theorem k0_103 : k0_pay103 x0 x1 = rounds (k0_pay88 x0 x1) 9 := by
  unfold k0_pay103; rw [k0_102]; rfl
theorem k0_104 : k0_pay104 x0 x1 = rounds (k0_pay88 x0 x1) 11 := by
  unfold k0_pay104; rw [k0_103]; rfl
theorem k0_105 : k0_pay105 x0 x1 = rounds (k0_pay88 x0 x1) 12 := by
  unfold k0_pay105; rw [k0_104]; rfl
theorem k0_106 : k0_pay106 x0 x1 = rounds (k0_pay88 x0 x1) 14 := by
  unfold k0_pay106; rw [k0_105]; rfl
theorem k0_107 : k0_pay107 x0 x1 = rounds (k0_pay88 x0 x1) 15 := by
  unfold k0_pay107; rw [k0_106]; rfl
theorem k0_108 : k0_pay108 x0 x1 = rounds (k0_pay88 x0 x1) 16 := by
  unfold k0_pay108; rw [k0_107]; rfl
theorem k0_109 : k0_pay109 x0 x1 = hit (rounds (k0_pay88 x0 x1) 16) := by
  unfold k0_pay109; rw [k0_107]; rfl
theorem k0_110 : k0_pay110 x0 x1 = rounds (k0_pay88 x0 x1) 18 := by
  unfold k0_pay110; rw [k0_108, k0_109]; rfl

/-- The first kernel's stores, one a round. -/
theorem out0_3_eq : out0_3 x0 x1 = View.canon [⟨r0_22, piece8 x0 x1 19⟩, ⟨r0_21, piece8 x0 x1 18⟩,
    ⟨r0_20, piece8 x0 x1 17⟩, ⟨r0_19, piece8 x0 x1 16⟩, ⟨r0_18, piece8 x0 x1 15⟩, ⟨r0_17, piece8 x0 x1 14⟩,
    ⟨r0_16, piece8 x0 x1 13⟩, ⟨r0_15, piece8 x0 x1 12⟩, ⟨r0_14, piece8 x0 x1 11⟩, ⟨r0_13, piece8 x0 x1 10⟩,
    ⟨r0_12, piece8 x0 x1 9⟩, ⟨r0_11, piece8 x0 x1 8⟩, ⟨r0_10, piece8 x0 x1 7⟩, ⟨r0_9, piece8 x0 x1 6⟩,
    ⟨r0_8, piece8 x0 x1 5⟩, ⟨r0_7, piece8 x0 x1 4⟩, ⟨r0_6, piece8 x0 x1 3⟩, ⟨r0_5, piece8 x0 x1 2⟩,
    ⟨r0_4, piece8 x0 x1 1⟩, ⟨r0_3, piece8 x0 x1 0⟩] := by
  unfold out0_3
  rw [k0_95, k0_96, k0_97, k0_99, k0_100, k0_101, k0_102, k0_103, k0_104, k0_105, k0_106, k0_107, k0_108, k0_109, k0_110]
  rfl

end first

/-- What round `j` convolves, from 64 channels. -/
def row64 (pd : FVec F S1024x1024 .f32) (a b c : FVec F S1024x64 .bf16) (x : FVec F S1024x64 .f32) (w : Vec F S64x128 .f32)
    (j : ℕ) : FVec F S1024x64 .f32 :=
  conv64 (picked64 (hit (rounds pd j)) a b c) x w

/-- What round `j` stores in the third kernel. -/
def piece64 (x0 : Vec F S1x1024x64 .f32) (x1 : Vec F S4x64 .f32) (x2 : Vec F S64x128 .f32) (j : ℕ) : FVec F S1x1x1024x64 .f32 :=
  shapeCast S1x1x1024x64 (row64 (k2_pay83 x0 x1 x2) (k2_pay84 x0 x1 x2) (k2_pay85 x0 x1 x2) (k2_pay86 x0 x1 x2)
    (k2_pay82 x0 x1 x2) (View.ld x2 r2_2) j) shapeCasts_S1024x64_S1x1x1024x64

section third

variable (x0 : Vec F S1x1024x64 .f32) (x1 : Vec F S4x64 .f32) (x2 : Vec F S64x128 .f32)

theorem k2_87 : k2_pay87 x0 x1 x2 = rowMax (k2_pay83 x0 x1 x2) := by
  unfold k2_pay87; rfl
theorem k2_88 : k2_pay88 x0 x1 x2 = rounds (k2_pay83 x0 x1 x2) 2 := by
  unfold k2_pay88; rw [k2_87]; rfl
theorem k2_89 : k2_pay89 x0 x1 x2 = rounds (k2_pay83 x0 x1 x2) 3 := by
  unfold k2_pay89; rw [k2_88]; rfl
theorem k2_90 : k2_pay90 x0 x1 x2 = isMax (rounds (k2_pay83 x0 x1 x2) 3) := by
  unfold k2_pay90; rw [k2_88]; rfl
theorem k2_92 : k2_pay92 x0 x1 x2 = rounds (k2_pay83 x0 x1 x2) 5 := by
  unfold k2_pay92; rw [k2_89, k2_90]; rfl
theorem k2_93 : k2_pay93 x0 x1 x2 = rounds (k2_pay83 x0 x1 x2) 6 := by
  unfold k2_pay93; rw [k2_92]; rfl
theorem k2_94 : k2_pay94 x0 x1 x2 = firstCol (isMax (rounds (k2_pay83 x0 x1 x2) 6)) := by
  unfold k2_pay94; rw [k2_92]; rfl
theorem k2_95 : k2_pay95 x0 x1 x2 = rounds (k2_pay83 x0 x1 x2) 8 := by
  unfold k2_pay95; rw [k2_93, k2_94]; rfl
theorem k2_96 : k2_pay96 x0 x1 x2 = rounds (k2_pay83 x0 x1 x2) 9 := by
  unfold k2_pay96; rw [k2_95]; rfl
theorem k2_97 : k2_pay97 x0 x1 x2 = hit (rounds (k2_pay83 x0 x1 x2) 9) := by
  unfold k2_pay97; rw [k2_95]; rfl
theorem k2_98 : k2_pay98 x0 x1 x2 = rounds (k2_pay83 x0 x1 x2) 11 := by
  unfold k2_pay98; rw [k2_96, k2_97]; rfl
theorem k2_99 : k2_pay99 x0 x1 x2 = rounds (k2_pay83 x0 x1 x2) 13 := by
  unfold k2_pay99; rw [k2_98]; rfl
theorem k2_100 : k2_pay100 x0 x1 x2 = rounds (k2_pay83 x0 x1 x2) 14 := by
  unfold k2_pay100; rw [k2_99]; rfl
theorem k2_101 : k2_pay101 x0 x1 x2 = rounds (k2_pay83 x0 x1 x2) 16 := by
  unfold k2_pay101; rw [k2_100]; rfl
theorem k2_102 : k2_pay102 x0 x1 x2 = rounds (k2_pay83 x0 x1 x2) 17 := by
  unfold k2_pay102; rw [k2_101]; rfl

/-- The third kernel's stores, one a round. -/
theorem out2_3_eq : out2_3 x0 x1 x2 = View.canon [⟨r2_22, piece64 x0 x1 x2 19⟩,
    ⟨r2_21, piece64 x0 x1 x2 18⟩,
    ⟨r2_20, piece64 x0 x1 x2 17⟩,
    ⟨r2_19, piece64 x0 x1 x2 16⟩,
    ⟨r2_18, piece64 x0 x1 x2 15⟩,
    ⟨r2_17, piece64 x0 x1 x2 14⟩,
    ⟨r2_16, piece64 x0 x1 x2 13⟩,
    ⟨r2_15, piece64 x0 x1 x2 12⟩,
    ⟨r2_14, piece64 x0 x1 x2 11⟩,
    ⟨r2_13, piece64 x0 x1 x2 10⟩,
    ⟨r2_12, piece64 x0 x1 x2 9⟩,
    ⟨r2_11, piece64 x0 x1 x2 8⟩,
    ⟨r2_10, piece64 x0 x1 x2 7⟩,
    ⟨r2_9, piece64 x0 x1 x2 6⟩,
    ⟨r2_8, piece64 x0 x1 x2 5⟩,
    ⟨r2_7, piece64 x0 x1 x2 4⟩,
    ⟨r2_6, piece64 x0 x1 x2 3⟩,
    ⟨r2_5, piece64 x0 x1 x2 2⟩,
    ⟨r2_4, piece64 x0 x1 x2 1⟩,
    ⟨r2_3, piece64 x0 x1 x2 0⟩] := by
  unfold out2_3
  rw [k2_87, k2_88, k2_89, k2_90, k2_92, k2_93, k2_94, k2_95, k2_96, k2_97, k2_98, k2_99, k2_100, k2_101, k2_102]
  rfl

end third

/-- The greatest of the first `j` rounds' rows, from the floor up. -/
def accMax (c : ℕ → FVec F S1024x64 .f32) : ℕ → FVec F S1024x64 .f32
  | 0 => broadcast S1024x64 (Named.named κ "neg" 0xF149F2CA#32)
  | j + 1 => maximumf (accMax c j) (c j)

/-- The sum over the points of the first `j` rounds' rows. -/
def accSum (c : ℕ → FVec F S1024x64 .f32) : ℕ → FVec F S1x64 .f32
  | 0 => broadcast S1x64 (Scalar.ofBits (F := F) .f32 0x00000000#32)
  | j + 1 => addf (accSum c j) (shapeCast S1x64 (multiReduction .add [0] S64 (c j) 0x00000000#32 reduces_S1024x64_S64
      (.inl rfl) rfl) shapeCasts_S64_S1x64)

section fifth

variable (x0 : Vec F S1x1024x64 .f32) (x1 : Vec F S4x64 .f32) (x2 : Vec F S64x128 .f32)

/-- What round `j` of the fifth kernel convolves. -/
def row5 (j : ℕ) : FVec F S1024x64 .f32 :=
  row64 (k4_pay126 x0 x1 x2) (k4_pay127 x0 x1 x2) (k4_pay128 x0 x1 x2) (k4_pay129 x0 x1 x2) (k4_pay125 x0 x1 x2)
    (View.ld x2 r4_2) j

theorem k4_130 : k4_pay130 x0 x1 x2 = rounds (k4_pay126 x0 x1 x2) 2 := by
  unfold k4_pay130; rfl
theorem k4_131 : k4_pay131 x0 x1 x2 = extui 32 (hit (rounds (k4_pay126 x0 x1 x2) 1)) natLt_1_32 := by
  unfold k4_pay131; rfl
theorem k4_132 : k4_pay132 x0 x1 x2 = rounds (k4_pay126 x0 x1 x2) 3 := by
  unfold k4_pay132; rw [k4_130]; rfl
theorem k4_133 : k4_pay133 x0 x1 x2 = rounds (k4_pay126 x0 x1 x2) 4 := by
  unfold k4_pay133; rw [k4_132]; rfl
theorem k4_134 : k4_pay134 x0 x1 x2 = hit (rounds (k4_pay126 x0 x1 x2) 4) := by
  unfold k4_pay134; rw [k4_132]; rfl
theorem k4_135 : k4_pay135 x0 x1 x2 = rounds (k4_pay126 x0 x1 x2) 6 := by
  unfold k4_pay135; rw [k4_133, k4_134]; rfl
theorem k4_136 : k4_pay136 x0 x1 x2 = row5 x0 x1 x2 5 := by
  unfold k4_pay136; rw [k4_133, k4_134]; rfl
theorem k4_137 : k4_pay137 x0 x1 x2 = rounds (k4_pay126 x0 x1 x2) 7 := by
  unfold k4_pay137; rw [k4_135]; rfl
theorem k4_138 : k4_pay138 x0 x1 x2 = shapeCast S1024x1 (firstCol (isMax (rounds (k4_pay126 x0 x1 x2) 7))) shapeCasts_S1024_S1024x1 := by
  unfold k4_pay138; rw [k4_135]; rfl
theorem k4_140 : k4_pay140 x0 x1 x2 = rounds (k4_pay126 x0 x1 x2) 9 := by
  unfold k4_pay140; rw [k4_137, k4_138]; rfl
theorem k4_141 : k4_pay141 x0 x1 x2 = concatenate S1024x128 1 [⟨S1024x64, subf (picked64 (hit (rounds (k4_pay126 x0 x1 x2) 8)) (k4_pay127 x0 x1 x2) (k4_pay128 x0 x1 x2) (k4_pay129 x0 x1 x2)) (k4_pay125 x0 x1 x2)⟩, ⟨S1024x64, k4_pay125 x0 x1 x2⟩]
    concatenates_S1024x64_S1024x64_S1024x128_d1 := by
  unfold k4_pay141; rw [k4_137, k4_138]; rfl
theorem k4_142 : k4_pay142 x0 x1 x2 = rounds (k4_pay126 x0 x1 x2) 10 := by
  unfold k4_pay142; rw [k4_140]; rfl
theorem k4_143 : k4_pay143 x0 x1 x2 = select (isMax (rounds (k4_pay126 x0 x1 x2) 10)) cols (broadcast S1024x1024 1024#32) := by
  unfold k4_pay143; rw [k4_140]; rfl
theorem k4_144 : k4_pay144 x0 x1 x2 = rounds (k4_pay126 x0 x1 x2) 12 := by
  unfold k4_pay144; rw [k4_142, k4_143]; rfl
theorem k4_145 : k4_pay145 x0 x1 x2 = picked64 (hit (rounds (k4_pay126 x0 x1 x2) 11)) (k4_pay127 x0 x1 x2) (k4_pay128 x0 x1 x2) (k4_pay129 x0 x1 x2) := by
  unfold k4_pay145; rw [k4_142, k4_143]; rfl
theorem k4_146 : k4_pay146 x0 x1 x2 = rounds (k4_pay126 x0 x1 x2) 13 := by
  unfold k4_pay146; rw [k4_144]; rfl
theorem k4_147 : k4_pay147 x0 x1 x2 = isMax (rounds (k4_pay126 x0 x1 x2) 13) := by
  unfold k4_pay147; rw [k4_144]; rfl
theorem k4_148 : k4_pay148 x0 x1 x2 = rounds (k4_pay126 x0 x1 x2) 15 := by
  unfold k4_pay148; rw [k4_146, k4_147]; rfl
theorem k4_149 : k4_pay149 x0 x1 x2 = marks (hit (rounds (k4_pay126 x0 x1 x2) 14)) := by
  unfold k4_pay149; rw [k4_146, k4_147]; rfl
theorem k4_150 : k4_pay150 x0 x1 x2 = addf (matmul dot_S1024x1024_S1024x64_S1024x64_1_0_0_1_n_n none (marks (hit (rounds (k4_pay126 x0 x1 x2) 14))) (k4_pay127 x0 x1 x2) (constant S1024x64 .f32 0x00000000#32))
    (matmul dot_S1024x1024_S1024x64_S1024x64_1_0_0_1_n_n none (marks (hit (rounds (k4_pay126 x0 x1 x2) 14))) (k4_pay128 x0 x1 x2) (constant S1024x64 .f32 0x00000000#32)) := by
  unfold k4_pay150; rw [k4_146, k4_147]; rfl
theorem k4_151 : k4_pay151 x0 x1 x2 = rounds (k4_pay126 x0 x1 x2) 16 := by
  unfold k4_pay151; rw [k4_148]; rfl
theorem k4_152 : k4_pay152 x0 x1 x2 = multiReduction .maximumf [1] S1024 (rounds (k4_pay126 x0 x1 x2) 16) 0xFF800000#32 reduces_S1024x1024_S1024 (.inl rfl) rfl := by
  unfold k4_pay152; rw [k4_148]; rfl
theorem k4_153 : k4_pay153 x0 x1 x2 = rounds (k4_pay126 x0 x1 x2) 18 := by
  unfold k4_pay153; rw [k4_151, k4_152]; rfl
theorem k4_154 : k4_pay154 x0 x1 x2 = marks (hit (rounds (k4_pay126 x0 x1 x2) 17)) := by
  unfold k4_pay154; rw [k4_151, k4_152]; rfl
theorem k4_155 : k4_pay155 x0 x1 x2 = matmul dot_S1024x1024_S1024x64_S1024x64_1_0_0_1_n_n none (marks (hit (rounds (k4_pay126 x0 x1 x2) 17))) (k4_pay127 x0 x1 x2) (constant S1024x64 .f32 0x00000000#32) := by
  unfold k4_pay155; rw [k4_151, k4_152]; rfl
theorem k4_156 : k4_pay156 x0 x1 x2 = rounds (k4_pay126 x0 x1 x2) 19 := by
  unfold k4_pay156; rw [k4_153]; rfl

/-- The fifth kernel's greatest over the rounds. -/
theorem out4_3_eq : out4_3 x0 x1 x2 =
    View.canon [⟨r4_0, shapeCast S1x1024x64 (accMax (row5 x0 x1 x2) 20) shapeCasts_S1024x64_S1x1024x64⟩] := by
  unfold out4_3
  simp only [k4_130, k4_131, k4_132, k4_133, k4_134, k4_135, k4_136, k4_137, k4_138, k4_140, k4_141, k4_142, k4_143, k4_144, k4_145, k4_146, k4_147, k4_148, k4_149, k4_150, k4_151, k4_152, k4_153, k4_154, k4_155, k4_156]
  rfl

/-- The fifth kernel's sums over the rounds and the points, of the rows and of their squares. -/
theorem out4_4_eq : out4_4 x0 x1 x2 =
    View.canon [⟨r4_3, shapeCast S1x2x64 (concatenate S2x64 0 [⟨S1x64, accSum (row5 x0 x1 x2) 20⟩,
      ⟨S1x64, accSum (fun j => mulf (row5 x0 x1 x2 j) (row5 x0 x1 x2 j)) 20⟩] concatenates_S1x64_S1x64_S2x64_d0)
      shapeCasts_S2x64_S1x2x64⟩] := by
  unfold out4_4
  simp only [k4_130, k4_131, k4_132, k4_133, k4_134, k4_135, k4_136, k4_137, k4_138, k4_140, k4_141, k4_142, k4_143, k4_144, k4_145, k4_146, k4_147, k4_148, k4_149, k4_150, k4_151, k4_152, k4_153, k4_154, k4_155, k4_156]
  rfl

end fifth

end Cert.Net

end
-- ==== Proof.Net.Accum.lean ====
/- What the kernels gather over the ranks: the greatest and the sum of twenty real rows. -/
module

public import proofs.«01_k».proof.Proof.Net.Rounds
public import proofs.«01_k».proof.Proof.Net.Tables

@[expose] public section

set_option synthInstance.maxSize 4096
set_option maxRecDepth 16384

noncomputable section

namespace Cert.Net

open Idealize.ShloMosaic Idealize.SL.Sem Cert.KernelIdeal Cert.KernelIdeal.Gen Idealize.ShloMosaic.Pointwise

theorem accMax_fold (c : ℕ → FVec Ideal S1024x64 .f32) (n : ℕ) (i : S1024x64.Idx) :
    accMax c n i = (Finset.range n).fold max (⊥ : EReal) fun j => c j i := by
  induction n with
  | zero => exact IdealRules.named_const.ideal_named_scalar κ "neg" _ ⊥ rfl
  | succ n ih =>
    rw [Finset.range_add_one, Finset.fold_insert Finset.notMem_range_self, ← ih, max_comm]
    rfl

/-- The greatest of twenty real rows. -/
theorem accMax_at (c : ℕ → FVec Ideal S1024x64 .f32) (f : Fin 20 → ℝ) (i : S1024x64.Idx)
    (h : ∀ (j : ℕ) (hj : j < 20), c j i = ((f ⟨j, hj⟩ : ℝ) : EReal)) : accMax c 20 i = ((sup f : ℝ) : EReal) := by
  rw [accMax_fold]
  obtain ⟨k, hk⟩ := exists_sup f
  apply le_antisymm
  · rw [Finset.fold_max_le]
    refine ⟨bot_le, fun j hj => ?_⟩
    rw [h j (Finset.mem_range.mp hj)]
    exact EReal.coe_le_coe_iff.mpr (le_sup f _)
  · rw [hk, Finset.le_fold_max]
    exact .inr ⟨k.val, Finset.mem_range.mpr k.isLt, le_of_eq (h k.val k.isLt).symm⟩

theorem accSum_step (c : ℕ → FVec Ideal S1024x64 .f32) (n : ℕ) (o : Fin 64) :
    accSum c (n + 1) (ix2 0 o) = accSum c n (ix2 0 o) + ∑ r, c n (ix2 r o) := by
  have e : ∀ (s : FVec Ideal S1x64 .f32) (x : FVec Ideal S1024x64 .f32), addf s (shapeCast S1x64
      (multiReduction .add [0] S64 x 0x00000000#32 reduces_S1024x64_S64 (.inl rfl) rfl) shapeCasts_S64_S1x64) (ix2 0 o)
      = s (ix2 0 o) + ∑ r, x (ix2 r o) := fun s x => by pointwise []
  exact e _ _

/-- The sum over ranks and points of twenty real rows. -/
theorem accSum_at (c : ℕ → FVec Ideal S1024x64 .f32) (f : Fin 20 → Fin 1024 → ℝ) (o : Fin 64)
    (h : ∀ (j : ℕ) (hj : j < 20) (r : Fin 1024), c j (ix2 r o) = ((f ⟨j, hj⟩ r : ℝ) : EReal)) :
    accSum c 20 (ix2 0 o) = ((∑ k, ∑ r, f k r : ℝ) : EReal) := by
  have hs : ∀ n, accSum c n (ix2 0 o) = ∑ j ∈ Finset.range n, ∑ r, c j (ix2 r o) := fun n => by
    induction n with
    | zero => exact lit_zero.trans (by simp)
    | succ n ih => rw [accSum_step, ih, Finset.sum_range_succ]
  rw [hs, Finset.sum_range]
  simp only [fun (k : Fin 20) (r : Fin 1024) => h k.val k.isLt r, coe_sum]

end Cert.Net

end
-- ==== Proof.Net.Picks.lean ====
/- The rounds at an entry: a row after `j` rounds is the row with its first `j` picks struck out, a round's mark is at the
   next pick, and the product with the marks is the picked row. -/
module

public import proofs.«01_k».proof.Proof.Net.Rounds
public import proofs.«01_k».proof.Proof.Net.Consts
public import Idealize.ShloMosaic.Lib.SortNet.Extract

@[expose] public section

set_option synthInstance.maxSize 4096
set_option maxRecDepth 16384

noncomputable section

namespace Cert.Net

open Idealize.ShloMosaic Idealize.SL.Sem Cert.KernelIdeal Cert.KernelIdeal.Gen Idealize.ShloMosaic.Pointwise

/-- The signed minimum over the marked columns, each as a word, is the first marked column. -/
theorem fold_first (p : Fin 1024 → BitVec 1) (q : Fin 1024) (hq : p q = 1#1) (h : ∀ k, k < q → p k ≠ 1#1) :
    Finset.fold IntOp.minsi (2147483647#32) (fun x : Fin 1024 => Scalar.select (p x) (BitVec.ofNat 32 ↑x) 1024#32)
      Finset.univ = BitVec.ofNat 32 ↑q := by
  have hi : ∀ k : Fin 1024, (BitVec.ofNat 32 k.val).toInt = (k.val : ℤ) := fun k => by
    have := k.isLt
    rw [BitVec.toInt_eq_toNat_cond, BitVec.toNat_ofNat]
    rw [Nat.mod_eq_of_lt (by omega), if_pos (by omega)]
  apply BitVec.eq_of_toInt_eq
  have hf := Finset.fold_hom (s := (Finset.univ : Finset (Fin 1024))) (op := (IntOp.minsi : BitVec 32 → BitVec 32 → BitVec 32))
    (op' := (min : ℤ → ℤ → ℤ)) (m := BitVec.toInt) (b := 2147483647#32)
    (f := fun x : Fin 1024 => Scalar.select (p x) (BitVec.ofNat 32 ↑x) 1024#32) SortNet.toInt_minsi
  rw [← hf, hi]
  apply le_antisymm
  · rw [Finset.fold_min_le]
    refine .inr ⟨q, Finset.mem_univ q, ?_⟩
    rw [hq]
    exact le_of_eq (hi q)
  · rw [Finset.le_fold_min]
    refine ⟨?_, fun k _ => ?_⟩
    · have := q.isLt
      have : (2147483647#32).toInt = 2147483647 := by decide
      omega
    · by_cases hk : p k = 1#1
      · have hle : q ≤ k := not_lt.mp fun hlt => h k hlt hk
        show _ ≤ (Scalar.select (p k) (BitVec.ofNat 32 k.val) 1024#32).toInt
        rw [hk]
        exact le_trans (Int.ofNat_le.mpr (Fin.le_def.mp hle)) (le_of_eq (hi k).symm)
      · have h0 : p k = 0#1 := by
          have := (p k).isLt
          apply BitVec.eq_of_toNat_eq
          have h1 : (p k).toNat ≠ 1 := fun e => hk (BitVec.eq_of_toNat_eq e)
          simp; omega
        have := q.isLt
        have h2 : (1024#32).toInt = 1024 := by decide
        show _ ≤ (Scalar.select (p k) (BitVec.ofNat 32 k.val) 1024#32).toInt
        rw [h0]
        refine le_trans ?_ (le_of_eq h2.symm)
        omega

/-- A row of a square array. -/
def row (w : FVec Ideal S1024x1024 .f32) (r : Fin 1024) : Fin 1024 → EReal := fun k => w (ix2 r k)

/-- A row's greatest entry is at its `top`. -/
theorem fold_row (w : Fin 1024 → EReal) : Finset.univ.fold max (⊥ : EReal) w = w (top w) := by
  apply le_antisymm
  · rw [Finset.fold_max_le]
    exact ⟨bot_le, fun j _ => (top_spec w).1 j⟩
  · rw [Finset.le_fold_max]
    exact .inr ⟨_, Finset.mem_univ _, le_rfl⟩

theorem isMax_iff (w : FVec Ideal S1024x1024 .f32) (r l : Fin 1024) :
    isMax w (ix2 r l) = 1#1 ↔ row w r l = row w r (top (row w r)) := by
  have e : isMax w (ix2 r l) = BitVec.ofBool (decide (row w r l = Finset.univ.fold max (⊥ : EReal) (row w r))) := by
    pointwise [isMax, rowMax]
    rw [lit_neg_inf]; rfl
  rw [e, fold_row]
  by_cases h : row w r l = row w r (top (row w r)) <;> simp [h]

theorem firstCol_eq (w : FVec Ideal S1024x1024 .f32) (r : Fin 1024) :
    firstCol (isMax w) (ix1 r) = BitVec.ofNat 32 (top (row w r)).val := by
  have e : firstCol (isMax w) (ix1 r) = Finset.fold IntOp.minsi (2147483647#32)
      (fun x : Fin 1024 => Scalar.select (isMax w (ix2 r x)) (BitVec.ofNat 32 ↑x) 1024#32) Finset.univ := by
    pointwise [firstCol, cols]
  rw [e]
  refine fold_first (fun x => isMax w (ix2 r x)) _ ((isMax_iff w r _).mpr rfl) fun k hk h => ?_
  exact (top_spec (row w r)).2 k hk ((isMax_iff w r k).mp h)

/-- A round marks the first greatest entry of every row. -/
theorem hit_eq (w : FVec Ideal S1024x1024 .f32) (r l : Fin 1024) :
    hit w (ix2 r l) = if l = top (row w r) then 1#1 else 0#1 := by
  have e : hit w (ix2 r l) = IntOp.cmpi .eq (BitVec.ofNat 32 ↑l) (firstCol (isMax w) (ix1 r)) := by
    pointwise [hit, atCol, cols]
  rw [e, firstCol_eq]
  have h1 := l.isLt
  have h2 := (top (row w r)).isLt
  by_cases h : l = top (row w r)
  · rw [if_pos h, ← h]; simp [IntOp.cmpi]
  · rw [if_neg h]
    have : ¬ BitVec.ofNat 32 l.val = BitVec.ofNat 32 (top (row w r)).val := fun hh => by
      have := congrArg BitVec.toNat hh
      simp only [BitVec.toNat_ofNat] at this
      rw [Nat.mod_eq_of_lt (by omega), Nat.mod_eq_of_lt (by omega)] at this
      exact h (Fin.ext this)
    have hb : (BitVec.ofNat 32 l.val == BitVec.ofNat 32 (top (row w r)).val) = false := by simpa using this
    simp only [IntOp.cmpi, hb]
    rfl

/-- A round strikes it out. -/
theorem step_row (w : FVec Ideal S1024x1024 .f32) (r : Fin 1024) : row (step w) r = strike (row w r) := by
  funext l
  have e : step w (ix2 r l) = Scalar.select (hit w (ix2 r l)) (Named.named (F := Ideal) κ "neg" 0xF149F2CA#32) (w (ix2 r l)) := by
    pointwise [step]
  show step w (ix2 r l) = _
  rw [e, hit_eq, IdealRules.named_const.ideal_named_scalar κ "neg" _ ⊥ rfl]
  by_cases h : l = top (row w r)
  · simp [h, strike, Scalar.select]
  · simp [h, strike, Scalar.select, row]

theorem rounds_row (w : FVec Ideal S1024x1024 .f32) (r : Fin 1024) (j : ℕ) : row (rounds w j) r = strike^[j] (row w r) := by
  induction j with
  | zero => rfl
  | succ j ih => rw [Function.iterate_succ_apply', ← ih]; exact step_row _ r

/-- Round `j` marks the pick of rank `j`. -/
theorem hit_rounds (w : FVec Ideal S1024x1024 .f32) (r l : Fin 1024) (j : ℕ) :
    hit (rounds w j) (ix2 r l) = if l = pick (row w r) j then 1#1 else 0#1 := by
  rw [hit_eq, rounds_row]; rfl

theorem marks_eq (k : IVec S1024x1024 1) (r l q : Fin 1024) (h : k (ix2 r l) = if l = q then 1#1 else 0#1) :
    marks (F := Ideal) k (ix2 r l) = if l = q then (1 : EReal) else 0 := by
  have e : marks (F := Ideal) k (ix2 r l) = ((((k (ix2 r l)).setWidth 32 : BitVec 32).toInt : ℝ) : EReal) := by
    pointwise [marks]
    rfl
  rw [e, h]
  by_cases hl : l = q
  · simp [hl]
  · simp [hl]

/-- The product with the marks of one column a row is that row of the array. -/
theorem sum_marks (m a : Fin 1024 → EReal) (q : Fin 1024) (hm : ∀ l, m l = if l = q then (1 : EReal) else 0) :
    ∑ l, m l * a l = a q := by
  rw [Finset.sum_eq_single q]
  · rw [hm, if_pos rfl, one_mul]
  · intro l _ hl; rw [hm, if_neg hl, zero_mul]
  · intro h; exact absurd (Finset.mem_univ q) h

/-- The rows picked of an array of eight channels in three parts, the last two zero. -/
theorem picked8_eq (k : IVec S1024x1024 1) (a b c : FVec Ideal S1024x8 .bf16) (r q : Fin 1024) (o : Fin 8)
    (h : ∀ l, k (ix2 r l) = if l = q then 1#1 else 0#1) (hb : ∀ n o, b (ix2 n o) = (0 : EReal)) (hc : ∀ n o, c (ix2 n o) = (0 : EReal)) :
    picked8 k a b c (ix2 r o) = a (ix2 q o) := by
  have e : picked8 k a b c (ix2 r o) = (∑ l, marks (F := Ideal) k (ix2 r l) * a (ix2 l o))
      + (∑ l, marks (F := Ideal) k (ix2 r l) * b (ix2 l o))
      + (∑ l, marks (F := Ideal) k (ix2 r l) * c (ix2 l o)) := by
    pointwise [picked8]
  rw [e, sum_marks _ _ q fun l => marks_eq k r l q (h l), sum_marks _ _ q fun l => marks_eq k r l q (h l),
    sum_marks _ _ q fun l => marks_eq k r l q (h l), hb, hc]
  simp

/-- The same of 64 channels. -/
theorem picked64_eq (k : IVec S1024x1024 1) (a b c : FVec Ideal S1024x64 .bf16) (r q : Fin 1024) (o : Fin 64)
    (h : ∀ l, k (ix2 r l) = if l = q then 1#1 else 0#1) (hb : ∀ n o, b (ix2 n o) = (0 : EReal)) (hc : ∀ n o, c (ix2 n o) = (0 : EReal)) :
    picked64 k a b c (ix2 r o) = a (ix2 q o) := by
  have e : picked64 k a b c (ix2 r o) = (∑ l, marks (F := Ideal) k (ix2 r l) * a (ix2 l o))
      + (∑ l, marks (F := Ideal) k (ix2 r l) * b (ix2 l o))
      + (∑ l, marks (F := Ideal) k (ix2 r l) * c (ix2 l o)) := by
    pointwise [picked64]
  rw [e, sum_marks _ _ q fun l => marks_eq k r l q (h l), sum_marks _ _ q fun l => marks_eq k r l q (h l),
    sum_marks _ _ q fun l => marks_eq k r l q (h l), hb, hc]
  simp

end Cert.Net

end
-- ==== Proof.Net.Tiles.lean ====
/- A store of one rank, at the entry of the block of all ranks. -/
module

public import proofs.«01_k».proof.Proof.Net.Rounds
public import proofs.«01_k».proof.Proof.Net.Consts

@[expose] public section

set_option synthInstance.maxSize 4096
set_option maxRecDepth 16384

noncomputable section

namespace Cert.Net

open Idealize.ShloMosaic Idealize.SL.Sem Cert.KernelIdeal Cert.KernelIdeal.Gen Idealize.ShloMosaic.Pointwise

/-- An entry of the store of rank `j` is the entry of the block there, when the stores' rows are the block's. -/
theorem tile_at (G : Fin 20 → Fin 1024 → Fin 64 → EReal) (p : ℕ → Vec Ideal S1x1x1024x64 .f32)
    (hp : ∀ (j : ℕ) (hj : j < 20) (r : Fin 1024) (o : Fin 64), p j (ix4 0 0 r o) = G ⟨j, hj⟩ r o) (y : S1x20x1024x64.Idx) (j : ℕ) (hj : j < 20)
    (x : S1x1x1024x64.Idx) (h1 : (y 1).val = j) (h2 : (y 2).val = (x 2).val) (h3 : (y 3).val = (x 3).val) :
    p j x = G (y 1) (y 2) (y 3) := by
  have ex : x = ix4 0 0 (y 2) (y 3) := by
    funext a
    match a with
    | ⟨0, _⟩ => exact Fin.ext (Nat.lt_one_iff.mp (x 0).isLt)
    | ⟨1, _⟩ => exact Fin.ext (Nat.lt_one_iff.mp (x 1).isLt)
    | ⟨2, _⟩ => exact Fin.ext h2.symm
    | ⟨3, _⟩ => exact Fin.ext h3.symm
  have ey : y 1 = ⟨j, hj⟩ := Fin.ext h1
  rw [ex, ey]
  exact hp j hj _ _

end Cert.Net

end
-- ==== Proof.Net.First.lean ====
/- What the first kernel computes of one cloud: the distances, the neighbours, the edge convolution. -/
module

public import proofs.«01_k».proof.Proof.Net.Picks
public import proofs.«01_k».proof.Proof.Net.Tiles
public import proofs.«01_k».proof.Proof.Net.Tables

@[expose] public section

set_option synthInstance.maxSize 4096
set_option maxRecDepth 16384

noncomputable section

namespace Cert.Net

open Idealize.ShloMosaic Idealize.SL.Sem Cert.KernelIdeal Cert.KernelIdeal.Gen Idealize.ShloMosaic.Pointwise

/-- Six channels among eight. -/
def pad8 (X : Fin 1024 → Fin 6 → ℝ) (n : Fin 1024) (c : Fin 8) : ℝ := if h : c.val < 6 then X n ⟨c.val, h⟩ else 0

/-- A weight of twelve columns among sixteen. -/
def pad16 (W : Fin 64 → Fin (6 + 6) → ℝ) (o : Fin 64) (c : Fin 16) : ℝ := if h : c.val < 12 then W o ⟨c.val, h⟩ else 0

theorem sum_pad8 (X : Fin 1024 → Fin 6 → ℝ) (i j : Fin 1024) :
    ∑ c, pad8 X i c * pad8 X j c = ∑ c, X i c * X j c := by
  simp [Fin.sum_univ_eight, Fin.sum_univ_six, pad8]

section

variable {x0 : Vec Ideal S1x1024x8 .f32} {x1 : Vec Ideal S64x16 .f32} {X : Fin 1024 → Fin 6 → ℝ} {W : Fin 64 → Fin (6 + 6) → ℝ}
  (hx : ∀ n c, x0 (ix3 0 n c) = ((pad8 X n c : ℝ) : EReal)) (hw : ∀ o c, x1 (ix2 o c) = ((pad16 W o c : ℝ) : EReal))

include hx

theorem first_pd (r l : Fin 1024) : k0_pay3 x0 (ix2 r l) = ((pd X r l : ℝ) : EReal) := by
  have e : k0_pay3 x0 (ix2 r l) = Ideal.ofBits .f32 0x40000000#32 * ∑ x, x0 (ix3 0 r x) * x0 (ix3 0 l x)
      - ∑ x, x0 (ix3 0 r x) * x0 (ix3 0 r x) - ∑ x, x0 (ix3 0 l x) * x0 (ix3 0 l x) := by
    pointwise [k0_pay3, k0_pay2]
  rw [e]
  simp only [hx, lit_two, ← EReal.coe_mul, coe_sum, ← EReal.coe_sub, sum_pad8]
  rfl

/-- The first kernel's first result: the squared distances, with the sign the difference from zero gives. -/
theorem out0_2_at (y : S1x1024x1024.Idx) : out0_2 x0 x1 y = ((0 - pd X (y 1) (y 2) : ℝ) : EReal) := by
  frame_out
  idx_vars y
  have e : k0_pay4 x0 (ix3 y0 y1 y2) = 0 - k0_pay3 x0 (ix2 y1 y2) := by pointwise [k0_pay4]
  rw [e, first_pd hx, ← EReal.coe_zero, ← EReal.coe_sub]

theorem first_row (r : Fin 1024) : row (k0_pay88 x0 x1) r = fun j => ((pd X r j : ℝ) : EReal) := by
  funext l
  have e : k0_pay88 x0 x1 = k0_pay3 x0 := by
    unfold k0_pay88; frame_out
  show k0_pay88 x0 x1 (ix2 r l) = _
  rw [e, first_pd hx]

include hw

/-- What round `j` stores: the edge convolution with the neighbour of rank `j`. -/
theorem piece8_at (j : ℕ) (hj : j < 20) (r : Fin 1024) (o : Fin 64) :
    piece8 x0 x1 j (ix4 0 0 r o) = ((edge W X r ⟨j, hj⟩ o : ℝ) : EReal) := by
  have hh : ∀ l, hit (rounds (k0_pay88 x0 x1) j) (ix2 r l) = if l = nb X r ⟨j, hj⟩ then 1#1 else 0#1 := fun l => by
    rw [hit_rounds, first_row hx]; rfl
  have e87 : ∀ n c, k0_pay87 x0 x1 (ix2 n c) = ((pad8 X n c : ℝ) : EReal) := fun n c => by
    pointwise [k0_pay87, k0_pay2]; exact hx n c
  have e89 : ∀ n c, k0_pay89 x0 x1 (ix2 n c) = ((pad16 W n c : ℝ) : EReal) := fun n c => by
    pointwise [k0_pay89, k0_pay5]; exact hw n c
  have e90 : ∀ n c, k0_pay90 x0 x1 (ix2 n c) = ((pad8 X n c : ℝ) : EReal) := fun n c => by
    pointwise [k0_pay90, k0_pay9, k0_pay6, k0_pay2]; exact hx n c
  have e91 : ∀ n c, k0_pay91 x0 x1 (ix2 n c) = (0 : EReal) := fun n c => by
    pointwise [k0_pay91, k0_pay10, k0_pay8, k0_pay7, k0_pay6, k0_pay2]; rw [hx, coe_sub_self]
  have e92 : ∀ n c, k0_pay92 x0 x1 (ix2 n c) = (0 : EReal) := fun n c => by
    pointwise [k0_pay92, k0_pay11, k0_pay8, k0_pay7, k0_pay6, k0_pay2]; rw [hx, coe_sub_self, sub_zero]
  have ep : ∀ c, picked8 (hit (rounds (k0_pay88 x0 x1) j)) (k0_pay90 x0 x1) (k0_pay91 x0 x1) (k0_pay92 x0 x1) (ix2 r c)
      = ((pad8 X (nb X r ⟨j, hj⟩) c : ℝ) : EReal) := fun c => by
    rw [picked8_eq _ _ _ _ r (nb X r ⟨j, hj⟩) c hh e91 e92, e90]
  unfold piece8
  generalize picked8 (hit (rounds (k0_pay88 x0 x1) j)) (k0_pay90 x0 x1) (k0_pay91 x0 x1) (k0_pay92 x0 x1) = f at ep ⊢
  generalize k0_pay87 x0 x1 = a at e87 ⊢
  generalize k0_pay89 x0 x1 = w at e89 ⊢
  pointwise [conv8]
  simp only [ep, e87, e89]
  unfold edge
  simp [Fin.sum_univ_succ, pad8, pad16, add_assoc]

/-- The first kernel's second result: the edge convolution, rank by rank. -/
theorem out0_3_at (y : S1x20x1024x64.Idx) :
    out0_3 x0 x1 y = ((edge W X (y 2) (y 1) (y 3) : ℝ) : EReal) := by
  have ch := tile_at (fun k n o => ((edge W X n k o : ℝ) : EReal)) (piece8 x0 x1) (fun j hj r o => piece8_at hx hw j hj r o) y
  rw [out0_3_eq]
  canon_tiles x h
  all_goals exact ch _ (by decide) x (by omega) (by omega) (by omega)

end

end Cert.Net

end
-- ==== Proof.Net.Scatter.lean ====
/- A scatter that writes one array into another at a fixed place. -/
module

public import proofs.«01_k».proof.Proof.Net.First

@[expose] public section

set_option synthInstance.maxSize 4096
set_option maxRecDepth 16384

noncomputable section

namespace Cert.Net

open Idealize.ShloMosaic

variable {α β ι : Type} [DecidableEq ι]

/-- A place that no write of a line of writes hits. -/
theorem writes_miss (e : β → ι) (u : β → α) (L : List β) (x : ι → α) (i : ι) (h : ∀ n ∈ L, e n ≠ i) :
    L.foldl (fun r n => fun i' => if i' = e n then u n else r i') x i = x i := by
  induction L generalizing x with
  | nil => rfl
  | cons a L ih =>
    rw [List.foldl_cons, ih _ fun n hn => h n (List.mem_cons_of_mem _ hn), if_neg fun q => h a List.mem_cons_self q.symm]

/-- A place that one write hits. -/
theorem writes_hit (e : β → ι) (he : Function.Injective e) (u : β → α) (L : List β) (x : ι → α) (n : β) (hn : n ∈ L) :
    L.foldl (fun r n => fun i' => if i' = e n then u n else r i') x (e n) = u n := by
  classical
  induction L generalizing x with
  | nil => exact absurd hn List.not_mem_nil
  | cons a L ih =>
    rw [List.foldl_cons]
    by_cases h : n ∈ L
    · exact ih _ h
    · obtain rfl : n = a := (List.mem_cons.1 hn).resolve_right h
      rw [writes_miss e u L _ _ fun k hk q => h (by rw [← he q]; exact hk), if_pos rfl]

variable {s si u : Shape} {w : ℕ} (d : ScatterDims s si u) (x : s.Idx → α) (idx : IVec si w) (v : u.Idx → α)

/-- A scatter every update of which lands at a place of its own: at such a place. -/
theorem scatter_hit (e : u.Idx → s.Idx) (he : Function.Injective e) (hr : ∀ j, d.resultIdx? j idx = some (e j)) (j : u.Idx) :
    Host.scatter d (fun _ b => b) x idx v (e j) = v j := by
  unfold Host.scatter
  simp only [hr]
  have := writes_hit (fun n => e (u.rowMajor.symm n)) (fun a b h => u.rowMajor.symm.injective (he h))
    (fun n => v (u.rowMajor.symm n)) (List.finRange u.numel) x (u.rowMajor j) (List.mem_finRange _)
  simp only [Equiv.symm_apply_apply] at this
  convert this using 2

/-- The same: at any other place. -/
theorem scatter_miss (e : u.Idx → s.Idx) (hr : ∀ j, d.resultIdx? j idx = some (e j)) (i : s.Idx) (h : ∀ j, e j ≠ i) :
    Host.scatter d (fun _ b => b) x idx v i = x i := by
  unfold Host.scatter
  simp only [hr]
  have := writes_miss (fun n => e (u.rowMajor.symm n)) (fun n => v (u.rowMajor.symm n)) (List.finRange u.numel) x i fun n _ => h _
  convert this using 2

/-- Where an update lands when every start index is zero. -/
theorem lands (hi : ∀ k, idx k = 0) (j : u.Idx) (e : s.Idx) (h : ∀ a, d.window j a = (e a).val) : d.resultIdx? j idx = some e := by
  have hs : ∀ a, d.start j idx a = 0 := by
    intro a
    unfold ScatterDims.start
    split
    · rw [hi]; simp
    · rfl
  unfold ScatterDims.resultIdx?
  have hb : ∀ a, 0 ≤ d.start j idx a + d.window j a ∧ d.start j idx a + d.window j a < s.size a := by
    intro a
    rw [hs, h]
    have := (e a).isLt
    omega
  rw [dif_pos hb]
  congr 1
  funext a
  apply Fin.ext
  simp only [hs, h]
  omega

end Cert.Net

end
-- ==== Proof.Net.Tab0.lean ====
/- What the host makes of the arguments before the first kernel. -/
module

public import proofs.«01_k».proof.Proof.Net.Accum
public import proofs.«01_k».proof.Proof.Net.Tables
public import proofs.«01_k».proof.Proof.Net.Consts
public import proofs.«01_k».proof.Proof.Net.Sums
public import proofs.«01_k».proof.Proof.Net.First
public import proofs.«01_k».proof.Proof.Net.Scatter
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (U : Valuation τ sig (Elt Ideal))

/-- The clouds, transposed and padded to eight features. -/
theorem pad_x {X : Points 6} (hx : ∀ i n k, U main_arg0 (ix3 i k n) = ((X i n k : ℝ) : EReal)) (i : Fin 16) (n : Fin 1024) (k : Fin 8) :
    StableHlo.after (hostOps0_2 (F := Ideal)) (StableHlo.after hostOps0_1 (StableHlo.after hostOps0 U)) (Proc.devRef .tc main_v1) (ix3 i n k)
      = ((pad8 (X i) n k : ℝ) : EReal) := by
  repeat after_reads_at
  rw [conv_zero]
  unfold pad8
  by_cases h : k.val < 6
  · rw [dif_pos h, dif_pos h, hx]
  · rw [dif_neg h, dif_neg h]

/-- The first weight matrix, padded to sixteen columns. -/
theorem pad_w {W : Fin 64 → Fin (6 + 6) → ℝ} (hx : ∀ o k, U main_arg1 (ix2 o k) = ((W o k : ℝ) : EReal)) (o : Fin 64) (k : Fin 16) :
    StableHlo.after (hostOps0_2 (F := Ideal)) (StableHlo.after hostOps0_1 (StableHlo.after hostOps0 U)) (Proc.devRef .tc main_v4) (ix2 o k)
      = ((pad16 W o k : ℝ) : EReal) := by
  repeat after_reads_at
  unfold pad16
  have hr : ∀ j : S64x12.Idx, scatter_S64x16_S1_S64x12_01_n_1_0.resultIdx? j (broadcastInDim S1 ![] bcast_S_S1 (constantI S_ 32 0#32))
      = some (ix2 (j 0) (⟨(j 1).val, lt_trans (j 1).isLt (by decide)⟩ : Fin 16)) := fun j =>
    lands _ _ (fun _ => rfl) j _ fun a => by fin_cases a <;> rfl
  by_cases h : k.val < 12
  · rw [dif_pos h, ← hx]
    exact scatter_hit _ _ _ _ (fun j : S64x12.Idx => (ix2 (j 0) (⟨(j 1).val, lt_trans (j 1).isLt (by decide)⟩ : Fin 16) : S64x16.Idx))
      (fun a b e => by
        have e0 := congrFun e 0
        have e1 := congrArg Fin.val (congrFun e 1)
        funext q; fin_cases q
        · exact e0
        · exact Fin.ext e1) hr (ix2 o ⟨k.val, h⟩)
  · rw [dif_neg h]
    refine (scatter_miss _ _ _ _ _ hr (ix2 o k) fun j e => h ?_).trans lit_zero
    have e1 := congrArg Fin.val (congrFun e 1)
    exact e1 ▸ (j 1).isLt

/-- The first row of the padded last weight vector. -/
theorem pad_r (k : Fin 128) :
    StableHlo.after (hostOps0_2 (F := Ideal)) (StableHlo.after hostOps0_1 (StableHlo.after hostOps0 U)) (Proc.devRef .tc main_v8) (ix2 0 k)
      = U main_arg26 (ix2 0 k) := by
  repeat after_reads_at
  have hr : ∀ j : S128.Idx, scatter_S8x128_S1_S128_0_0_0_0.resultIdx? j (broadcastInDim S1 ![] bcast_S_S1 (constantI S_ 32 0#32))
      = some (ix2 (0 : Fin 8) (j 0)) := fun j => lands _ _ (fun _ => rfl) j _ fun a => by fin_cases a <;> rfl
  exact scatter_hit _ _ _ _ (fun j : S128.Idx => (ix2 (0 : Fin 8) (j 0) : S8x128.Idx))
    (fun a b e => by
      have e1 := congrFun e 1
      funext q; fin_cases q; exact e1) hr (ix1 k)

end Cert.Net

end
-- ==== Proof.Net.Tab1.lean ====
/- The table of one normalisation of the first four, made by the host from an array over the edges. -/
module

public import proofs.«01_k».proof.Proof.Net.Accum
public import proofs.«01_k».proof.Proof.Net.Tables
public import proofs.«01_k».proof.Proof.Net.Consts
public import proofs.«01_k».proof.Proof.Net.Sums
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (U : Valuation τ sig (Elt Ideal))

/-- What is left of the array by the sum over the edges. -/
theorem sumE1 {h : Edges} (v : S16x20x1024x64.Idx → EReal) (hx : ∀ i k n o, v (ix4 i k n o) = ((h i n k o : ℝ) : EReal)) (o : Fin 64) :
    Ideal.hostReduceAdd reducesTo_S16x20x1024x64_S64_d0_1_2 v 0 (ix1 o) = ((∑ p, chanE h o p : ℝ) : EReal) := by
  rw [← coe_sum]
  exact (sum012 reducesTo_S16x20x1024x64_S64_d0_1_2 v o).trans (Finset.sum_congr rfl fun p _ => hx _ _ _ _)

/-- The four rows of the table. -/
theorem tab1 {h : Edges} {g b : Fin 64 → ℝ} (hx : ∀ i k n o, U main_v9_1 (ix4 i k n o) = ((h i n k o : ℝ) : EReal))
    (hg : ∀ o, U main_arg2 (ix1 o) = ((g o : ℝ) : EReal)) (hb : ∀ o, U main_arg3 (ix1 o) = ((b o : ℝ) : EReal)) :
    IsTab (fun r o => StableHlo.after (hostOps1_2 (F := Ideal)) (StableHlo.after hostOps1_1 (StableHlo.after hostOps1 U)) (Proc.devRef .tc main_v21) (ix2 r o))
      (fun o => mean (chanE h o)) (fun o => var (chanE h o)) g b := by
  intro o
  have hm : Ideal.div (Ideal.hostReduceAdd reducesTo_S16x20x1024x64_S64_d0_1_2 (U main_v9_1) 0 (ix1 o))
      (Ideal.ofBits FTy.f32 0x48A00000#32) = ((mean (chanE h o) : ℝ) : EReal) := by
    rw [sumE1 _ hx, lit_edges, mean_div _ card_edges (by norm_num)]
  beta_reduce
  refine ⟨?_, ?_, ?_, ?_⟩
  · repeat after_reads_at
    exact hm
  · repeat after_reads_at
    exact hg o
  · repeat after_reads_at
    rw [lit_edges, conv_zero, ← EReal.coe_sub, sub_zero, guard (by norm_num), lit_eps, ← rsqrt_var]
    refine congrArg (fun z => Ideal.rsqrt (z + ((eps : ℝ) : EReal))) ?_
    rw [← var_div _ card_edges (by norm_num)]
    refine congrArg (fun z => Ideal.div z ((327680 : ℝ) : EReal)) ?_
    refine (sum012 reducesTo_S16x20x1024x64_S64_d0_1_2 _ o).trans ?_
    rw [← coe_sum]
    refine Finset.sum_congr rfl fun p _ => ?_
    pointwise
    rw [hx, hm, ← EReal.coe_sub, ← EReal.coe_mul]
    rfl
  · repeat after_reads_at
    exact hb o

end Cert.Net

end
-- ==== Proof.Net.Tab2.lean ====
/- The table of one normalisation of the first four, made by the host from an array over the edges. -/
module

public import proofs.«01_k».proof.Proof.Net.Accum
public import proofs.«01_k».proof.Proof.Net.Tables
public import proofs.«01_k».proof.Proof.Net.Consts
public import proofs.«01_k».proof.Proof.Net.Sums
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (U : Valuation τ sig (Elt Ideal))

/-- What is left of the array by the sum over the edges. -/
theorem sumE2 {h : Edges} (v : S16x20x1024x64.Idx → EReal) (hx : ∀ i k n o, v (ix4 i k n o) = ((h i n k o : ℝ) : EReal)) (o : Fin 64) :
    Ideal.hostReduceAdd reducesTo_S16x20x1024x64_S64_d0_1_2 v 0 (ix1 o) = ((∑ p, chanE h o p : ℝ) : EReal) := by
  rw [← coe_sum]
  exact (sum012 reducesTo_S16x20x1024x64_S64_d0_1_2 v o).trans (Finset.sum_congr rfl fun p _ => hx _ _ _ _)

/-- The four rows of the table. -/
theorem tab2 {h : Edges} {g b : Fin 64 → ℝ} (hx : ∀ i k n o, U main_v22_0 (ix4 i k n o) = ((h i n k o : ℝ) : EReal))
    (hg : ∀ o, U main_arg5 (ix1 o) = ((g o : ℝ) : EReal)) (hb : ∀ o, U main_arg6 (ix1 o) = ((b o : ℝ) : EReal)) :
    IsTab (fun r o => StableHlo.after (hostOps2_2 (F := Ideal)) (StableHlo.after hostOps2_1 (StableHlo.after hostOps2 U)) (Proc.devRef .tc main_v34) (ix2 r o))
      (fun o => mean (chanE h o)) (fun o => var (chanE h o)) g b := by
  intro o
  have hm : Ideal.div (Ideal.hostReduceAdd reducesTo_S16x20x1024x64_S64_d0_1_2 (U main_v22_0) 0 (ix1 o))
      (Ideal.ofBits FTy.f32 0x48A00000#32) = ((mean (chanE h o) : ℝ) : EReal) := by
    rw [sumE2 _ hx, lit_edges, mean_div _ card_edges (by norm_num)]
  beta_reduce
  refine ⟨?_, ?_, ?_, ?_⟩
  · repeat after_reads_at
    exact hm
  · repeat after_reads_at
    exact hg o
  · repeat after_reads_at
    rw [lit_edges, conv_zero, ← EReal.coe_sub, sub_zero, guard (by norm_num), lit_eps, ← rsqrt_var]
    refine congrArg (fun z => Ideal.rsqrt (z + ((eps : ℝ) : EReal))) ?_
    rw [← var_div _ card_edges (by norm_num)]
    refine congrArg (fun z => Ideal.div z ((327680 : ℝ) : EReal)) ?_
    refine (sum012 reducesTo_S16x20x1024x64_S64_d0_1_2 _ o).trans ?_
    rw [← coe_sum]
    refine Finset.sum_congr rfl fun p _ => ?_
    pointwise
    rw [hx, hm, ← EReal.coe_sub, ← EReal.coe_mul]
    rfl
  · repeat after_reads_at
    exact hb o

end Cert.Net

end
-- ==== Proof.Net.FirstArr.lean ====
/- What the first kernel leaves in its two arrays, every cloud a grid point. -/
module

public import proofs.«01_k».proof.Proof.Net.First

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (V : (c : Dev nD) → (b : Ref sig .tc) → Buf (Elt Ideal) ((c : Thread nD τ).loc b)) (c : Dev nD)
  {X : Points 6} {W : Fin 64 → Fin (6 + 6) → ℝ}
  (hx : ∀ b n k, V c main_v1 (ix3 b n k) = ((pad8 (X b) n k : ℝ) : EReal))
  (hw : ∀ o k, V c main_v4 (ix2 o k) = ((pad16 W o k : ℝ) : EReal))

/-- The block of every window of the first kernel: the grid point's own, the weight whole. -/
theorem place0 : ∀ t : Fin cfg0.N, win0_0.index t = ![t.val, 0, 0] ∧ win0_1.index t = ![0, 0]
    ∧ win0_2.index t = ![t.val, 0, 0] ∧ win0_3.index t = ![t.val, 0, 0, 0] := by decide +kernel

include hx in
theorem blk0_0 (t : Fin cfg0.N) (n : Fin 1024) (k : Fin 8) :
    iblk0 V c 0 t (ix3 0 n k) = ((pad8 (X t) n k : ℝ) : EReal) := by
  obtain ⟨e0, -, -, -⟩ := place0 t
  refine Eq.trans ?_ (hx t n k)
  blk_ext [iblk0, e0]

include hw in
theorem blk0_1 (t : Fin cfg0.N) (o : Fin 64) (k : Fin 16) : iblk0 V c 1 t (ix2 o k) = ((pad16 W o k : ℝ) : EReal) := by
  obtain ⟨-, e1, -, -⟩ := place0 t
  refine Eq.trans ?_ (hw o k)
  blk_ext [iblk0, e1]

include hx in
/-- The distances. -/
theorem arr0_2 : (dat0 V c).arrAt 2 cfg0.N
    = ((fun i => ((0 - pd (X (i 0)) (i 1) (i 2) : ℝ) : EReal)) : S16x1024x1024.Idx → EReal) := by
  refine (dat0 V c).arrAt_eq_of_covers 2 _ (by decide +kernel) fun t hf y => ?_
  obtain ⟨-, -, e2, -⟩ := place0 t
  blk_simp
  rw [after0_2]
  have a0 : (win0_2.blk t).view.emb y 0 = t := Fin.ext (by blk_ext [e2])
  have a1 : (win0_2.blk t).view.emb y 1 = y 1 := Fin.ext (by blk_ext [e2])
  have a2 : (win0_2.blk t).view.emb y 2 = y 2 := Fin.ext (by blk_ext [e2])
  rw [a0, a1, a2]
  exact out0_2_at (x1 := iblk0 V c 1 t) (blk0_0 V c hx t) y

include hx hw in
/-- The edge convolution. -/
theorem arr0_3 : (dat0 V c).arrAt 3 cfg0.N
    = ((fun i => ((edges W X (i 0) (i 2) (i 1) (i 3) : ℝ) : EReal)) : S16x20x1024x64.Idx → EReal) := by
  refine (dat0 V c).arrAt_eq_of_covers 3 _ (by decide +kernel) fun t hf y => ?_
  obtain ⟨-, -, -, e3⟩ := place0 t
  blk_simp
  rw [after0_3]
  have a0 : (win0_3.blk t).view.emb y 0 = t := Fin.ext (by blk_ext [e3])
  have a1 : (win0_3.blk t).view.emb y 1 = y 1 := Fin.ext (by blk_ext [e3])
  have a2 : (win0_3.blk t).view.emb y 2 = y 2 := Fin.ext (by blk_ext [e3])
  have a3 : (win0_3.blk t).view.emb y 3 = y 3 := Fin.ext (by blk_ext [e3])
  rw [a0, a1, a2, a3]
  exact out0_3_at (blk0_0 V c hx t) (blk0_1 V c hw t) y

end Cert.Net

end
-- ==== Proof.Net.Ranks.lean ====
/- The kernel that normalises, convolves and takes the greatest over the neighbours, written once: it is called twice. -/
module

public import proofs.«01_k».proof.Proof.Net.Rounds

@[expose] public section

set_option synthInstance.maxSize 4096
set_option maxRecDepth 16384

noncomputable section

namespace Cert.Net

open Idealize.ShloMosaic Idealize.SL.Sem Cert.KernelIdeal Cert.KernelIdeal.Gen

variable {F : FTy → Type} [FloatOps F] [Named F]

/-- The block of the neighbours of rank `j`. -/
def slab (x0 : Vec F S1x20x1024x64 .f32) : ℕ → Vec F S1x1x1024x64 .f32
  | 0 => View.ld x0 r1_2
  | 1 => View.ld x0 r1_3
  | 2 => View.ld x0 r1_4
  | 3 => View.ld x0 r1_5
  | 4 => View.ld x0 r1_6
  | 5 => View.ld x0 r1_7
  | 6 => View.ld x0 r1_8
  | 7 => View.ld x0 r1_9
  | 8 => View.ld x0 r1_10
  | 9 => View.ld x0 r1_11
  | 10 => View.ld x0 r1_12
  | 11 => View.ld x0 r1_13
  | 12 => View.ld x0 r1_14
  | 13 => View.ld x0 r1_15
  | 14 => View.ld x0 r1_16
  | 15 => View.ld x0 r1_17
  | 16 => View.ld x0 r1_18
  | 17 => View.ld x0 r1_19
  | 18 => View.ld x0 r1_20
  | _ => View.ld x0 r1_21

/-- A table's row of 64 along the points. -/
def tabRow (t : FVec F S1x64 .f32) : FVec F S1024x64 .f32 := broadcastTo S1024x64 t broadcasts_S1x64_S1024x64

/-- Normalisation by a table of four rows, and the positive part. -/
def bnBlock (t : FVec F S4x64 .f32) (c : FVec F S1024x64 .f32) : FVec F S1024x64 .f32 :=
  maximumf (addf (mulf (mulf (tabRow (extractStridedSlice S1x64 ![1, 0] t slices_S4x64_o1_0_S1x64))
    (subf c (tabRow (extractStridedSlice S1x64 ![0, 0] t slices_S4x64_o0_0_S1x64))))
    (tabRow (extractStridedSlice S1x64 ![2, 0] t slices_S4x64_o2_0_S1x64)))
    (tabRow (extractStridedSlice S1x64 ![3, 0] t slices_S4x64_o3_0_S1x64)))
    (broadcast S1024x64 (Scalar.ofBits (F := F) .f32 0x00000000#32))

/-- What is convolved for one rank. -/
def rowB (t : FVec F S4x64 .f32) (w : Vec F S64x64 .f32) (c : Vec F S1x1x1024x64 .f32) : FVec F S1024x64 .f32 :=
  matmul (φ₁ := .f32) (φ₂ := .f32) dot_S1024x64_S64x64_S1024x64_1_1_0_0_n_n none
    (bnBlock t (shapeCast (α := F .f32) S1024x64 c shapeCasts_S1x1x1024x64_S1024x64)) w
    (constant S1024x64 .f32 0x00000000#32)

/-- The same from the blocks of the arguments. -/
def rowN (x0 : Vec F S1x20x1024x64 .f32) (x1 : Vec F S4x64 .f32) (x2 : Vec F S64x64 .f32) (j : ℕ) : FVec F S1024x64 .f32 :=
  rowB (shapeCast (α := F .f32) S4x64 (View.ld x1 r1_0) shapeCasts_S4x64_S4x64) (View.ld x2 r1_1) (slab x0 j)

/-- What is stored for one rank. -/
def pieceN (x0 : Vec F S1x20x1024x64 .f32) (x1 : Vec F S4x64 .f32) (x2 : Vec F S64x64 .f32) (j : ℕ) : FVec F S1x1x1024x64 .f32 :=
  shapeCast S1x1x1024x64 (rowN x0 x1 x2 j) shapeCasts_S1024x64_S1x1x1024x64

variable (x0 : Vec F S1x20x1024x64 .f32) (x1 : Vec F S4x64 .f32) (x2 : Vec F S64x64 .f32)

/-- The second kernel's stores, one a rank. -/
theorem out1_3_eq : out1_3 x0 x1 x2 = View.canon [⟨r1_21, pieceN x0 x1 x2 19⟩,
    ⟨r1_20, pieceN x0 x1 x2 18⟩,
    ⟨r1_19, pieceN x0 x1 x2 17⟩,
    ⟨r1_18, pieceN x0 x1 x2 16⟩,
    ⟨r1_17, pieceN x0 x1 x2 15⟩,
    ⟨r1_16, pieceN x0 x1 x2 14⟩,
    ⟨r1_15, pieceN x0 x1 x2 13⟩,
    ⟨r1_14, pieceN x0 x1 x2 12⟩,
    ⟨r1_13, pieceN x0 x1 x2 11⟩,
    ⟨r1_12, pieceN x0 x1 x2 10⟩,
    ⟨r1_11, pieceN x0 x1 x2 9⟩,
    ⟨r1_10, pieceN x0 x1 x2 8⟩,
    ⟨r1_9, pieceN x0 x1 x2 7⟩,
    ⟨r1_8, pieceN x0 x1 x2 6⟩,
    ⟨r1_7, pieceN x0 x1 x2 5⟩,
    ⟨r1_6, pieceN x0 x1 x2 4⟩,
    ⟨r1_5, pieceN x0 x1 x2 3⟩,
    ⟨r1_4, pieceN x0 x1 x2 2⟩,
    ⟨r1_3, pieceN x0 x1 x2 1⟩,
    ⟨r1_2, pieceN x0 x1 x2 0⟩] := rfl

/-- The second kernel's greatest over the ranks. -/
theorem out1_4_eq : out1_4 x0 x1 x2 =
    View.canon [⟨r1_22, shapeCast S1x1024x64 (accMax (rowN x0 x1 x2) 20) shapeCasts_S1024x64_S1x1024x64⟩] := rfl

/-- The fourth kernel's stores, one a rank. -/
theorem out3_3_eq : out3_3 x0 x1 x2 = View.canon [⟨r3_21, pieceN x0 x1 x2 19⟩,
    ⟨r3_20, pieceN x0 x1 x2 18⟩,
    ⟨r3_19, pieceN x0 x1 x2 17⟩,
    ⟨r3_18, pieceN x0 x1 x2 16⟩,
    ⟨r3_17, pieceN x0 x1 x2 15⟩,
    ⟨r3_16, pieceN x0 x1 x2 14⟩,
    ⟨r3_15, pieceN x0 x1 x2 13⟩,
    ⟨r3_14, pieceN x0 x1 x2 12⟩,
    ⟨r3_13, pieceN x0 x1 x2 11⟩,
    ⟨r3_12, pieceN x0 x1 x2 10⟩,
    ⟨r3_11, pieceN x0 x1 x2 9⟩,
    ⟨r3_10, pieceN x0 x1 x2 8⟩,
    ⟨r3_9, pieceN x0 x1 x2 7⟩,
    ⟨r3_8, pieceN x0 x1 x2 6⟩,
    ⟨r3_7, pieceN x0 x1 x2 5⟩,
    ⟨r3_6, pieceN x0 x1 x2 4⟩,
    ⟨r3_5, pieceN x0 x1 x2 3⟩,
    ⟨r3_4, pieceN x0 x1 x2 2⟩,
    ⟨r3_3, pieceN x0 x1 x2 1⟩,
    ⟨r3_2, pieceN x0 x1 x2 0⟩] := rfl

/-- The fourth kernel's greatest over the ranks. -/
theorem out3_4_eq : out3_4 x0 x1 x2 =
    View.canon [⟨r3_22, shapeCast S1x1024x64 (accMax (rowN x0 x1 x2) 20) shapeCasts_S1024x64_S1x1024x64⟩] := rfl

end Cert.Net

end
-- ==== Proof.Net.Second.lean ====
/- What the second kernel (and the fourth, the same) computes of one cloud: normalise, convolve, take the greatest. -/
module

public import proofs.«01_k».proof.Proof.Net.Ranks
public import proofs.«01_k».proof.Proof.Net.Tiles
public import proofs.«01_k».proof.Proof.Net.Accum

@[expose] public section

set_option synthInstance.maxSize 4096
set_option maxRecDepth 16384

noncomputable section

namespace Cert.Net

open Idealize.ShloMosaic Idealize.SL.Sem Cert.KernelIdeal Cert.KernelIdeal.Gen Idealize.ShloMosaic.Pointwise

theorem rowB_at (t : FVec Ideal S4x64 .f32) (w : Vec Ideal S64x64 .f32) (s : Vec Ideal S1x1x1024x64 .f32) (n : Fin 1024) (o : Fin 64) :
    rowB t w s (ix2 n o) = ∑ k, max (t (ix2 1 k) * (s (ix4 0 0 n k) - t (ix2 0 k)) * t (ix2 2 k) + t (ix2 3 k)) 0 * w (ix2 o k) := by
  pointwise [rowB, bnBlock, tabRow]

theorem slab_at (x0 : Vec Ideal S1x20x1024x64 .f32) (j : ℕ) (hj : j < 20) (n : Fin 1024) (o : Fin 64) :
    slab x0 j (ix4 0 0 n o) = x0 (ix4 0 ⟨j, hj⟩ n o) := by
  interval_cases j <;> (unfold slab; pointwise []; try rfl)

section

variable {x0 : Vec Ideal S1x20x1024x64 .f32} {x1 : Vec Ideal S4x64 .f32} {x2 : Vec Ideal S64x64 .f32}
  {h : Fin 1024 → Fin 20 → Fin 64 → ℝ} {m v g b : Fin 64 → ℝ} {W : Fin 64 → Fin 64 → ℝ}
  (hx : ∀ n k o, x0 (ix4 0 k n o) = ((h n k o : ℝ) : EReal))
  (ht : IsTab (fun r o => x1 (ix2 r o)) m v g b) (hw : ∀ o k, x2 (ix2 o k) = ((W o k : ℝ) : EReal))

include hx ht hw

theorem rowN_at (j : ℕ) (hj : j < 20) (n : Fin 1024) (o : Fin 64) : rowN x0 x1 x2 j (ix2 n o)
    = ((∑ k, bnr (m k) (v k) (g k) (b k) (h n ⟨j, hj⟩ k) * W o k : ℝ) : EReal) := by
  unfold rowN
  rw [rowB_at]
  have e1 : ∀ r k, shapeCast (α := Ideal .f32) S4x64 (View.ld x1 r1_0) shapeCasts_S4x64_S4x64 (ix2 r k) = x1 (ix2 r k) := fun r k => by
    pointwise []
  have e2 : ∀ o k, View.ld x2 r1_1 (ix2 o k) = x2 (ix2 o k) := fun o k => by pointwise []
  simp only [slab_at x0 j hj, hx, e1, e2, hw, fun k x => ht.bn k x, ← EReal.coe_mul, coe_sum]

theorem pieceN_at (j : ℕ) (hj : j < 20) (n : Fin 1024) (o : Fin 64) : pieceN x0 x1 x2 j (ix4 0 0 n o)
    = ((∑ k, bnr (m k) (v k) (g k) (b k) (h n ⟨j, hj⟩ k) * W o k : ℝ) : EReal) := by
  rw [← rowN_at hx ht hw j hj]
  unfold pieceN
  generalize rowN x0 x1 x2 j = a
  pointwise []

/-- The convolution, rank by rank. -/
theorem out1_3_at (y : S1x20x1024x64.Idx) : out1_3 x0 x1 x2 y
    = ((∑ k, bnr (m k) (v k) (g k) (b k) (h (y 2) (y 1) k) * W (y 3) k : ℝ) : EReal) := by
  have ch := tile_at (fun j n o => ((∑ k, bnr (m k) (v k) (g k) (b k) (h n j k) * W o k : ℝ) : EReal)) (pieceN x0 x1 x2)
    (fun j hj r o => pieceN_at hx ht hw j hj r o) y
  rw [out1_3_eq]
  canon_tiles x h
  all_goals exact ch _ (by decide) x (by omega) (by omega) (by omega)

/-- Its greatest over the ranks. -/
theorem out1_4_at (y : S1x1024x64.Idx) : out1_4 x0 x1 x2 y
    = ((sup fun j => ∑ k, bnr (m k) (v k) (g k) (b k) (h (y 1) j k) * W (y 2) k : ℝ) : EReal) := by
  have hs := fun (n : Fin 1024) (o : Fin 64) => accMax_at (rowN x0 x1 x2) (fun j => ∑ k, bnr (m k) (v k) (g k) (b k) (h n j k) * W o k) (ix2 n o)
    fun j hj => rowN_at hx ht hw j hj n o
  rw [out1_4_eq]
  generalize accMax (rowN x0 x1 x2) 20 = a at hs ⊢
  frame_out
  idx_vars y
  pointwise []
  exact hs _ _

/-- The fourth kernel stores the same. -/
theorem out3_3_at (y : S1x20x1024x64.Idx) : out3_3 x0 x1 x2 y
    = ((∑ k, bnr (m k) (v k) (g k) (b k) (h (y 2) (y 1) k) * W (y 3) k : ℝ) : EReal) :=
  out1_3_at hx ht hw y

theorem out3_4_at (y : S1x1024x64.Idx) : out3_4 x0 x1 x2 y
    = ((sup fun j => ∑ k, bnr (m k) (v k) (g k) (b k) (h (y 1) j k) * W (y 2) k : ℝ) : EReal) :=
  out1_4_at hx ht hw y

end

end Cert.Net

end
-- ==== Proof.Net.Arr1.lean ====
/- What the second kernel leaves in its two arrays. -/
module

public import proofs.«01_k».proof.Proof.Net.Second

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (V : (c : Dev nD) → (b : Ref sig .tc) → Buf (Elt Ideal) ((c : Thread nD τ).loc b)) (c : Dev nD)

/-- The block of every window: the grid point's own cloud, or the whole array. -/
theorem place1 : ∀ t : Fin cfg1.N, win1_0.index t = ![t.val, 0, 0, 0]
    ∧ win1_1.index t = ![0, 0]
    ∧ win1_2.index t = ![0, 0]
    ∧ win1_3.index t = ![t.val, 0, 0, 0]
    ∧ win1_4.index t = ![t.val, 0, 0] := by decide +kernel

theorem blk1_0 (t : Fin cfg1.N) (k : Fin 20) (n : Fin 1024) (o : Fin 64) : iblk1 V c 0 t (ix4 0 k n o) = V c main_v9_1 (ix4 t k n o) := by
  obtain ⟨e, -, -, -, -⟩ := place1 t
  blk_ext [iblk1, e]

theorem blk1_1 (t : Fin cfg1.N) (o : Fin 4) (k : Fin 64) : iblk1 V c 1 t (ix2 o k) = V c main_v21 (ix2 o k) := by
  obtain ⟨-, e, -, -, -⟩ := place1 t
  blk_ext [iblk1, e]

theorem blk1_2 (t : Fin cfg1.N) (o : Fin 64) (k : Fin 64) : iblk1 V c 2 t (ix2 o k) = V c main_arg4 (ix2 o k) := by
  obtain ⟨-, -, e, -, -⟩ := place1 t
  blk_ext [iblk1, e]

variable {h : Edges} {m v g b : Fin 64 → ℝ} {W : Fin 64 → Fin 64 → ℝ}
  (hx : ∀ i k n o, V c main_v9_1 (ix4 i k n o) = ((h i n k o : ℝ) : EReal))
  (ht : IsTab (fun r o => V c main_v21 (ix2 r o)) m v g b) (hw : ∀ o k, V c main_arg4 (ix2 o k) = ((W o k : ℝ) : EReal))

include hx ht hw in
/-- Output 1. -/
theorem arr1_3 : (dat1 V c).arrAt 3 cfg1.N
    = ((fun i => ((∑ k, bnr (m k) (v k) (g k) (b k) (h (i 0) (i 2) (i 1) k) * W (i 3) k : ℝ) : EReal)) : S16x20x1024x64.Idx → EReal) := by
  refine (dat1 V c).arrAt_eq_of_covers 3 _ (by decide +kernel) fun t hf y => ?_
  obtain ⟨-, -, -, e, -⟩ := place1 t
  have h0 : ∀ n k o, iblk1 V c 0 t (ix4 0 k n o) = ((h t n k o : ℝ) : EReal) := fun n k o => (blk1_0 V c t k n o).trans (hx t k n o)
  have h1 : IsTab (fun r o => iblk1 V c 1 t (ix2 r o)) m v g b := fun o => by simp only [blk1_1]; exact ht o
  have h2 : ∀ o k, iblk1 V c 2 t (ix2 o k) = ((W o k : ℝ) : EReal) := fun o k => (blk1_2 V c t o k).trans (hw o k)
  blk_simp
  rw [after1_3]
  have a0 : (win1_3.blk t).view.emb y 0 = t := Fin.ext (by blk_ext [e])
  have a1 : (win1_3.blk t).view.emb y 1 = y 1 := Fin.ext (by blk_ext [e])
  have a2 : (win1_3.blk t).view.emb y 2 = y 2 := Fin.ext (by blk_ext [e])
  have a3 : (win1_3.blk t).view.emb y 3 = y 3 := Fin.ext (by blk_ext [e])
  rw [a0, a1, a2, a3]
  exact out1_3_at h0 h1 h2 y

include hx ht hw in
/-- Output 2. -/
theorem arr1_4 : (dat1 V c).arrAt 4 cfg1.N
    = ((fun i => ((sup fun j => ∑ k, bnr (m k) (v k) (g k) (b k) (h (i 0) (i 1) j k) * W (i 2) k : ℝ) : EReal)) : S16x1024x64.Idx → EReal) := by
  refine (dat1 V c).arrAt_eq_of_covers 4 _ (by decide +kernel) fun t hf y => ?_
  obtain ⟨-, -, -, -, e⟩ := place1 t
  have h0 : ∀ n k o, iblk1 V c 0 t (ix4 0 k n o) = ((h t n k o : ℝ) : EReal) := fun n k o => (blk1_0 V c t k n o).trans (hx t k n o)
  have h1 : IsTab (fun r o => iblk1 V c 1 t (ix2 r o)) m v g b := fun o => by simp only [blk1_1]; exact ht o
  have h2 : ∀ o k, iblk1 V c 2 t (ix2 o k) = ((W o k : ℝ) : EReal) := fun o k => (blk1_2 V c t o k).trans (hw o k)
  blk_simp
  rw [after1_4]
  have a0 : (win1_4.blk t).view.emb y 0 = t := Fin.ext (by blk_ext [e])
  have a1 : (win1_4.blk t).view.emb y 1 = y 1 := Fin.ext (by blk_ext [e])
  have a2 : (win1_4.blk t).view.emb y 2 = y 2 := Fin.ext (by blk_ext [e])
  rw [a0, a1, a2]
  exact out1_4_at h0 h1 h2 y

end Cert.Net

end
-- ==== Proof.Net.Third.lean ====
/- What the third and the fifth kernel compute of one cloud: the features from the greatest, the distances, the
   neighbours, the edge convolution of 64 channels; the fifth keeps the greatest and the sums over the ranks. -/
module

public import proofs.«01_k».proof.Proof.Net.Picks
public import proofs.«01_k».proof.Proof.Net.Tiles
public import proofs.«01_k».proof.Proof.Net.Accum

@[expose] public section

set_option synthInstance.maxSize 4096
set_option maxRecDepth 16384

noncomputable section

namespace Cert.Net

open Idealize.ShloMosaic Idealize.SL.Sem Cert.KernelIdeal Cert.KernelIdeal.Gen Idealize.ShloMosaic.Pointwise

section

variable {x0 : Vec Ideal S1x1024x64 .f32} {x1 : Vec Ideal S4x64 .f32} {w : Vec Ideal S64x128 .f32}
  {M : Fin 1024 → Fin 64 → ℝ} {m v g b : Fin 64 → ℝ} {W : Fin 64 → Fin (64 + 64) → ℝ} {X : Fin 1024 → Fin 64 → ℝ}
  (hx : ∀ n o, x0 (ix3 0 n o) = ((M n o : ℝ) : EReal)) (ht : IsTab (fun r o => x1 (ix2 r o)) m v g b)
  (hX : ∀ n o, X n o = bnr (m o) (v o) (g o) (b o) (M n o))

include hx ht hX

/-- The features. -/
theorem feat_at (n : Fin 1024) (o : Fin 64) : k2_pay2 x0 x1 (ix2 n o) = ((X n o : ℝ) : EReal) := by
  have e : k2_pay2 x0 x1 (ix2 n o) = max (x1 (ix2 1 o) * (x0 (ix3 0 n o) - x1 (ix2 0 o)) * x1 (ix2 2 o) + x1 (ix2 3 o)) 0 := by
    pointwise [k2_pay2]
  rw [e, hx, hX]
  exact ht.bn o _

/-- The distances between the features. -/
theorem dist_at (r l : Fin 1024) : k2_pay3 x0 x1 (ix2 r l) = ((pd X r l : ℝ) : EReal) := by
  have e : k2_pay3 x0 x1 (ix2 r l) = Ideal.ofBits .f32 0x40000000#32 * ∑ x, k2_pay2 x0 x1 (ix2 r x) * k2_pay2 x0 x1 (ix2 l x)
      - ∑ x, k2_pay2 x0 x1 (ix2 r x) * k2_pay2 x0 x1 (ix2 r x) - ∑ x, k2_pay2 x0 x1 (ix2 l x) * k2_pay2 x0 x1 (ix2 l x) := by
    unfold k2_pay3
    generalize k2_pay2 x0 x1 = a
    pointwise []
  rw [e]
  simp only [feat_at hx ht hX, lit_two, ← EReal.coe_mul, coe_sum, ← EReal.coe_sub]
  rfl

theorem dist_row (r : Fin 1024) : row (k2_pay3 x0 x1) r = fun j => ((pd X r j : ℝ) : EReal) :=
  funext fun l => dist_at hx ht hX r l

/-- The edge convolution with the neighbour of rank `j`. -/
theorem row64_at (hw : ∀ o k, w (ix2 o k) = ((W o k : ℝ) : EReal)) (j : ℕ) (hj : j < 20) (r : Fin 1024) (o : Fin 64) :
    row64 (k2_pay3 x0 x1) (k2_pay7 x0 x1) (k2_pay8 x0 x1) (k2_pay9 x0 x1) (k2_pay2 x0 x1) w j (ix2 r o)
      = ((edge W X r ⟨j, hj⟩ o : ℝ) : EReal) := by
  have hh : ∀ l, hit (rounds (k2_pay3 x0 x1) j) (ix2 r l) = if l = nb X r ⟨j, hj⟩ then 1#1 else 0#1 := fun l => by
    rw [hit_rounds, dist_row hx ht hX]; rfl
  have e2 := feat_at hx ht hX
  have e7 : ∀ n c, k2_pay7 x0 x1 (ix2 n c) = ((X n c : ℝ) : EReal) := fun n c => by
    rw [← e2]; unfold k2_pay7 k2_pay4; generalize k2_pay2 x0 x1 = a; pointwise []
  have e8 : ∀ n c, k2_pay8 x0 x1 (ix2 n c) = (0 : EReal) := fun n c => by
    have e : k2_pay8 x0 x1 (ix2 n c) = k2_pay2 x0 x1 (ix2 n c) - k2_pay2 x0 x1 (ix2 n c) := by
      unfold k2_pay8 k2_pay6 k2_pay5 k2_pay4; generalize k2_pay2 x0 x1 = a; pointwise []
    rw [e, e2, coe_sub_self]
  have e9 : ∀ n c, k2_pay9 x0 x1 (ix2 n c) = (0 : EReal) := fun n c => by
    have e : k2_pay9 x0 x1 (ix2 n c) = k2_pay2 x0 x1 (ix2 n c) - k2_pay2 x0 x1 (ix2 n c)
        - (k2_pay2 x0 x1 (ix2 n c) - k2_pay2 x0 x1 (ix2 n c)) := by
      unfold k2_pay9 k2_pay6 k2_pay5 k2_pay4; generalize k2_pay2 x0 x1 = a; pointwise []
    rw [e, e2, coe_sub_self, sub_zero]
  have ep : ∀ c, picked64 (hit (rounds (k2_pay3 x0 x1) j)) (k2_pay7 x0 x1) (k2_pay8 x0 x1) (k2_pay9 x0 x1) (ix2 r c)
      = ((X (nb X r ⟨j, hj⟩) c : ℝ) : EReal) := fun c => by
    rw [picked64_eq _ _ _ _ r (nb X r ⟨j, hj⟩) c hh e8 e9, e7]
  unfold row64
  generalize picked64 (hit (rounds (k2_pay3 x0 x1) j)) (k2_pay7 x0 x1) (k2_pay8 x0 x1) (k2_pay9 x0 x1) = f at ep ⊢
  generalize k2_pay2 x0 x1 = a at e2 ⊢
  pointwise [conv64]
  simp only [ep, e2, hw, ← EReal.coe_sub, ← EReal.coe_mul, coe_sum, ← EReal.coe_add]
  rfl

theorem piece64_at (hw : ∀ o k, w (ix2 o k) = ((W o k : ℝ) : EReal)) (j : ℕ) (hj : j < 20) (r : Fin 1024) (o : Fin 64) :
    piece64 x0 x1 w j (ix4 0 0 r o) = ((edge W X r ⟨j, hj⟩ o : ℝ) : EReal) := by
  rw [← row64_at hx ht hX hw j hj r o]
  have e0 : View.ld x0 r2_0 = x0 := by frame_out
  have e1 : View.ld x1 r2_1 = x1 := by frame_out
  have e2 : View.ld w r2_2 = w := by frame_out
  unfold piece64 k2_pay83 k2_pay84 k2_pay85 k2_pay86 k2_pay82
  rw [e0, e1, e2]
  generalize row64 (F := Ideal) _ _ _ _ _ _ j = a
  pointwise []

/-- The third kernel's store: the edge convolution, rank by rank. -/
theorem out2_3_at (hw : ∀ o k, w (ix2 o k) = ((W o k : ℝ) : EReal)) (y : S1x20x1024x64.Idx) :
    out2_3 x0 x1 w y = ((edge W X (y 2) (y 1) (y 3) : ℝ) : EReal) := by
  have ch := tile_at (fun k n o => ((edge W X n k o : ℝ) : EReal)) (piece64 x0 x1 w)
    (fun j hj r o => piece64_at hx ht hX hw j hj r o) y
  rw [out2_3_eq]
  canon_tiles x h
  all_goals exact ch _ (by decide) x (by omega) (by omega) (by omega)

theorem row5_at (hw : ∀ o k, w (ix2 o k) = ((W o k : ℝ) : EReal)) (j : ℕ) (hj : j < 20) (r : Fin 1024) (o : Fin 64) :
    row5 x0 x1 w j (ix2 r o) = ((edge W X r ⟨j, hj⟩ o : ℝ) : EReal) := by
  rw [← row64_at hx ht hX hw j hj r o]
  have e0 : View.ld x0 r4_0 = x0 := by frame_out
  have e1 : View.ld x1 r4_1 = x1 := by frame_out
  have e2 : View.ld w r4_2 = w := by frame_out
  unfold row5 k4_pay125 k4_pay126 k4_pay127 k4_pay128 k4_pay129
  rw [e0, e1, e2]
  rfl

/-- The fifth kernel's first store: the greatest over the ranks. -/
theorem out4_3_at (hw : ∀ o k, w (ix2 o k) = ((W o k : ℝ) : EReal)) (y : S1x1024x64.Idx) :
    out4_3 x0 x1 w y = ((sup fun k => edge W X (y 1) k (y 2) : ℝ) : EReal) := by
  have hs := fun (n : Fin 1024) (o : Fin 64) => accMax_at (row5 x0 x1 w) (fun k => edge W X n k o) (ix2 n o)
    fun j hj => row5_at hx ht hX hw j hj n o
  rw [out4_3_eq]
  generalize accMax (row5 x0 x1 w) 20 = a at hs ⊢
  frame_out
  idx_vars y
  pointwise []
  exact hs _ _

/-- Its second: the sums and the sums of squares over ranks and points. -/
theorem out4_4_at (hw : ∀ o k, w (ix2 o k) = ((W o k : ℝ) : EReal)) (y : S1x2x64.Idx) :
    out4_4 x0 x1 w y = ((if (y 1).val < 1 then ∑ k, ∑ n, edge W X n k (y 2)
      else ∑ k, ∑ n, edge W X n k (y 2) * edge W X n k (y 2) : ℝ) : EReal) := by
  have h1 := fun (o : Fin 64) => accSum_at (row5 x0 x1 w) (fun k n => edge W X n k o) o
    fun j hj n => row5_at hx ht hX hw j hj n o
  have h2 := fun (o : Fin 64) => accSum_at (fun j => mulf (row5 x0 x1 w j) (row5 x0 x1 w j)) (fun k n => edge W X n k o * edge W X n k o) o
    fun j hj n => by
      have e : mulf (row5 x0 x1 w j) (row5 x0 x1 w j) (ix2 n o) = row5 x0 x1 w j (ix2 n o) * row5 x0 x1 w j (ix2 n o) := rfl
      rw [e, row5_at hx ht hX hw j hj n o, EReal.coe_mul]
  rw [out4_4_eq]
  generalize accSum (row5 x0 x1 w) 20 = a at h1 ⊢
  generalize accSum (fun j => mulf (row5 x0 x1 w j) (row5 x0 x1 w j)) 20 = a2 at h2 ⊢
  frame_out
  idx_vars y
  pointwise []
  by_cases h : y1.val < 1
  · rw [dif_pos h]
    refine Eq.trans ?_ (congrArg (fun z : ℝ => (z : EReal)) (if_pos h).symm)
    refine Eq.trans ?_ (h1 y2)
    exact congrArg (fun z => a (ix2 z y2)) (Fin.ext (by show y1.val = 0; omega))
  · rw [dif_neg h]
    refine Eq.trans ?_ (congrArg (fun z : ℝ => (z : EReal)) (if_neg h).symm)
    refine Eq.trans ?_ (h2 y2)
    exact congrArg (fun z => a2 (ix2 z y2)) (Fin.ext (by show y1.val - 1 = 0; omega))

end

end Cert.Net

end
-- ==== Proof.Net.Arr2.lean ====
/- What the third kernel leaves in its array. -/
module

public import proofs.«01_k».proof.Proof.Net.Third

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (V : (c : Dev nD) → (b : Ref sig .tc) → Buf (Elt Ideal) ((c : Thread nD τ).loc b)) (c : Dev nD)

/-- The block of every window: the grid point's own cloud, or the whole array. -/
theorem place2 : ∀ t : Fin cfg2.N, win2_0.index t = ![t.val, 0, 0]
    ∧ win2_1.index t = ![0, 0]
    ∧ win2_2.index t = ![0, 0]
    ∧ win2_3.index t = ![t.val, 0, 0, 0] := by decide +kernel

theorem blk2_0 (t : Fin cfg2.N) (n : Fin 1024) (o : Fin 64) : iblk2 V c 0 t (ix3 0 n o) = V c main_v22_1 (ix3 t n o) := by
  obtain ⟨e, -, -, -⟩ := place2 t
  blk_ext [iblk2, e]

theorem blk2_1 (t : Fin cfg2.N) (o : Fin 4) (k : Fin 64) : iblk2 V c 1 t (ix2 o k) = V c main_v34 (ix2 o k) := by
  obtain ⟨-, e, -, -⟩ := place2 t
  blk_ext [iblk2, e]

theorem blk2_2 (t : Fin cfg2.N) (o : Fin 64) (k : Fin 128) : iblk2 V c 2 t (ix2 o k) = V c main_arg7 (ix2 o k) := by
  obtain ⟨-, -, e, -⟩ := place2 t
  blk_ext [iblk2, e]

variable {M : Points 64} {m v g b : Fin 64 → ℝ} {W : Fin 64 → Fin (64 + 64) → ℝ} {X : Points 64}
  (hx : ∀ i n o, V c main_v22_1 (ix3 i n o) = ((M i n o : ℝ) : EReal))
  (ht : IsTab (fun r o => V c main_v34 (ix2 r o)) m v g b) (hX : ∀ i n o, X i n o = bnr (m o) (v o) (g o) (b o) (M i n o))
  (hw : ∀ o k, V c main_arg7 (ix2 o k) = ((W o k : ℝ) : EReal))

include hx ht hX hw in
/-- Output 1. -/
theorem arr2_3 : (dat2 V c).arrAt 3 cfg2.N
    = ((fun i => ((edges W X (i 0) (i 2) (i 1) (i 3) : ℝ) : EReal)) : S16x20x1024x64.Idx → EReal) := by
  refine (dat2 V c).arrAt_eq_of_covers 3 _ (by decide +kernel) fun t hf y => ?_
  obtain ⟨-, -, -, e⟩ := place2 t
  have h0 : ∀ n o, iblk2 V c 0 t (ix3 0 n o) = ((M t n o : ℝ) : EReal) := fun n o => (blk2_0 V c t n o).trans (hx t n o)
  have h1 : IsTab (fun r o => iblk2 V c 1 t (ix2 r o)) m v g b := fun o => by simp only [blk2_1]; exact ht o
  have h2 : ∀ o k, iblk2 V c 2 t (ix2 o k) = ((W o k : ℝ) : EReal) := fun o k => (blk2_2 V c t o k).trans (hw o k)
  blk_simp
  rw [after2_3]
  have a0 : (win2_3.blk t).view.emb y 0 = t := Fin.ext (by blk_ext [e])
  have a1 : (win2_3.blk t).view.emb y 1 = y 1 := Fin.ext (by blk_ext [e])
  have a2 : (win2_3.blk t).view.emb y 2 = y 2 := Fin.ext (by blk_ext [e])
  have a3 : (win2_3.blk t).view.emb y 3 = y 3 := Fin.ext (by blk_ext [e])
  rw [a0, a1, a2, a3]
  exact out2_3_at h0 h1 (hX t) h2 y

end Cert.Net

end
-- ==== Proof.Net.ChainA.lean ====
/- The kernel's arrays from the arguments to the second edge convolution. -/
module

public import proofs.«01_k».proof.Proof.Gen.KernelIdeal.Frame.Fold0
public import proofs.«01_k».proof.Proof.Net.Args
public import proofs.«01_k».proof.Proof.Net.Tab0
public import proofs.«01_k».proof.Proof.Net.Tab1
public import proofs.«01_k».proof.Proof.Net.Tab2
public import proofs.«01_k».proof.Proof.Net.FirstArr
public import proofs.«01_k».proof.Proof.Net.Arr1
public import proofs.«01_k».proof.Proof.Net.Arr2

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (m : (ℓ : Loc nD τ sig) → Buf (Elt Ideal) ℓ) (ρ : Dev nD → PrngReg) (c : Dev nD)
  {P : Par} (h : IsPar P (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22)) (m ((c : Thread nD τ).loc main_arg23)) (m ((c : Thread nD τ).loc main_arg24)))

include h

/-- The clouds with two columns of zeros. -/
theorem k_v1 : ∀ (i : Fin 16) (n : Fin 1024) (k : Fin 8), W3 m ρ c (Proc.devRef .tc main_v1) (ix3 i n k) = ((pad8 (P.X0 i) n k : ℝ) : EReal) :=
  pad_x (W0 m ρ c) (X := P.X0) (fun i n k => h.x i k n)

/-- The first weight with four columns of zeros. -/
theorem k_v4 : ∀ (o : Fin 64) (k : Fin 16), W3 m ρ c (Proc.devRef .tc main_v4) (ix2 o k) = ((pad16 P.W1 o k : ℝ) : EReal) :=
  pad_w (W0 m ρ c) (W := P.W1) h.W1

/-- The fourth result as the first launch leaves it. -/
theorem k_dist : ∀ (i : Fin 16) (n j : Fin 1024), W4 m ρ c (Proc.devRef .tc main_v9_0) (ix3 i n j) = ((0 - pd (P.X0 i) n j : ℝ) : EReal) :=
  fun i n j => congrFun ((W4_arr m ρ c 2).trans (arr0_2 (V3 m ρ) c (k_v1 m ρ c h))) (ix3 i n j)

/-- The first edge convolution. -/
theorem k_c1 : ∀ (i : Fin 16) (k : Fin 20) (n : Fin 1024) (o : Fin 64), W4 m ρ c (Proc.devRef .tc main_v9_1) (ix4 i k n o) = ((P.c1 i n k o : ℝ) : EReal) :=
  fun i k n o => congrFun ((W4_arr m ρ c 3).trans (arr0_3 (V3 m ρ) c (k_v1 m ρ c h) (k_v4 m ρ c h))) (ix4 i k n o)

/-- The array kept until the launch that reads it. -/
theorem v9_1_7 : ∀ (i : Fin 16) (k : Fin 20) (n : Fin 1024) (o : Fin 64), W7 m ρ c (Proc.devRef .tc main_v9_1) (ix4 i k n o) = ((P.c1 i n k o : ℝ) : EReal) :=
  fun i k n o => (congrFun ((W7_of m ρ c main_v9_1 (by decide)).trans ((W6_of m ρ c main_v9_1 (by decide)).trans (W5_of m ρ c main_v9_1 (by decide)))) (ix4 i k n o)).trans (k_c1 m ρ c h i k n o)

/-- Its table. -/
theorem k_t1 : IsTab (fun r o => W7 m ρ c (Proc.devRef .tc main_v21) (ix2 r o)) (fun o => mean (chanE P.c1 o)) (fun o => var (chanE P.c1 o)) P.g1 P.b1 :=
  tab1 (W4 m ρ c) (k_c1 m ρ c h) (fun o => (congrFun (W4_args m ρ c main_arg2 (by decide)) (ix1 o)).trans (h.g1 o)) (fun o => (congrFun (W4_args m ρ c main_arg3 (by decide)) (ix1 o)).trans (h.b1 o))

/-- The second convolution. -/
theorem k_c2 : ∀ (i : Fin 16) (k : Fin 20) (n : Fin 1024) (o : Fin 64), W8 m ρ c (Proc.devRef .tc main_v22_0) (ix4 i k n o) = ((P.c2 i n k o : ℝ) : EReal) :=
  fun i k n o => congrFun ((W8_arr m ρ c 3).trans (arr1_3 (V7 m ρ) c (v9_1_7 m ρ c h) (k_t1 m ρ c h) (fun o k => (congrFun (W7_args m ρ c main_arg4 (by decide)) (ix2 o k)).trans (h.W1b o k)))) (ix4 i k n o)

/-- Its greatest over the neighbours. -/
theorem k_m1 : ∀ (i : Fin 16) (n : Fin 1024) (o : Fin 64), W8 m ρ c (Proc.devRef .tc main_v22_1) (ix3 i n o) = ((maxE P.c2 i n o : ℝ) : EReal) :=
  fun i n o => congrFun ((W8_arr m ρ c 4).trans (arr1_4 (V7 m ρ) c (v9_1_7 m ρ c h) (k_t1 m ρ c h) (fun o k => (congrFun (W7_args m ρ c main_arg4 (by decide)) (ix2 o k)).trans (h.W1b o k)))) (ix3 i n o)

/-- Its table. -/
theorem k_t2 : IsTab (fun r o => W11 m ρ c (Proc.devRef .tc main_v34) (ix2 r o)) (fun o => mean (chanE P.c2 o)) (fun o => var (chanE P.c2 o)) P.g1b P.b1b :=
  tab2 (W8 m ρ c) (k_c2 m ρ c h) (fun o => (congrFun (W8_args m ρ c main_arg5 (by decide)) (ix1 o)).trans (h.g1b o)) (fun o => (congrFun (W8_args m ρ c main_arg6 (by decide)) (ix1 o)).trans (h.b1b o))

/-- The array kept until the launch that reads it. -/
theorem v22_1_11 : ∀ (i : Fin 16) (n : Fin 1024) (o : Fin 64), W11 m ρ c (Proc.devRef .tc main_v22_1) (ix3 i n o) = ((maxE P.c2 i n o : ℝ) : EReal) :=
  fun i n o => (congrFun ((W11_of m ρ c main_v22_1 (by decide)).trans ((W10_of m ρ c main_v22_1 (by decide)).trans (W9_of m ρ c main_v22_1 (by decide)))) (ix3 i n o)).trans (k_m1 m ρ c h i n o)

/-- The second edge convolution. -/
theorem k_c3 : ∀ (i : Fin 16) (k : Fin 20) (n : Fin 1024) (o : Fin 64), W12 m ρ c (Proc.devRef .tc main_v35) (ix4 i k n o) = ((P.c3 i n k o : ℝ) : EReal) :=
  fun i k n o => congrFun ((W12_arr m ρ c 3).trans (arr2_3 (V11 m ρ) c (v22_1_11 m ρ c h) (k_t2 m ρ c h) P.x1_eq (fun o k => (congrFun (W11_args m ρ c main_arg7 (by decide)) (ix2 o k)).trans (h.W2 o k)))) (ix4 i k n o)

end Cert.Net

end
-- ==== Proof.Net.Tab3.lean ====
/- The table of one normalisation of the first four, made by the host from an array over the edges. -/
module

public import proofs.«01_k».proof.Proof.Net.Accum
public import proofs.«01_k».proof.Proof.Net.Tables
public import proofs.«01_k».proof.Proof.Net.Consts
public import proofs.«01_k».proof.Proof.Net.Sums
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (U : Valuation τ sig (Elt Ideal))

/-- What is left of the array by the sum over the edges. -/
theorem sumE3 {h : Edges} (v : S16x20x1024x64.Idx → EReal) (hx : ∀ i k n o, v (ix4 i k n o) = ((h i n k o : ℝ) : EReal)) (o : Fin 64) :
    Ideal.hostReduceAdd reducesTo_S16x20x1024x64_S64_d0_1_2 v 0 (ix1 o) = ((∑ p, chanE h o p : ℝ) : EReal) := by
  rw [← coe_sum]
  exact (sum012 reducesTo_S16x20x1024x64_S64_d0_1_2 v o).trans (Finset.sum_congr rfl fun p _ => hx _ _ _ _)

/-- The four rows of the table. -/
theorem tab3 {h : Edges} {g b : Fin 64 → ℝ} (hx : ∀ i k n o, U main_v35 (ix4 i k n o) = ((h i n k o : ℝ) : EReal))
    (hg : ∀ o, U main_arg8 (ix1 o) = ((g o : ℝ) : EReal)) (hb : ∀ o, U main_arg9 (ix1 o) = ((b o : ℝ) : EReal)) :
    IsTab (fun r o => StableHlo.after (hostOps3_2 (F := Ideal)) (StableHlo.after hostOps3_1 (StableHlo.after hostOps3 U)) (Proc.devRef .tc main_v47) (ix2 r o))
      (fun o => mean (chanE h o)) (fun o => var (chanE h o)) g b := by
  intro o
  have hm : Ideal.div (Ideal.hostReduceAdd reducesTo_S16x20x1024x64_S64_d0_1_2 (U main_v35) 0 (ix1 o))
      (Ideal.ofBits FTy.f32 0x48A00000#32) = ((mean (chanE h o) : ℝ) : EReal) := by
    rw [sumE3 _ hx, lit_edges, mean_div _ card_edges (by norm_num)]
  beta_reduce
  refine ⟨?_, ?_, ?_, ?_⟩
  · repeat after_reads_at
    exact hm
  · repeat after_reads_at
    exact hg o
  · repeat after_reads_at
    rw [lit_edges, conv_zero, ← EReal.coe_sub, sub_zero, guard (by norm_num), lit_eps, ← rsqrt_var]
    refine congrArg (fun z => Ideal.rsqrt (z + ((eps : ℝ) : EReal))) ?_
    rw [← var_div _ card_edges (by norm_num)]
    refine congrArg (fun z => Ideal.div z ((327680 : ℝ) : EReal)) ?_
    refine (sum012 reducesTo_S16x20x1024x64_S64_d0_1_2 _ o).trans ?_
    rw [← coe_sum]
    refine Finset.sum_congr rfl fun p _ => ?_
    pointwise
    rw [hx, hm, ← EReal.coe_sub, ← EReal.coe_mul]
    rfl
  · repeat after_reads_at
    exact hb o

end Cert.Net

end
-- ==== Proof.Net.Tab4.lean ====
/- The table of one normalisation of the first four, made by the host from an array over the edges. -/
module

public import proofs.«01_k».proof.Proof.Net.Accum
public import proofs.«01_k».proof.Proof.Net.Tables
public import proofs.«01_k».proof.Proof.Net.Consts
public import proofs.«01_k».proof.Proof.Net.Sums
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (U : Valuation τ sig (Elt Ideal))

/-- What is left of the array by the sum over the edges. -/
theorem sumE4 {h : Edges} (v : S16x20x1024x64.Idx → EReal) (hx : ∀ i k n o, v (ix4 i k n o) = ((h i n k o : ℝ) : EReal)) (o : Fin 64) :
    Ideal.hostReduceAdd reducesTo_S16x20x1024x64_S64_d0_1_2 v 0 (ix1 o) = ((∑ p, chanE h o p : ℝ) : EReal) := by
  rw [← coe_sum]
  exact (sum012 reducesTo_S16x20x1024x64_S64_d0_1_2 v o).trans (Finset.sum_congr rfl fun p _ => hx _ _ _ _)

/-- The four rows of the table. -/
theorem tab4 {h : Edges} {g b : Fin 64 → ℝ} (hx : ∀ i k n o, U main_v48_0 (ix4 i k n o) = ((h i n k o : ℝ) : EReal))
    (hg : ∀ o, U main_arg11 (ix1 o) = ((g o : ℝ) : EReal)) (hb : ∀ o, U main_arg12 (ix1 o) = ((b o : ℝ) : EReal)) :
    IsTab (fun r o => StableHlo.after (hostOps4_2 (F := Ideal)) (StableHlo.after hostOps4_1 (StableHlo.after hostOps4 U)) (Proc.devRef .tc main_v60) (ix2 r o))
      (fun o => mean (chanE h o)) (fun o => var (chanE h o)) g b := by
  intro o
  have hm : Ideal.div (Ideal.hostReduceAdd reducesTo_S16x20x1024x64_S64_d0_1_2 (U main_v48_0) 0 (ix1 o))
      (Ideal.ofBits FTy.f32 0x48A00000#32) = ((mean (chanE h o) : ℝ) : EReal) := by
    rw [sumE4 _ hx, lit_edges, mean_div _ card_edges (by norm_num)]
  beta_reduce
  refine ⟨?_, ?_, ?_, ?_⟩
  · repeat after_reads_at
    exact hm
  · repeat after_reads_at
    exact hg o
  · repeat after_reads_at
    rw [lit_edges, conv_zero, ← EReal.coe_sub, sub_zero, guard (by norm_num), lit_eps, ← rsqrt_var]
    refine congrArg (fun z => Ideal.rsqrt (z + ((eps : ℝ) : EReal))) ?_
    rw [← var_div _ card_edges (by norm_num)]
    refine congrArg (fun z => Ideal.div z ((327680 : ℝ) : EReal)) ?_
    refine (sum012 reducesTo_S16x20x1024x64_S64_d0_1_2 _ o).trans ?_
    rw [← coe_sum]
    refine Finset.sum_congr rfl fun p _ => ?_
    pointwise
    rw [hx, hm, ← EReal.coe_sub, ← EReal.coe_mul]
    rfl
  · repeat after_reads_at
    exact hb o

end Cert.Net

end
-- ==== Proof.Net.Tab5.lean ====
/- The table of one normalisation, made by the host from sums that a kernel leaves. -/
module

public import proofs.«01_k».proof.Proof.Net.Accum
public import proofs.«01_k».proof.Proof.Net.Tables
public import proofs.«01_k».proof.Proof.Net.Consts
public import proofs.«01_k».proof.Proof.Net.Sums
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (U : Valuation τ sig (Elt Ideal))

/-- The four rows of the table. -/
theorem tab5 {S Q : Fin 16 → Fin 64 → ℝ} {f : Fin 64 → Fin 16 × Fin 1024 × Fin 20 → ℝ} {g b : Fin 64 → ℝ}
    (hs : ∀ i o, U main_v61_1 (ix3 i 0 o) = ((S i o : ℝ) : EReal)) (hq : ∀ i o, U main_v61_1 (ix3 i 1 o) = ((Q i o : ℝ) : EReal))
    (hS : ∀ o, ∑ i, S i o = ∑ p, f o p) (hQ : ∀ o, ∑ i, Q i o = ∑ p, f o p * f o p)
    (hg : ∀ o, U main_arg14 (ix1 o) = ((g o : ℝ) : EReal)) (hb : ∀ o, U main_arg15 (ix1 o) = ((b o : ℝ) : EReal)) :
    IsTab (fun r o => StableHlo.after (hostOps5 (F := Ideal)) U (Proc.devRef .tc main_v81) (ix2 r o))
      (fun o => mean (f o)) (fun o => var (f o)) g b := by
  intro o
  have hm : Ideal.div ((∑ i, S i o : ℝ) : EReal) ((327680 : ℝ) : EReal) = ((mean (f o) : ℝ) : EReal) := by
    rw [hS, mean_div _ card_edges (by norm_num)]
  have hv : Ideal.div ((∑ i, Q i o : ℝ) : EReal) ((327680 : ℝ) : EReal)
      - ((mean (f o) : ℝ) : EReal) * ((mean (f o) : ℝ) : EReal) = ((var (f o) : ℝ) : EReal) := by
    rw [hQ, Ideal.div_coe (by norm_num), ← EReal.coe_mul, ← EReal.coe_mul, ← EReal.coe_sub, var_eq, card_edges, mul_one_div]
  beta_reduce
  refine ⟨?_, ?_, ?_, ?_⟩
  · repeat after_reads_at
    simp only [hs, hq, coe_sum, zero_add, lit_edges, hm]
  · repeat after_reads_at
    exact hg o
  · repeat after_reads_at
    simp only [hs, hq, coe_sum, zero_add, lit_edges, hm, hv, lit_eps, rsqrt_var]
  · repeat after_reads_at
    exact hb o

end Cert.Net

end
-- ==== Proof.Net.Arr3.lean ====
/- What the fourth kernel leaves in its two arrays. -/
module

public import proofs.«01_k».proof.Proof.Net.Second

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (V : (c : Dev nD) → (b : Ref sig .tc) → Buf (Elt Ideal) ((c : Thread nD τ).loc b)) (c : Dev nD)

/-- The block of every window: the grid point's own cloud, or the whole array. -/
theorem place3 : ∀ t : Fin cfg3.N, win3_0.index t = ![t.val, 0, 0, 0]
    ∧ win3_1.index t = ![0, 0]
    ∧ win3_2.index t = ![0, 0]
    ∧ win3_3.index t = ![t.val, 0, 0, 0]
    ∧ win3_4.index t = ![t.val, 0, 0] := by decide +kernel

theorem blk3_0 (t : Fin cfg3.N) (k : Fin 20) (n : Fin 1024) (o : Fin 64) : iblk3 V c 0 t (ix4 0 k n o) = V c main_v35 (ix4 t k n o) := by
  obtain ⟨e, -, -, -, -⟩ := place3 t
  blk_ext [iblk3, e]

theorem blk3_1 (t : Fin cfg3.N) (o : Fin 4) (k : Fin 64) : iblk3 V c 1 t (ix2 o k) = V c main_v47 (ix2 o k) := by
  obtain ⟨-, e, -, -, -⟩ := place3 t
  blk_ext [iblk3, e]

theorem blk3_2 (t : Fin cfg3.N) (o : Fin 64) (k : Fin 64) : iblk3 V c 2 t (ix2 o k) = V c main_arg10 (ix2 o k) := by
  obtain ⟨-, -, e, -, -⟩ := place3 t
  blk_ext [iblk3, e]

variable {h : Edges} {m v g b : Fin 64 → ℝ} {W : Fin 64 → Fin 64 → ℝ}
  (hx : ∀ i k n o, V c main_v35 (ix4 i k n o) = ((h i n k o : ℝ) : EReal))
  (ht : IsTab (fun r o => V c main_v47 (ix2 r o)) m v g b) (hw : ∀ o k, V c main_arg10 (ix2 o k) = ((W o k : ℝ) : EReal))

include hx ht hw in
/-- Output 1. -/
theorem arr3_3 : (dat3 V c).arrAt 3 cfg3.N
    = ((fun i => ((∑ k, bnr (m k) (v k) (g k) (b k) (h (i 0) (i 2) (i 1) k) * W (i 3) k : ℝ) : EReal)) : S16x20x1024x64.Idx → EReal) := by
  refine (dat3 V c).arrAt_eq_of_covers 3 _ (by decide +kernel) fun t hf y => ?_
  obtain ⟨-, -, -, e, -⟩ := place3 t
  have h0 : ∀ n k o, iblk3 V c 0 t (ix4 0 k n o) = ((h t n k o : ℝ) : EReal) := fun n k o => (blk3_0 V c t k n o).trans (hx t k n o)
  have h1 : IsTab (fun r o => iblk3 V c 1 t (ix2 r o)) m v g b := fun o => by simp only [blk3_1]; exact ht o
  have h2 : ∀ o k, iblk3 V c 2 t (ix2 o k) = ((W o k : ℝ) : EReal) := fun o k => (blk3_2 V c t o k).trans (hw o k)
  blk_simp
  rw [after3_3]
  have a0 : (win3_3.blk t).view.emb y 0 = t := Fin.ext (by blk_ext [e])
  have a1 : (win3_3.blk t).view.emb y 1 = y 1 := Fin.ext (by blk_ext [e])
  have a2 : (win3_3.blk t).view.emb y 2 = y 2 := Fin.ext (by blk_ext [e])
  have a3 : (win3_3.blk t).view.emb y 3 = y 3 := Fin.ext (by blk_ext [e])
  rw [a0, a1, a2, a3]
  exact out3_3_at h0 h1 h2 y

include hx ht hw in
/-- Output 2. -/
theorem arr3_4 : (dat3 V c).arrAt 4 cfg3.N
    = ((fun i => ((sup fun j => ∑ k, bnr (m k) (v k) (g k) (b k) (h (i 0) (i 1) j k) * W (i 2) k : ℝ) : EReal)) : S16x1024x64.Idx → EReal) := by
  refine (dat3 V c).arrAt_eq_of_covers 4 _ (by decide +kernel) fun t hf y => ?_
  obtain ⟨-, -, -, -, e⟩ := place3 t
  have h0 : ∀ n k o, iblk3 V c 0 t (ix4 0 k n o) = ((h t n k o : ℝ) : EReal) := fun n k o => (blk3_0 V c t k n o).trans (hx t k n o)
  have h1 : IsTab (fun r o => iblk3 V c 1 t (ix2 r o)) m v g b := fun o => by simp only [blk3_1]; exact ht o
  have h2 : ∀ o k, iblk3 V c 2 t (ix2 o k) = ((W o k : ℝ) : EReal) := fun o k => (blk3_2 V c t o k).trans (hw o k)
  blk_simp
  rw [after3_4]
  have a0 : (win3_4.blk t).view.emb y 0 = t := Fin.ext (by blk_ext [e])
  have a1 : (win3_4.blk t).view.emb y 1 = y 1 := Fin.ext (by blk_ext [e])
  have a2 : (win3_4.blk t).view.emb y 2 = y 2 := Fin.ext (by blk_ext [e])
  rw [a0, a1, a2]
  exact out3_4_at h0 h1 h2 y

end Cert.Net

end
-- ==== Proof.Net.Arr4.lean ====
/- What the fifth kernel leaves in its two arrays. -/
module

public import proofs.«01_k».proof.Proof.Net.Third

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (V : (c : Dev nD) → (b : Ref sig .tc) → Buf (Elt Ideal) ((c : Thread nD τ).loc b)) (c : Dev nD)

/-- The block of every window: the grid point's own cloud, or the whole array. -/
theorem place4 : ∀ t : Fin cfg4.N, win4_0.index t = ![t.val, 0, 0]
    ∧ win4_1.index t = ![0, 0]
    ∧ win4_2.index t = ![0, 0]
    ∧ win4_3.index t = ![t.val, 0, 0]
    ∧ win4_4.index t = ![t.val, 0, 0] := by decide +kernel

theorem blk4_0 (t : Fin cfg4.N) (n : Fin 1024) (o : Fin 64) : iblk4 V c 0 t (ix3 0 n o) = V c main_v48_1 (ix3 t n o) := by
  obtain ⟨e, -, -, -, -⟩ := place4 t
  blk_ext [iblk4, e]

theorem blk4_1 (t : Fin cfg4.N) (o : Fin 4) (k : Fin 64) : iblk4 V c 1 t (ix2 o k) = V c main_v60 (ix2 o k) := by
  obtain ⟨-, e, -, -, -⟩ := place4 t
  blk_ext [iblk4, e]

theorem blk4_2 (t : Fin cfg4.N) (o : Fin 64) (k : Fin 128) : iblk4 V c 2 t (ix2 o k) = V c main_arg13 (ix2 o k) := by
  obtain ⟨-, -, e, -, -⟩ := place4 t
  blk_ext [iblk4, e]

variable {M : Points 64} {m v g b : Fin 64 → ℝ} {W : Fin 64 → Fin (64 + 64) → ℝ} {X : Points 64}
  (hx : ∀ i n o, V c main_v48_1 (ix3 i n o) = ((M i n o : ℝ) : EReal))
  (ht : IsTab (fun r o => V c main_v60 (ix2 r o)) m v g b) (hX : ∀ i n o, X i n o = bnr (m o) (v o) (g o) (b o) (M i n o))
  (hw : ∀ o k, V c main_arg13 (ix2 o k) = ((W o k : ℝ) : EReal))

include hx ht hX hw in
/-- Output 1. -/
theorem arr4_3 : (dat4 V c).arrAt 3 cfg4.N
    = ((fun i => ((sup fun k => edges W X (i 0) (i 1) k (i 2) : ℝ) : EReal)) : S16x1024x64.Idx → EReal) := by
  refine (dat4 V c).arrAt_eq_of_covers 3 _ (by decide +kernel) fun t hf y => ?_
  obtain ⟨-, -, -, e, -⟩ := place4 t
  have h0 : ∀ n o, iblk4 V c 0 t (ix3 0 n o) = ((M t n o : ℝ) : EReal) := fun n o => (blk4_0 V c t n o).trans (hx t n o)
  have h1 : IsTab (fun r o => iblk4 V c 1 t (ix2 r o)) m v g b := fun o => by simp only [blk4_1]; exact ht o
  have h2 : ∀ o k, iblk4 V c 2 t (ix2 o k) = ((W o k : ℝ) : EReal) := fun o k => (blk4_2 V c t o k).trans (hw o k)
  blk_simp
  rw [after4_3]
  have a0 : (win4_3.blk t).view.emb y 0 = t := Fin.ext (by blk_ext [e])
  have a1 : (win4_3.blk t).view.emb y 1 = y 1 := Fin.ext (by blk_ext [e])
  have a2 : (win4_3.blk t).view.emb y 2 = y 2 := Fin.ext (by blk_ext [e])
  rw [a0, a1, a2]
  exact out4_3_at h0 h1 (hX t) h2 y

include hx ht hX hw in
/-- Output 2. -/
theorem arr4_4 : (dat4 V c).arrAt 4 cfg4.N
    = ((fun i => ((if (i 1).val < 1 then ∑ k, ∑ n, edges W X (i 0) n k (i 2)
      else ∑ k, ∑ n, edges W X (i 0) n k (i 2) * edges W X (i 0) n k (i 2) : ℝ) : EReal)) : S16x2x64.Idx → EReal) := by
  refine (dat4 V c).arrAt_eq_of_covers 4 _ (by decide +kernel) fun t hf y => ?_
  obtain ⟨-, -, -, -, e⟩ := place4 t
  have h0 : ∀ n o, iblk4 V c 0 t (ix3 0 n o) = ((M t n o : ℝ) : EReal) := fun n o => (blk4_0 V c t n o).trans (hx t n o)
  have h1 : IsTab (fun r o => iblk4 V c 1 t (ix2 r o)) m v g b := fun o => by simp only [blk4_1]; exact ht o
  have h2 : ∀ o k, iblk4 V c 2 t (ix2 o k) = ((W o k : ℝ) : EReal) := fun o k => (blk4_2 V c t o k).trans (hw o k)
  blk_simp
  rw [after4_4]
  have a0 : (win4_4.blk t).view.emb y 0 = t := Fin.ext (by blk_ext [e])
  have q : win4_4.index t 1 = 0 := by rw [e]; rfl
  have a2 : (win4_4.blk t).view.emb y 2 = y 2 := Fin.ext (by blk_ext [e])
  rw [a0, a2]
  simp only [q, zero_mul, zero_add]
  exact out4_4_at h0 h1 (hX t) h2 y

end Cert.Net

end
-- ==== Proof.Net.ChainB.lean ====
/- The kernel's arrays from the second edge convolution to the table of the third. -/
module

public import proofs.«01_k».proof.Proof.Net.ChainA
public import proofs.«01_k».proof.Proof.Net.Tab3
public import proofs.«01_k».proof.Proof.Net.Tab4
public import proofs.«01_k».proof.Proof.Net.Tab5
public import proofs.«01_k».proof.Proof.Net.Arr3
public import proofs.«01_k».proof.Proof.Net.Arr4

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

/-- A sum by clouds, ranks and points is the sum over the edges. -/
theorem sum_edges (f : Fin 16 → Fin 1024 → Fin 20 → ℝ) : ∑ i, ∑ k, ∑ n, f i n k = ∑ p : Fin 16 × Fin 1024 × Fin 20, f p.1 p.2.1 p.2.2 := by
  simp only [Fintype.sum_prod_type]
  exact Finset.sum_congr rfl fun i _ => Finset.sum_comm

/-- A sum by clouds and points is the sum over the pairs. -/
theorem sum_points (f : Fin 16 → Fin 1024 → ℝ) : ∑ i, ∑ n, f i n = ∑ p : Fin 16 × Fin 1024, f p.1 p.2 := by
  simp only [Fintype.sum_prod_type]

variable (m : (ℓ : Loc nD τ sig) → Buf (Elt Ideal) ℓ) (ρ : Dev nD → PrngReg) (c : Dev nD)
  {P : Par} (h : IsPar P (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22)) (m ((c : Thread nD τ).loc main_arg23)) (m ((c : Thread nD τ).loc main_arg24)))

include h

/-- The array kept until the launch that reads it. -/
theorem v35_15 : ∀ (i : Fin 16) (k : Fin 20) (n : Fin 1024) (o : Fin 64), W15 m ρ c (Proc.devRef .tc main_v35) (ix4 i k n o) = ((P.c3 i n k o : ℝ) : EReal) :=
  fun i k n o => (congrFun ((W15_of m ρ c main_v35 (by decide)).trans ((W14_of m ρ c main_v35 (by decide)).trans (W13_of m ρ c main_v35 (by decide)))) (ix4 i k n o)).trans (k_c3 m ρ c h i k n o)

/-- The table of the second edge convolution. -/
theorem k_t3 : IsTab (fun r o => W15 m ρ c (Proc.devRef .tc main_v47) (ix2 r o)) (fun o => mean (chanE P.c3 o)) (fun o => var (chanE P.c3 o)) P.g2 P.b2 :=
  tab3 (W12 m ρ c) (k_c3 m ρ c h) (fun o => (congrFun (W12_args m ρ c main_arg8 (by decide)) (ix1 o)).trans (h.g2 o)) (fun o => (congrFun (W12_args m ρ c main_arg9 (by decide)) (ix1 o)).trans (h.b2 o))

/-- The fourth convolution. -/
theorem k_c4 : ∀ (i : Fin 16) (k : Fin 20) (n : Fin 1024) (o : Fin 64), W16 m ρ c (Proc.devRef .tc main_v48_0) (ix4 i k n o) = ((P.c4 i n k o : ℝ) : EReal) :=
  fun i k n o => congrFun ((W16_arr m ρ c 3).trans (arr3_3 (V15 m ρ) c (v35_15 m ρ c h) (k_t3 m ρ c h) (fun o k => (congrFun (W15_args m ρ c main_arg10 (by decide)) (ix2 o k)).trans (h.W2b o k)))) (ix4 i k n o)

/-- Its greatest over the neighbours. -/
theorem k_m2 : ∀ (i : Fin 16) (n : Fin 1024) (o : Fin 64), W16 m ρ c (Proc.devRef .tc main_v48_1) (ix3 i n o) = ((maxE P.c4 i n o : ℝ) : EReal) :=
  fun i n o => congrFun ((W16_arr m ρ c 4).trans (arr3_4 (V15 m ρ) c (v35_15 m ρ c h) (k_t3 m ρ c h) (fun o k => (congrFun (W15_args m ρ c main_arg10 (by decide)) (ix2 o k)).trans (h.W2b o k)))) (ix3 i n o)

/-- Its table. -/
theorem k_t4 : IsTab (fun r o => W19 m ρ c (Proc.devRef .tc main_v60) (ix2 r o)) (fun o => mean (chanE P.c4 o)) (fun o => var (chanE P.c4 o)) P.g2b P.b2b :=
  tab4 (W16 m ρ c) (k_c4 m ρ c h) (fun o => (congrFun (W16_args m ρ c main_arg11 (by decide)) (ix1 o)).trans (h.g2b o)) (fun o => (congrFun (W16_args m ρ c main_arg12 (by decide)) (ix1 o)).trans (h.b2b o))

/-- The array kept until the launch that reads it. -/
theorem v48_1_19 : ∀ (i : Fin 16) (n : Fin 1024) (o : Fin 64), W19 m ρ c (Proc.devRef .tc main_v48_1) (ix3 i n o) = ((maxE P.c4 i n o : ℝ) : EReal) :=
  fun i n o => (congrFun ((W19_of m ρ c main_v48_1 (by decide)).trans ((W18_of m ρ c main_v48_1 (by decide)).trans (W17_of m ρ c main_v48_1 (by decide)))) (ix3 i n o)).trans (k_m2 m ρ c h i n o)

/-- The greatest over the neighbours of the third edge convolution. -/
theorem k_m3 : ∀ (i : Fin 16) (n : Fin 1024) (o : Fin 64), W20 m ρ c (Proc.devRef .tc main_v61_0) (ix3 i n o) = ((maxE P.c5 i n o : ℝ) : EReal) :=
  fun i n o => congrFun ((W20_arr m ρ c 3).trans (arr4_3 (V19 m ρ) c (v48_1_19 m ρ c h) (k_t4 m ρ c h) P.x2_eq (fun o k => (congrFun (W19_args m ρ c main_arg13 (by decide)) (ix2 o k)).trans (h.W3 o k)))) (ix3 i n o)

/-- The sums of the third edge convolution, cloud by cloud. -/
theorem k_5s : ∀ (i : Fin 16) (o : Fin 64), W20 m ρ c (Proc.devRef .tc main_v61_1) (ix3 i 0 o) = ((∑ k, ∑ n, P.c5 i n k o : ℝ) : EReal) :=
  fun i o => (congrFun ((W20_arr m ρ c 4).trans (arr4_4 (V19 m ρ) c (v48_1_19 m ρ c h) (k_t4 m ρ c h) P.x2_eq (fun o k => (congrFun (W19_args m ρ c main_arg13 (by decide)) (ix2 o k)).trans (h.W3 o k)))) (ix3 i 0 o)).trans (congrArg Real.toEReal (if_pos Nat.zero_lt_one))

/-- The sums of its squares, cloud by cloud. -/
theorem k_5q : ∀ (i : Fin 16) (o : Fin 64), W20 m ρ c (Proc.devRef .tc main_v61_1) (ix3 i 1 o) = ((∑ k, ∑ n, P.c5 i n k o * P.c5 i n k o : ℝ) : EReal) :=
  fun i o => (congrFun ((W20_arr m ρ c 4).trans (arr4_4 (V19 m ρ) c (v48_1_19 m ρ c h) (k_t4 m ρ c h) P.x2_eq (fun o k => (congrFun (W19_args m ρ c main_arg13 (by decide)) (ix2 o k)).trans (h.W3 o k)))) (ix3 i 1 o)).trans (congrArg Real.toEReal (if_neg (Nat.lt_irrefl 1)))

/-- Its table. -/
theorem k_t5 : IsTab (fun r o => W21 m ρ c (Proc.devRef .tc main_v81) (ix2 r o)) (fun o => mean (chanE P.c5 o)) (fun o => var (chanE P.c5 o)) P.g3 P.b3 :=
  tab5 (W20 m ρ c) (k_5s m ρ c h) (k_5q m ρ c h) (fun o => sum_edges fun i n k => P.c5 i n k o) (fun o => sum_edges fun i n k => P.c5 i n k o * P.c5 i n k o)
    (fun o => (congrFun (W20_args m ρ c main_arg14 (by decide)) (ix1 o)).trans (h.g3 o)) (fun o => (congrFun (W20_args m ρ c main_arg15 (by decide)) (ix1 o)).trans (h.b3 o))

end Cert.Net

end
-- ==== Proof.Net.Tab6.lean ====
/- The table of one normalisation, made by the host from sums that a kernel leaves. -/
module

public import proofs.«01_k».proof.Proof.Net.Accum
public import proofs.«01_k».proof.Proof.Net.Tables
public import proofs.«01_k».proof.Proof.Net.Consts
public import proofs.«01_k».proof.Proof.Net.Sums
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (U : Valuation τ sig (Elt Ideal))

/-- The four rows of the table. -/
theorem tab6 {S Q : Fin 16 → Fin 1024 → ℝ} {f : Fin 1024 → Fin 16 × Fin 1024 → ℝ} {g b : Fin 1024 → ℝ}
    (hs : ∀ i o, U main_v82_0 (ix3 i 0 o) = ((S i o : ℝ) : EReal)) (hq : ∀ i o, U main_v82_0 (ix3 i 1 o) = ((Q i o : ℝ) : EReal))
    (hS : ∀ o, ∑ i, S i o = ∑ p, f o p) (hQ : ∀ o, ∑ i, Q i o = ∑ p, f o p * f o p)
    (hg : ∀ o, U main_arg17 (ix1 o) = ((g o : ℝ) : EReal)) (hb : ∀ o, U main_arg18 (ix1 o) = ((b o : ℝ) : EReal)) :
    IsTab (fun r o => StableHlo.after (hostOps6 (F := Ideal)) U (Proc.devRef .tc main_v102) (ix2 r o))
      (fun o => mean (f o)) (fun o => var (f o)) g b := by
  intro o
  have hm : Ideal.div ((∑ i, S i o : ℝ) : EReal) ((16384 : ℝ) : EReal) = ((mean (f o) : ℝ) : EReal) := by
    rw [hS, mean_div _ card_points (by norm_num)]
  have hv : Ideal.div ((∑ i, Q i o : ℝ) : EReal) ((16384 : ℝ) : EReal)
      - ((mean (f o) : ℝ) : EReal) * ((mean (f o) : ℝ) : EReal) = ((var (f o) : ℝ) : EReal) := by
    rw [hQ, Ideal.div_coe (by norm_num), ← EReal.coe_mul, ← EReal.coe_mul, ← EReal.coe_sub, var_eq, card_points, mul_one_div]
  beta_reduce
  refine ⟨?_, ?_, ?_, ?_⟩
  · repeat after_reads_at
    simp only [hs, hq, coe_sum, zero_add, lit_points, hm]
  · repeat after_reads_at
    exact hg o
  · repeat after_reads_at
    simp only [hs, hq, coe_sum, zero_add, lit_points, hm, hv, lit_eps, rsqrt_var]
  · repeat after_reads_at
    exact hb o

/-- The columns of the sixth weight matrix for the pooled features. -/
theorem cols_a (o : Fin 512) (k : Fin 1024) : StableHlo.after (hostOps6 (F := Ideal)) U (Proc.devRef .tc main_v103) (ix2 o k)
    = U main_arg19 (ix2 o (Fin.castAdd 192 k)) := by
  repeat after_reads_at
  rfl

/-- The columns for the points' own features. -/
theorem cols_b (o : Fin 512) (k : Fin 192) : StableHlo.after (hostOps6 (F := Ideal)) U (Proc.devRef .tc main_v104) (ix2 o k)
    = U main_arg19 (ix2 o (Fin.natAdd 1024 k)) := by
  repeat after_reads_at
  rfl

end Cert.Net

end
-- ==== Proof.Net.Late.lean ====
/- What the last four kernels compute of one cloud. -/
module

public import proofs.«01_k».proof.Proof.Net.Third

@[expose] public section

set_option synthInstance.maxSize 4096
set_option maxRecDepth 16384

noncomputable section

namespace Cert.Net

open Idealize.ShloMosaic Idealize.SL.Sem Cert.KernelIdeal Cert.KernelIdeal.Gen Idealize.ShloMosaic.Pointwise

/-- Three features side by side. -/
def cat (X1 X2 X3 : Fin 1024 → Fin 64 → ℝ) (n : Fin 1024) (c : Fin 192) : ℝ :=
  if h : c.val < 64 then X1 n ⟨c.val, h⟩
  else if h2 : c.val < 128 then X2 n ⟨c.val - 64, by omega⟩ else X3 n ⟨c.val - 128, by omega⟩

/-- The same of the kernel's arrays. -/
def cat3 (a b d : FVec Ideal S1024x64 .f32) : FVec Ideal S1024x192 .f32 :=
  concatenate S1024x192 1 [⟨S1024x64, a⟩, ⟨S1024x64, b⟩, ⟨S1024x64, d⟩] concatenates_S1024x64_S1024x64_S1024x64_S1024x192_d1

theorem cat3_at (a b d : FVec Ideal S1024x64 .f32) (X1 X2 X3 : Fin 1024 → Fin 64 → ℝ)
    (ha : ∀ n c, a (ix2 n c) = ((X1 n c : ℝ) : EReal)) (hb : ∀ n c, b (ix2 n c) = ((X2 n c : ℝ) : EReal))
    (hd : ∀ n c, d (ix2 n c) = ((X3 n c : ℝ) : EReal)) (n : Fin 1024) (c : Fin 192) :
    cat3 a b d (ix2 n c) = ((cat X1 X2 X3 n c : ℝ) : EReal) := by
  unfold cat
  pointwise [cat3]
  simp only [ha, hb, hd]
  by_cases h : c.val < 64
  · rw [dif_pos h, dif_pos h]
  · rw [dif_neg h, dif_neg h]
    by_cases h2 : c.val < 128
    · rw [dif_pos (show c.val - 64 < 64 by omega), dif_pos h2]
    · rw [dif_neg (show ¬ c.val - 64 < 64 by omega), dif_neg h2]
      exact congrArg (fun z => ((X3 n z : ℝ) : EReal)) (Fin.ext (by show c.val - 64 - 64 = c.val - 128; omega))

/-- The fifth convolution of one cloud. -/
def mat5 (a : FVec Ideal S1024x192 .f32) (w : Vec Ideal S1024x192 .f32) : FVec Ideal S1024x1024 .f32 :=
  matmul (φ₁ := .f32) (φ₂ := .f32) dot_S1024x192_S1024x192_S1024x1024_1_1_0_0_n_n none a w (constant S1024x1024 .f32 0x00000000#32)

theorem mat5_at (a : FVec Ideal S1024x192 .f32) (w : Vec Ideal S1024x192 .f32) (n o : Fin 1024) :
    mat5 a w (ix2 n o) = ∑ c, a (ix2 n c) * w (ix2 o c) := by
  pointwise [mat5]

/-- The sixth of one cloud: the pooled row and the points' own features. -/
def mat6 (a : FVec Ideal S1024x192 .f32) (p : FVec Ideal S1x1024 .f32) (wa : Vec Ideal S512x1024 .f32) (wb : Vec Ideal S512x192 .f32) :
    FVec Ideal S1024x512 .f32 :=
  addf (matmul (φ₁ := .f32) (φ₂ := .f32) dot_S1024x192_S512x192_S1024x512_1_1_0_0_n_n none a
      (shapeCast S512x192 wb shapeCasts_S512x192_S512x192) (constant S1024x512 .f32 0x00000000#32))
    (broadcastTo S1024x512 (matmul (φ₁ := .f32) (φ₂ := .f32) dot_S1x1024_S512x1024_S1x512_1_1_0_0_n_n none p
      (shapeCast S512x1024 wa shapeCasts_S512x1024_S512x1024) (constant S1x512 .f32 0x00000000#32)) broadcasts_S1x512_S1024x512)

theorem mat6_at (a : FVec Ideal S1024x192 .f32) (p : FVec Ideal S1x1024 .f32) (wa : Vec Ideal S512x1024 .f32) (wb : Vec Ideal S512x192 .f32)
    (n : Fin 1024) (o : Fin 512) :
    mat6 a p wa wb (ix2 n o) = (∑ c, a (ix2 n c) * wb (ix2 o c)) + ∑ c, p (ix2 0 c) * wa (ix2 o c) := by
  pointwise [mat6]

section fifth

variable {x0 x1 x2 : Vec Ideal S1x1024x64 .f32} {x3 x4 x5 : Vec Ideal S4x64 .f32} {x6 : Vec Ideal S1024x192 .f32}
  {X1 X2 X3 : Fin 1024 → Fin 64 → ℝ} {W : Fin 1024 → Fin 192 → ℝ}
  (h1 : ∀ n o, k2_pay2 x0 x3 (ix2 n o) = ((X1 n o : ℝ) : EReal))
  (h2 : ∀ n o, k2_pay2 x1 x4 (ix2 n o) = ((X2 n o : ℝ) : EReal))
  (h3 : ∀ n o, k2_pay2 x2 x5 (ix2 n o) = ((X3 n o : ℝ) : EReal))
  (hw : ∀ o k, x6 (ix2 o k) = ((W o k : ℝ) : EReal))

theorem k5_pay1_eq : k5_pay1 (k5_pay10 x0 x1 x2 x3 x4 x5 x6) (k5_pay11 x0 x1 x2 x3 x4 x5 x6) (k5_pay12 x0 x1 x2 x3 x4 x5 x6)
    (k5_pay13 x0 x1 x2 x3 x4 x5 x6) (k5_pay14 x0 x1 x2 x3 x4 x5 x6) (k5_pay15 x0 x1 x2 x3 x4 x5 x6) x6
      = mat5 (cat3 (k2_pay2 x0 x3) (k2_pay2 x1 x4) (k2_pay2 x2 x5)) x6 := by
  have e : ∀ x : Vec Ideal S1x1024x64 .f32, View.ld x r5_0 = x := fun x => by frame_out
  have e' : ∀ x : Vec Ideal S4x64 .f32, View.ld x r5_1 = x := fun x => by frame_out
  unfold k5_pay10 k5_pay11 k5_pay12 k5_pay13 k5_pay14 k5_pay15
  simp only [e, e']
  rfl

include h1 h2 h3 hw

theorem mat5_real (n o : Fin 1024) : mat5 (cat3 (k2_pay2 x0 x3) (k2_pay2 x1 x4) (k2_pay2 x2 x5)) x6 (ix2 n o)
    = ((∑ c, cat X1 X2 X3 n c * W o c : ℝ) : EReal) := by
  rw [mat5_at]
  simp only [cat3_at _ _ _ X1 X2 X3 h1 h2 h3, hw, ← EReal.coe_mul, coe_sum]

/-- The sixth kernel's first store: sums and sums of squares over the points. -/
theorem out5_7_at (y : S1x2x1024.Idx) : out5_7 x0 x1 x2 x3 x4 x5 x6 y
    = ((if (y 1).val < 1 then ∑ n, ∑ c, cat X1 X2 X3 n c * W (y 2) c
      else ∑ n, (∑ c, cat X1 X2 X3 n c * W (y 2) c) * (∑ c, cat X1 X2 X3 n c * W (y 2) c) : ℝ) : EReal) := by
  have hm := mat5_real h1 h2 h3 hw
  have e6 : View.ld x6 r5_2 = x6 := by frame_out
  unfold out5_7 k5_pay2
  rw [e6, k5_pay1_eq]
  generalize mat5 (cat3 (k2_pay2 x0 x3) (k2_pay2 x1 x4) (k2_pay2 x2 x5)) x6 = a at hm ⊢
  frame_out
  idx_vars y
  pointwise []
  simp only [hm, ← EReal.coe_mul, coe_sum]
  by_cases h : y1.val < 1
  · rw [dif_pos h]
    exact congrArg (fun z : ℝ => (z : EReal)) (if_pos h).symm
  · rw [dif_neg h]
    exact congrArg (fun z : ℝ => (z : EReal)) (if_neg h).symm

/-- Its second: the greatest over the points. -/
theorem out5_8_at (y : S1x1x1024.Idx) : out5_8 x0 x1 x2 x3 x4 x5 x6 y
    = ((sup fun n => ∑ c, cat X1 X2 X3 n c * W (y 2) c : ℝ) : EReal) := by
  have hm := mat5_real h1 h2 h3 hw
  have e6 : View.ld x6 r5_2 = x6 := by frame_out
  unfold out5_8 k5_pay3
  rw [e6, k5_pay1_eq]
  generalize mat5 (cat3 (k2_pay2 x0 x3) (k2_pay2 x1 x4) (k2_pay2 x2 x5)) x6 = a at hm ⊢
  frame_out
  idx_vars y
  pointwise []
  simp only [hm, lit_neg_inf]
  exact fold_max_coe _

end fifth

end Cert.Net

end
-- ==== Proof.Net.Arr5.lean ====
/- What the sixth kernel leaves in its two arrays. -/
module

public import proofs.«01_k».proof.Proof.Net.Late

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (V : (c : Dev nD) → (b : Ref sig .tc) → Buf (Elt Ideal) ((c : Thread nD τ).loc b)) (c : Dev nD)

/-- The block of every window: the grid point's own cloud, or the whole array. -/
theorem place5 : ∀ t : Fin cfg5.N, win5_0.index t = ![t.val, 0, 0]
    ∧ win5_1.index t = ![t.val, 0, 0]
    ∧ win5_2.index t = ![t.val, 0, 0]
    ∧ win5_3.index t = ![0, 0]
    ∧ win5_4.index t = ![0, 0]
    ∧ win5_5.index t = ![0, 0]
    ∧ win5_6.index t = ![0, 0]
    ∧ win5_7.index t = ![t.val, 0, 0]
    ∧ win5_8.index t = ![t.val, 0, 0] := by decide +kernel

theorem blk5_0 (t : Fin cfg5.N) (n : Fin 1024) (o : Fin 64) : iblk5 V c 0 t (ix3 0 n o) = V c main_v22_1 (ix3 t n o) := by
  obtain ⟨e, -, -, -, -, -, -, -, -⟩ := place5 t
  blk_ext [iblk5, e]

theorem blk5_1 (t : Fin cfg5.N) (n : Fin 1024) (o : Fin 64) : iblk5 V c 1 t (ix3 0 n o) = V c main_v48_1 (ix3 t n o) := by
  obtain ⟨-, e, -, -, -, -, -, -, -⟩ := place5 t
  blk_ext [iblk5, e]

theorem blk5_2 (t : Fin cfg5.N) (n : Fin 1024) (o : Fin 64) : iblk5 V c 2 t (ix3 0 n o) = V c main_v61_0 (ix3 t n o) := by
  obtain ⟨-, -, e, -, -, -, -, -, -⟩ := place5 t
  blk_ext [iblk5, e]

theorem blk5_3 (t : Fin cfg5.N) (o : Fin 4) (k : Fin 64) : iblk5 V c 3 t (ix2 o k) = V c main_v34 (ix2 o k) := by
  obtain ⟨-, -, -, e, -, -, -, -, -⟩ := place5 t
  blk_ext [iblk5, e]

theorem blk5_4 (t : Fin cfg5.N) (o : Fin 4) (k : Fin 64) : iblk5 V c 4 t (ix2 o k) = V c main_v60 (ix2 o k) := by
  obtain ⟨-, -, -, -, e, -, -, -, -⟩ := place5 t
  blk_ext [iblk5, e]

theorem blk5_5 (t : Fin cfg5.N) (o : Fin 4) (k : Fin 64) : iblk5 V c 5 t (ix2 o k) = V c main_v81 (ix2 o k) := by
  obtain ⟨-, -, -, -, -, e, -, -, -⟩ := place5 t
  blk_ext [iblk5, e]

theorem blk5_6 (t : Fin cfg5.N) (o : Fin 1024) (k : Fin 192) : iblk5 V c 6 t (ix2 o k) = V c main_arg16 (ix2 o k) := by
  obtain ⟨-, -, -, -, -, -, e, -, -⟩ := place5 t
  blk_ext [iblk5, e]

variable {M1 M2 M3 X1 X2 X3 : Points 64} {m1 v1 g1 b1 m2 v2 g2 b2 m3 v3 g3 b3 : Fin 64 → ℝ}
  (hx1 : ∀ i n o, V c main_v22_1 (ix3 i n o) = ((M1 i n o : ℝ) : EReal)) (ht1 : IsTab (fun r o => V c main_v34 (ix2 r o)) m1 v1 g1 b1)
  (hX1 : ∀ i n o, X1 i n o = bnr (m1 o) (v1 o) (g1 o) (b1 o) (M1 i n o))
  (hx2 : ∀ i n o, V c main_v48_1 (ix3 i n o) = ((M2 i n o : ℝ) : EReal)) (ht2 : IsTab (fun r o => V c main_v60 (ix2 r o)) m2 v2 g2 b2)
  (hX2 : ∀ i n o, X2 i n o = bnr (m2 o) (v2 o) (g2 o) (b2 o) (M2 i n o))
  (hx3 : ∀ i n o, V c main_v61_0 (ix3 i n o) = ((M3 i n o : ℝ) : EReal)) (ht3 : IsTab (fun r o => V c main_v81 (ix2 r o)) m3 v3 g3 b3)
  (hX3 : ∀ i n o, X3 i n o = bnr (m3 o) (v3 o) (g3 o) (b3 o) (M3 i n o))
  {W : Fin 1024 → Fin 192 → ℝ} (hw : ∀ o k, V c main_arg16 (ix2 o k) = ((W o k : ℝ) : EReal))

include hx1 ht1 hX1 hx2 ht2 hX2 hx3 ht3 hX3 hw in
/-- Output 1. -/
theorem arr5_7 : (dat5 V c).arrAt 7 cfg5.N
    = ((fun i => ((if (i 1).val < 1 then ∑ n, (∑ k, cat (X1 (i 0)) (X2 (i 0)) (X3 (i 0)) n k * W (i 2) k)
      else ∑ n, (∑ k, cat (X1 (i 0)) (X2 (i 0)) (X3 (i 0)) n k * W (i 2) k) * (∑ k, cat (X1 (i 0)) (X2 (i 0)) (X3 (i 0)) n k * W (i 2) k) : ℝ) : EReal)) : S16x2x1024.Idx → EReal) := by
  refine (dat5 V c).arrAt_eq_of_covers 7 _ (by decide +kernel) fun t hf y => ?_
  obtain ⟨-, -, -, -, -, -, -, e, -⟩ := place5 t
  have h1 : ∀ n o, k2_pay2 (iblk5 V c 0 t) (iblk5 V c 3 t) (ix2 n o) = ((X1 t n o : ℝ) : EReal) :=
    feat_at (fun n o => (blk5_0 V c t n o).trans (hx1 t n o)) (fun o => by simp only [blk5_3]; exact ht1 o) (hX1 t)
  have h2 : ∀ n o, k2_pay2 (iblk5 V c 1 t) (iblk5 V c 4 t) (ix2 n o) = ((X2 t n o : ℝ) : EReal) :=
    feat_at (fun n o => (blk5_1 V c t n o).trans (hx2 t n o)) (fun o => by simp only [blk5_4]; exact ht2 o) (hX2 t)
  have h3 : ∀ n o, k2_pay2 (iblk5 V c 2 t) (iblk5 V c 5 t) (ix2 n o) = ((X3 t n o : ℝ) : EReal) :=
    feat_at (fun n o => (blk5_2 V c t n o).trans (hx3 t n o)) (fun o => by simp only [blk5_5]; exact ht3 o) (hX3 t)
  have h4 : ∀ o k, iblk5 V c 6 t (ix2 o k) = ((W o k : ℝ) : EReal) := fun o k => (blk5_6 V c t o k).trans (hw o k)
  blk_simp
  rw [after5_7]
  have a0 : (win5_7.blk t).view.emb y 0 = t := Fin.ext (by blk_ext [e])
  have q : win5_7.index t 1 = 0 := by rw [e]; rfl
  have a2 : (win5_7.blk t).view.emb y 2 = y 2 := Fin.ext (by blk_ext [e])
  rw [a0, a2]
  simp only [q, zero_mul, zero_add]
  exact out5_7_at h1 h2 h3 h4 y

include hx1 ht1 hX1 hx2 ht2 hX2 hx3 ht3 hX3 hw in
/-- Output 2. -/
theorem arr5_8 : (dat5 V c).arrAt 8 cfg5.N
    = ((fun i => ((sup fun n => (∑ k, cat (X1 (i 0)) (X2 (i 0)) (X3 (i 0)) n k * W (i 2) k) : ℝ) : EReal)) : S16x1x1024.Idx → EReal) := by
  refine (dat5 V c).arrAt_eq_of_covers 8 _ (by decide +kernel) fun t hf y => ?_
  obtain ⟨-, -, -, -, -, -, -, -, e⟩ := place5 t
  have h1 : ∀ n o, k2_pay2 (iblk5 V c 0 t) (iblk5 V c 3 t) (ix2 n o) = ((X1 t n o : ℝ) : EReal) :=
    feat_at (fun n o => (blk5_0 V c t n o).trans (hx1 t n o)) (fun o => by simp only [blk5_3]; exact ht1 o) (hX1 t)
  have h2 : ∀ n o, k2_pay2 (iblk5 V c 1 t) (iblk5 V c 4 t) (ix2 n o) = ((X2 t n o : ℝ) : EReal) :=
    feat_at (fun n o => (blk5_1 V c t n o).trans (hx2 t n o)) (fun o => by simp only [blk5_4]; exact ht2 o) (hX2 t)
  have h3 : ∀ n o, k2_pay2 (iblk5 V c 2 t) (iblk5 V c 5 t) (ix2 n o) = ((X3 t n o : ℝ) : EReal) :=
    feat_at (fun n o => (blk5_2 V c t n o).trans (hx3 t n o)) (fun o => by simp only [blk5_5]; exact ht3 o) (hX3 t)
  have h4 : ∀ o k, iblk5 V c 6 t (ix2 o k) = ((W o k : ℝ) : EReal) := fun o k => (blk5_6 V c t o k).trans (hw o k)
  blk_simp
  rw [after5_8]
  have a0 : (win5_8.blk t).view.emb y 0 = t := Fin.ext (by blk_ext [e])
  have a2 : (win5_8.blk t).view.emb y 2 = y 2 := Fin.ext (by blk_ext [e])
  rw [a0, a2]
  exact out5_8_at h1 h2 h3 h4 y

end Cert.Net

end
-- ==== Proof.Net.ChainC.lean ====
/- The kernel's arrays of the pooled features, and all that the launch after them reads. -/
module

public import proofs.«01_k».proof.Proof.Net.ChainB
public import proofs.«01_k».proof.Proof.Net.Tab6
public import proofs.«01_k».proof.Proof.Net.Arr5

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (m : (ℓ : Loc nD τ sig) → Buf (Elt Ideal) ℓ) (ρ : Dev nD → PrngReg) (c : Dev nD)
  {P : Par} (h : IsPar P (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22)) (m ((c : Thread nD τ).loc main_arg23)) (m ((c : Thread nD τ).loc main_arg24)))

include h

/-- The array kept until the launch that reads it. -/
theorem v22_1_21 : ∀ (i : Fin 16) (n : Fin 1024) (o : Fin 64), W21 m ρ c (Proc.devRef .tc main_v22_1) (ix3 i n o) = ((maxE P.c2 i n o : ℝ) : EReal) :=
  fun i n o => (congrFun ((W21_of m ρ c main_v22_1 (by decide)).trans ((W20_of m ρ c main_v22_1 (by decide)).trans ((W19_of m ρ c main_v22_1 (by decide)).trans ((W18_of m ρ c main_v22_1 (by decide)).trans ((W17_of m ρ c main_v22_1 (by decide)).trans ((W16_of m ρ c main_v22_1 (by decide)).trans ((W15_of m ρ c main_v22_1 (by decide)).trans ((W14_of m ρ c main_v22_1 (by decide)).trans ((W13_of m ρ c main_v22_1 (by decide)).trans (W12_of m ρ c main_v22_1 (by decide))))))))))) (ix3 i n o)).trans (v22_1_11 m ρ c h i n o)

/-- The array kept until the launch that reads it. -/
theorem v48_1_21 : ∀ (i : Fin 16) (n : Fin 1024) (o : Fin 64), W21 m ρ c (Proc.devRef .tc main_v48_1) (ix3 i n o) = ((maxE P.c4 i n o : ℝ) : EReal) :=
  fun i n o => (congrFun ((W21_of m ρ c main_v48_1 (by decide)).trans (W20_of m ρ c main_v48_1 (by decide))) (ix3 i n o)).trans (v48_1_19 m ρ c h i n o)

/-- The array kept until the launch that reads it. -/
theorem v61_0_21 : ∀ (i : Fin 16) (n : Fin 1024) (o : Fin 64), W21 m ρ c (Proc.devRef .tc main_v61_0) (ix3 i n o) = ((maxE P.c5 i n o : ℝ) : EReal) :=
  fun i n o => (congrFun (W21_of m ρ c main_v61_0 (by decide)) (ix3 i n o)).trans (k_m3 m ρ c h i n o)

/-- The table kept until the launch that reads it. -/
theorem v34_21 : IsTab (fun r o => W21 m ρ c (Proc.devRef .tc main_v34) (ix2 r o)) (fun o => mean (chanE P.c2 o)) (fun o => var (chanE P.c2 o)) P.g1b P.b1b :=
  by
  have e := ((W21_of m ρ c main_v34 (by decide)).trans ((W20_of m ρ c main_v34 (by decide)).trans ((W19_of m ρ c main_v34 (by decide)).trans ((W18_of m ρ c main_v34 (by decide)).trans ((W17_of m ρ c main_v34 (by decide)).trans ((W16_of m ρ c main_v34 (by decide)).trans ((W15_of m ρ c main_v34 (by decide)).trans ((W14_of m ρ c main_v34 (by decide)).trans ((W13_of m ρ c main_v34 (by decide)).trans (W12_of m ρ c main_v34 (by decide)))))))))))
  intro o
  have t := k_t2 m ρ c h o
  exact ⟨(congrFun e (ix2 0 o)).trans t.1, (congrFun e (ix2 1 o)).trans t.2.1, (congrFun e (ix2 2 o)).trans t.2.2.1, (congrFun e (ix2 3 o)).trans t.2.2.2⟩

/-- The table kept until the launch that reads it. -/
theorem v60_21 : IsTab (fun r o => W21 m ρ c (Proc.devRef .tc main_v60) (ix2 r o)) (fun o => mean (chanE P.c4 o)) (fun o => var (chanE P.c4 o)) P.g2b P.b2b :=
  by
  have e := ((W21_of m ρ c main_v60 (by decide)).trans (W20_of m ρ c main_v60 (by decide)))
  intro o
  have t := k_t4 m ρ c h o
  exact ⟨(congrFun e (ix2 0 o)).trans t.1, (congrFun e (ix2 1 o)).trans t.2.1, (congrFun e (ix2 2 o)).trans t.2.2.1, (congrFun e (ix2 3 o)).trans t.2.2.2⟩

/-- The sums of the convolution of the three features, cloud by cloud. -/
theorem k_6s : ∀ (i : Fin 16) (o : Fin 1024), W22 m ρ c (Proc.devRef .tc main_v82_0) (ix3 i 0 o) = ((∑ n, P.c6 i n o : ℝ) : EReal) :=
  fun i o => (congrFun ((W22_arr m ρ c 7).trans (arr5_7 (V21 m ρ) c (v22_1_21 m ρ c h) (v34_21 m ρ c h) P.x1_eq (v48_1_21 m ρ c h) (v60_21 m ρ c h) P.x2_eq (v61_0_21 m ρ c h) (k_t5 m ρ c h) P.x3_eq
    (fun o k => (congrFun (W21_args m ρ c main_arg16 (by decide)) (ix2 o k)).trans (h.W5 o k)))) (ix3 i 0 o)).trans (congrArg Real.toEReal (if_pos Nat.zero_lt_one))

/-- The sums of its squares, cloud by cloud. -/
theorem k_6q : ∀ (i : Fin 16) (o : Fin 1024), W22 m ρ c (Proc.devRef .tc main_v82_0) (ix3 i 1 o) = ((∑ n, P.c6 i n o * P.c6 i n o : ℝ) : EReal) :=
  fun i o => (congrFun ((W22_arr m ρ c 7).trans (arr5_7 (V21 m ρ) c (v22_1_21 m ρ c h) (v34_21 m ρ c h) P.x1_eq (v48_1_21 m ρ c h) (v60_21 m ρ c h) P.x2_eq (v61_0_21 m ρ c h) (k_t5 m ρ c h) P.x3_eq
    (fun o k => (congrFun (W21_args m ρ c main_arg16 (by decide)) (ix2 o k)).trans (h.W5 o k)))) (ix3 i 1 o)).trans (congrArg Real.toEReal (if_neg (Nat.lt_irrefl 1)))

/-- Its greatest over a cloud's points. -/
theorem k_p6 : ∀ (i : Fin 16) (o : Fin 1024), W22 m ρ c (Proc.devRef .tc main_v82_1) (ix3 i 0 o) = ((sup fun n => P.c6 i n o : ℝ) : EReal) :=
  fun i o => congrFun ((W22_arr m ρ c 8).trans (arr5_8 (V21 m ρ) c (v22_1_21 m ρ c h) (v34_21 m ρ c h) P.x1_eq (v48_1_21 m ρ c h) (v60_21 m ρ c h) P.x2_eq (v61_0_21 m ρ c h) (k_t5 m ρ c h) P.x3_eq
    (fun o k => (congrFun (W21_args m ρ c main_arg16 (by decide)) (ix2 o k)).trans (h.W5 o k)))) (ix3 i 0 o)

/-- Its table. -/
theorem k_t6 : IsTab (fun r o => W23 m ρ c (Proc.devRef .tc main_v102) (ix2 r o)) (fun o => mean (chanP P.c6 o)) (fun o => var (chanP P.c6 o)) P.g5 P.b5 :=
  tab6 (W22 m ρ c) (k_6s m ρ c h) (k_6q m ρ c h) (fun o => sum_points fun i n => P.c6 i n o) (fun o => sum_points fun i n => P.c6 i n o * P.c6 i n o)
    (fun o => (congrFun (W22_args m ρ c main_arg17 (by decide)) (ix1 o)).trans (h.g5 o)) (fun o => (congrFun (W22_args m ρ c main_arg18 (by decide)) (ix1 o)).trans (h.b5 o))

/-- The array kept until the launch that reads it. -/
theorem v22_1_23 : ∀ (i : Fin 16) (n : Fin 1024) (o : Fin 64), W23 m ρ c (Proc.devRef .tc main_v22_1) (ix3 i n o) = ((maxE P.c2 i n o : ℝ) : EReal) :=
  fun i n o => (congrFun ((W23_of m ρ c main_v22_1 (by decide)).trans (W22_of m ρ c main_v22_1 (by decide))) (ix3 i n o)).trans (v22_1_21 m ρ c h i n o)

/-- The array kept until the launch that reads it. -/
theorem v48_1_23 : ∀ (i : Fin 16) (n : Fin 1024) (o : Fin 64), W23 m ρ c (Proc.devRef .tc main_v48_1) (ix3 i n o) = ((maxE P.c4 i n o : ℝ) : EReal) :=
  fun i n o => (congrFun ((W23_of m ρ c main_v48_1 (by decide)).trans (W22_of m ρ c main_v48_1 (by decide))) (ix3 i n o)).trans (v48_1_21 m ρ c h i n o)

/-- The array kept until the launch that reads it. -/
theorem v61_0_23 : ∀ (i : Fin 16) (n : Fin 1024) (o : Fin 64), W23 m ρ c (Proc.devRef .tc main_v61_0) (ix3 i n o) = ((maxE P.c5 i n o : ℝ) : EReal) :=
  fun i n o => (congrFun ((W23_of m ρ c main_v61_0 (by decide)).trans (W22_of m ρ c main_v61_0 (by decide))) (ix3 i n o)).trans (v61_0_21 m ρ c h i n o)

/-- The table kept until the launch that reads it. -/
theorem v34_23 : IsTab (fun r o => W23 m ρ c (Proc.devRef .tc main_v34) (ix2 r o)) (fun o => mean (chanE P.c2 o)) (fun o => var (chanE P.c2 o)) P.g1b P.b1b :=
  by
  have e := ((W23_of m ρ c main_v34 (by decide)).trans (W22_of m ρ c main_v34 (by decide)))
  intro o
  have t := v34_21 m ρ c h o
  exact ⟨(congrFun e (ix2 0 o)).trans t.1, (congrFun e (ix2 1 o)).trans t.2.1, (congrFun e (ix2 2 o)).trans t.2.2.1, (congrFun e (ix2 3 o)).trans t.2.2.2⟩

/-- The table kept until the launch that reads it. -/
theorem v60_23 : IsTab (fun r o => W23 m ρ c (Proc.devRef .tc main_v60) (ix2 r o)) (fun o => mean (chanE P.c4 o)) (fun o => var (chanE P.c4 o)) P.g2b P.b2b :=
  by
  have e := ((W23_of m ρ c main_v60 (by decide)).trans (W22_of m ρ c main_v60 (by decide)))
  intro o
  have t := v60_21 m ρ c h o
  exact ⟨(congrFun e (ix2 0 o)).trans t.1, (congrFun e (ix2 1 o)).trans t.2.1, (congrFun e (ix2 2 o)).trans t.2.2.1, (congrFun e (ix2 3 o)).trans t.2.2.2⟩

/-- The table kept until the launch that reads it. -/
theorem v81_23 : IsTab (fun r o => W23 m ρ c (Proc.devRef .tc main_v81) (ix2 r o)) (fun o => mean (chanE P.c5 o)) (fun o => var (chanE P.c5 o)) P.g3 P.b3 :=
  by
  have e := ((W23_of m ρ c main_v81 (by decide)).trans (W22_of m ρ c main_v81 (by decide)))
  intro o
  have t := k_t5 m ρ c h o
  exact ⟨(congrFun e (ix2 0 o)).trans t.1, (congrFun e (ix2 1 o)).trans t.2.1, (congrFun e (ix2 2 o)).trans t.2.2.1, (congrFun e (ix2 3 o)).trans t.2.2.2⟩

/-- The array kept until the launch that reads it. -/
theorem k_p6_23 : ∀ (i : Fin 16) (o : Fin 1024), W23 m ρ c (Proc.devRef .tc main_v82_1) (ix3 i 0 o) = ((sup fun n => P.c6 i n o : ℝ) : EReal) :=
  fun i o => (congrFun (W23_of m ρ c main_v82_1 (by decide)) (ix3 i 0 o)).trans (k_p6 m ρ c h i o)

/-- The pooled features' columns of the weight. -/
theorem k_wa : ∀ (o : Fin 512) (k : Fin 1024), W23 m ρ c (Proc.devRef .tc main_v103) (ix2 o k) = ((P.W6 o (Fin.castAdd 192 k) : ℝ) : EReal) :=
  fun o k => (cols_a (W22 m ρ c) o k).trans ((congrFun (W22_args m ρ c main_arg19 (by decide)) _).trans (h.W6 o _))

/-- The points' own columns of the weight. -/
theorem k_wb : ∀ (o : Fin 512) (k : Fin 192), W23 m ρ c (Proc.devRef .tc main_v104) (ix2 o k) = ((P.W6 o (Fin.natAdd 1024 k) : ℝ) : EReal) :=
  fun o k => (cols_b (W22 m ρ c) o k).trans ((congrFun (W22_args m ρ c main_arg19 (by decide)) _).trans (h.W6 o _))

end Cert.Net

end
-- ==== Proof.Net.Tab7.lean ====
/- The table of one normalisation, made by the host from sums that a kernel leaves. -/
module

public import proofs.«01_k».proof.Proof.Net.Accum
public import proofs.«01_k».proof.Proof.Net.Tables
public import proofs.«01_k».proof.Proof.Net.Consts
public import proofs.«01_k».proof.Proof.Net.Sums
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (U : Valuation τ sig (Elt Ideal))

/-- The four rows of the table. -/
theorem tab7 {S Q : Fin 16 → Fin 512 → ℝ} {f : Fin 512 → Fin 16 × Fin 1024 → ℝ} {g b : Fin 512 → ℝ}
    (hs : ∀ i o, U main_v105_1 (ix3 i 0 o) = ((S i o : ℝ) : EReal)) (hq : ∀ i o, U main_v105_1 (ix3 i 1 o) = ((Q i o : ℝ) : EReal))
    (hS : ∀ o, ∑ i, S i o = ∑ p, f o p) (hQ : ∀ o, ∑ i, Q i o = ∑ p, f o p * f o p)
    (hg : ∀ o, U main_arg20 (ix1 o) = ((g o : ℝ) : EReal)) (hb : ∀ o, U main_arg21 (ix1 o) = ((b o : ℝ) : EReal)) :
    IsTab (fun r o => StableHlo.after (hostOps7 (F := Ideal)) U (Proc.devRef .tc main_v125) (ix2 r o))
      (fun o => mean (f o)) (fun o => var (f o)) g b := by
  intro o
  have hm : Ideal.div ((∑ i, S i o : ℝ) : EReal) ((16384 : ℝ) : EReal) = ((mean (f o) : ℝ) : EReal) := by
    rw [hS, mean_div _ card_points (by norm_num)]
  have hv : Ideal.div ((∑ i, Q i o : ℝ) : EReal) ((16384 : ℝ) : EReal)
      - ((mean (f o) : ℝ) : EReal) * ((mean (f o) : ℝ) : EReal) = ((var (f o) : ℝ) : EReal) := by
    rw [hQ, Ideal.div_coe (by norm_num), ← EReal.coe_mul, ← EReal.coe_mul, ← EReal.coe_sub, var_eq, card_points, mul_one_div]
  beta_reduce
  refine ⟨?_, ?_, ?_, ?_⟩
  · repeat after_reads_at
    simp only [hs, hq, coe_sum, zero_add, lit_points, hm]
  · repeat after_reads_at
    exact hg o
  · repeat after_reads_at
    simp only [hs, hq, coe_sum, zero_add, lit_points, hm, hv, lit_eps, rsqrt_var]
  · repeat after_reads_at
    exact hb o

end Cert.Net

end
-- ==== Proof.Net.Tab8.lean ====
/- The table of one normalisation, made by the host from sums that a kernel leaves. -/
module

public import proofs.«01_k».proof.Proof.Net.Accum
public import proofs.«01_k».proof.Proof.Net.Tables
public import proofs.«01_k».proof.Proof.Net.Consts
public import proofs.«01_k».proof.Proof.Net.Sums
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (U : Valuation τ sig (Elt Ideal))

/-- The four rows of the table. -/
theorem tab8 {S Q : Fin 16 → Fin 256 → ℝ} {f : Fin 256 → Fin 16 × Fin 1024 → ℝ} {g b : Fin 256 → EReal}
    (hs : ∀ i o, U main_v126_1 (ix3 i 0 o) = ((S i o : ℝ) : EReal)) (hq : ∀ i o, U main_v126_1 (ix3 i 1 o) = ((Q i o : ℝ) : EReal))
    (hS : ∀ o, ∑ i, S i o = ∑ p, f o p) (hQ : ∀ o, ∑ i, Q i o = ∑ p, f o p * f o p)
    (hg : ∀ o, U main_arg23 (ix1 o) = g o) (hb : ∀ o, U main_arg24 (ix1 o) = b o) :
    IsWide (fun r o => StableHlo.after (hostOps8 (F := Ideal)) U (Proc.devRef .tc main_v146) (ix2 r o))
      (fun o => mean (f o)) (fun o => var (f o)) g b := by
  intro o
  have hm : Ideal.div ((∑ i, S i o : ℝ) : EReal) ((16384 : ℝ) : EReal) = ((mean (f o) : ℝ) : EReal) := by
    rw [hS, mean_div _ card_points (by norm_num)]
  have hv : Ideal.div ((∑ i, Q i o : ℝ) : EReal) ((16384 : ℝ) : EReal)
      - ((mean (f o) : ℝ) : EReal) * ((mean (f o) : ℝ) : EReal) = ((var (f o) : ℝ) : EReal) := by
    rw [hQ, Ideal.div_coe (by norm_num), ← EReal.coe_mul, ← EReal.coe_mul, ← EReal.coe_sub, var_eq, card_points, mul_one_div]
  beta_reduce
  refine ⟨?_, ?_, ?_, ?_⟩
  · repeat after_reads_at
    simp only [hs, hq, coe_sum, zero_add, lit_points, hm]
  · repeat after_reads_at
    exact hg o
  · repeat after_reads_at
    simp only [hs, hq, coe_sum, zero_add, lit_points, hm, hv, lit_eps, rsqrt_var]
  · repeat after_reads_at
    exact hb o

end Cert.Net

end
-- ==== Proof.Net.Last.lean ====
/- What the last three kernels compute of one cloud. -/
module

public import proofs.«01_k».proof.Proof.Net.Late

@[expose] public section

set_option synthInstance.maxSize 4096
set_option maxRecDepth 16384

noncomputable section

namespace Cert.Net

open Idealize.ShloMosaic Idealize.SL.Sem Cert.KernelIdeal Cert.KernelIdeal.Gen Idealize.ShloMosaic.Pointwise

/-- The pooled row, normalised. -/
def poolRow (p : Vec Ideal S1x1x1024 .f32) (t : Vec Ideal S4x1024 .f32) : FVec Ideal S1x1024 .f32 :=
  have s : FVec Ideal S4x1024 .f32 := shapeCast S4x1024 t shapeCasts_S4x1024_S4x1024
  maximumf (addf (mulf (mulf (extractStridedSlice S1x1024 ![1, 0] s slices_S4x1024_o1_0_S1x1024)
    (subf (shapeCast S1x1024 p shapeCasts_S1x1x1024_S1x1024) (extractStridedSlice S1x1024 ![0, 0] s slices_S4x1024_o0_0_S1x1024)))
    (extractStridedSlice S1x1024 ![2, 0] s slices_S4x1024_o2_0_S1x1024))
    (extractStridedSlice S1x1024 ![3, 0] s slices_S4x1024_o3_0_S1x1024))
    (broadcast S1x1024 (Scalar.ofBits (F := Ideal) .f32 0x00000000#32))

theorem poolRow_at (p : Vec Ideal S1x1x1024 .f32) (t : Vec Ideal S4x1024 .f32) (c : Fin 1024) :
    poolRow p t (ix2 0 c) = max (t (ix2 1 c) * (p (ix3 0 0 c) - t (ix2 0 c)) * t (ix2 2 c) + t (ix2 3 c)) 0 := by
  pointwise [poolRow]

section sixth

variable {x0 x1 x2 : Vec Ideal S1x1024x64 .f32} {x3 : Vec Ideal S1x1x1024 .f32} {x4 x5 x6 : Vec Ideal S4x64 .f32}
  {x7 : Vec Ideal S4x1024 .f32} {x8 : Vec Ideal S512x1024 .f32} {x9 : Vec Ideal S512x192 .f32}
  {X1 X2 X3 : Fin 1024 → Fin 64 → ℝ} {p m v g b : Fin 1024 → ℝ} {Wa : Fin 512 → Fin 1024 → ℝ} {Wb : Fin 512 → Fin 192 → ℝ}
  (h1 : ∀ n o, k2_pay2 x0 x4 (ix2 n o) = ((X1 n o : ℝ) : EReal))
  (h2 : ∀ n o, k2_pay2 x1 x5 (ix2 n o) = ((X2 n o : ℝ) : EReal))
  (h3 : ∀ n o, k2_pay2 x2 x6 (ix2 n o) = ((X3 n o : ℝ) : EReal))
  (hp : ∀ o, x3 (ix3 0 0 o) = ((p o : ℝ) : EReal)) (ht : IsTab (fun r o => x7 (ix2 r o)) m v g b)
  (ha : ∀ o k, x8 (ix2 o k) = ((Wa o k : ℝ) : EReal)) (hb : ∀ o k, x9 (ix2 o k) = ((Wb o k : ℝ) : EReal))

theorem k6_pay8_eq : k6_pay8 (k6_pay12 x0 x1 x2 x3 x4 x5 x6 x7 x8 x9) (k6_pay13 x0 x1 x2 x3 x4 x5 x6 x7 x8 x9)
    (k6_pay14 x0 x1 x2 x3 x4 x5 x6 x7 x8 x9) (k6_pay15 x0 x1 x2 x3 x4 x5 x6 x7 x8 x9) (k6_pay16 x0 x1 x2 x3 x4 x5 x6 x7 x8 x9)
    (k6_pay17 x0 x1 x2 x3 x4 x5 x6 x7 x8 x9) x3 x7 x8 x9
      = mat6 (cat3 (k2_pay2 x0 x4) (k2_pay2 x1 x5) (k2_pay2 x2 x6)) (poolRow x3 x7) x8 x9 := by
  have e : ∀ x : Vec Ideal S1x1024x64 .f32, View.ld x r6_0 = x := fun x => by frame_out
  have e' : ∀ x : Vec Ideal S4x64 .f32, View.ld x r6_1 = x := fun x => by frame_out
  unfold k6_pay12 k6_pay13 k6_pay14 k6_pay15 k6_pay16 k6_pay17
  simp only [e, e']
  rfl

include h1 h2 h3 hp ht ha hb

theorem mat6_real (n : Fin 1024) (o : Fin 512) :
    mat6 (cat3 (k2_pay2 x0 x4) (k2_pay2 x1 x5) (k2_pay2 x2 x6)) (poolRow x3 x7) x8 x9 (ix2 n o)
    = (((∑ c, bnr (m c) (v c) (g c) (b c) (p c) * Wa o c) + ∑ c, cat X1 X2 X3 n c * Wb o c : ℝ) : EReal) := by
  rw [mat6_at]
  simp only [cat3_at _ _ _ X1 X2 X3 h1 h2 h3, poolRow_at, hp, fun k x => ht.bn k x, ha, hb, ← EReal.coe_mul, coe_sum, ← EReal.coe_add]
  rw [add_comm]

/-- The seventh kernel's first store: the convolution. -/
theorem out6_10_at (y : S1x1024x512.Idx) : out6_10 x0 x1 x2 x3 x4 x5 x6 x7 x8 x9 y
    = (((∑ c, bnr (m c) (v c) (g c) (b c) (p c) * Wa (y 2) c) + ∑ c, cat X1 X2 X3 (y 1) c * Wb (y 2) c : ℝ) : EReal) := by
  have hm := mat6_real h1 h2 h3 hp ht ha hb
  have e2 : View.ld x3 r6_2 = x3 := by frame_out
  have e3 : View.ld x7 r6_3 = x7 := by frame_out
  have e4 : View.ld x8 r6_4 = x8 := by frame_out
  have e5 : View.ld x9 r6_5 = x9 := by frame_out
  unfold out6_10 k6_pay9
  rw [e2, e3, e4, e5, k6_pay8_eq]
  generalize mat6 (cat3 (k2_pay2 x0 x4) (k2_pay2 x1 x5) (k2_pay2 x2 x6)) (poolRow x3 x7) x8 x9 = a at hm ⊢
  frame_out
  idx_vars y
  pointwise []
  exact hm _ _

/-- Its second: sums and sums of squares over the points. -/
theorem out6_11_at (y : S1x2x512.Idx) : out6_11 x0 x1 x2 x3 x4 x5 x6 x7 x8 x9 y
    = ((if (y 1).val < 1 then ∑ n, ((∑ c, bnr (m c) (v c) (g c) (b c) (p c) * Wa (y 2) c) + ∑ c, cat X1 X2 X3 n c * Wb (y 2) c)
      else ∑ n, ((∑ c, bnr (m c) (v c) (g c) (b c) (p c) * Wa (y 2) c) + ∑ c, cat X1 X2 X3 n c * Wb (y 2) c)
        * ((∑ c, bnr (m c) (v c) (g c) (b c) (p c) * Wa (y 2) c) + ∑ c, cat X1 X2 X3 n c * Wb (y 2) c) : ℝ) : EReal) := by
  have hm := mat6_real h1 h2 h3 hp ht ha hb
  have e2 : View.ld x3 r6_2 = x3 := by frame_out
  have e3 : View.ld x7 r6_3 = x7 := by frame_out
  have e4 : View.ld x8 r6_4 = x8 := by frame_out
  have e5 : View.ld x9 r6_5 = x9 := by frame_out
  unfold out6_11 k6_pay1 k6_pay10 k6_pay11
  rw [e2, e3, e4, e5, k6_pay8_eq]
  generalize mat6 (cat3 (k2_pay2 x0 x4) (k2_pay2 x1 x5) (k2_pay2 x2 x6)) (poolRow x3 x7) x8 x9 = a at hm ⊢
  frame_out
  idx_vars y
  pointwise []
  simp only [hm, ← EReal.coe_mul, coe_sum]
  by_cases h : y1.val < 1
  · rw [dif_pos h]
    exact congrArg (fun z : ℝ => (z : EReal)) (if_pos h).symm
  · rw [dif_neg h]
    exact congrArg (fun z : ℝ => (z : EReal)) (if_neg h).symm

end sixth

section seventh

variable {x0 : Vec Ideal S1x1024x512 .f32} {x1 : Vec Ideal S4x512 .f32} {x2 : Vec Ideal S256x512 .f32}
  {c : Fin 1024 → Fin 512 → ℝ} {m v g b : Fin 512 → ℝ} {W : Fin 256 → Fin 512 → ℝ}
  (hx : ∀ n o, x0 (ix3 0 n o) = ((c n o : ℝ) : EReal)) (ht : IsTab (fun r o => x1 (ix2 r o)) m v g b)
  (hw : ∀ o k, x2 (ix2 o k) = ((W o k : ℝ) : EReal))

include hx ht hw

/-- The eighth kernel's convolution. -/
theorem mat7_real (n : Fin 1024) (o : Fin 256) : k7_pay1 x0 x1 x2 (ix2 n o)
    = ((∑ k, bnr (m k) (v k) (g k) (b k) (c n k) * W o k : ℝ) : EReal) := by
  have e : k7_pay1 x0 x1 x2 (ix2 n o)
      = ∑ k, max (x1 (ix2 1 k) * (x0 (ix3 0 n k) - x1 (ix2 0 k)) * x1 (ix2 2 k) + x1 (ix2 3 k)) 0 * x2 (ix2 o k) := by
    pointwise [k7_pay1]
  rw [e]
  simp only [hx, fun k x => ht.bn k x, hw, ← EReal.coe_mul, coe_sum]

theorem out7_3_at (y : S1x1024x256.Idx) : out7_3 x0 x1 x2 y
    = ((∑ k, bnr (m k) (v k) (g k) (b k) (c (y 1) k) * W (y 2) k : ℝ) : EReal) := by
  have hm := mat7_real hx ht hw
  frame_out
  unfold k7_pay2
  generalize k7_pay1 x0 x1 x2 = a at hm ⊢
  idx_vars y
  pointwise []
  exact hm _ _

theorem out7_4_at (y : S1x2x256.Idx) : out7_4 x0 x1 x2 y
    = ((if (y 1).val < 1 then ∑ n, ∑ k, bnr (m k) (v k) (g k) (b k) (c n k) * W (y 2) k
      else ∑ n, (∑ k, bnr (m k) (v k) (g k) (b k) (c n k) * W (y 2) k) * ∑ k, bnr (m k) (v k) (g k) (b k) (c n k) * W (y 2) k : ℝ) : EReal) := by
  have hm := mat7_real hx ht hw
  frame_out
  unfold k7_pay3
  generalize k7_pay1 x0 x1 x2 = a at hm ⊢
  idx_vars y
  pointwise []
  simp only [hm, ← EReal.coe_mul, coe_sum]
  by_cases h : y1.val < 1
  · rw [dif_pos h]
    exact congrArg (fun z : ℝ => (z : EReal)) (if_pos h).symm
  · rw [dif_neg h]
    exact congrArg (fun z : ℝ => (z : EReal)) (if_neg h).symm

end seventh

/-- A hidden layer of 128 channels over the features. -/
def hidden (N : Fin 1024 → Fin 256 → EReal) (w : Fin 128 → Fin 256 → EReal) (n : Fin 1024) (q : Fin 128) : EReal :=
  max (∑ c, N n c * w q c) 0

/-- The first head: a number between nought and one for every point. -/
def score (N : Fin 1024 → Fin 256 → EReal) (w : Fin 128 → Fin 256 → EReal) (u : Fin 128 → EReal) (n : Fin 1024) : EReal :=
  Ideal.div 1 (1 + Ideal.exp (0 - ∑ q, hidden N w n q * u q))

/-- The third head: the squared distances between the rows of the second. -/
def simil (N : Fin 1024 → Fin 256 → EReal) (w : Fin 128 → Fin 256 → EReal) (i j : Fin 1024) : EReal :=
  max ((∑ q, hidden N w i q * hidden N w i q) - ((2 : ℝ) : EReal) * (∑ q, hidden N w i q * hidden N w j q)
    + ∑ q, hidden N w j q * hidden N w j q) 0

section eighth

variable {x0 : Vec Ideal S1x1024x256 .f32} {x1 : Vec Ideal S4x256 .f32} {x2 : Vec Ideal S128x256 .f32} {x3 : Vec Ideal S8x128 .f32}
  {x4 : Vec Ideal S128x256 .f32} {c : Fin 1024 → Fin 256 → ℝ} {m v : Fin 256 → ℝ} {g b : Fin 256 → EReal} {N : Fin 1024 → Fin 256 → EReal}
  (hx : ∀ n o, x0 (ix3 0 n o) = ((c n o : ℝ) : EReal)) (ht : IsWide (fun r o => x1 (ix2 r o)) m v g b)
  (hN : ∀ n o, N n o = wide (m o) (v o) (g o) (b o) (c n o))

include hx ht hN

theorem net_at (n : Fin 1024) (o : Fin 256) : k8_pay4 x0 x1 (ix2 n o) = N n o := by
  have e : k8_pay4 x0 x1 (ix2 n o) = max (x1 (ix2 1 o) * (x0 (ix3 0 n o) - x1 (ix2 0 o)) * x1 (ix2 2 o) + x1 (ix2 3 o)) 0 := by
    pointwise [k8_pay4]
  rw [e, hx, hN]
  exact ht.bn o _

theorem out8_5_at (y : S1x1024x8.Idx) : out8_5 x0 x1 x2 x3 x4 y
    = score N (fun q c => x2 (ix2 q c)) (fun q => x3 (ix2 (y 2) q)) (y 1) := by
  have hm := net_at hx ht hN
  frame_out
  unfold k8_pay5
  generalize k8_pay4 x0 x1 = a at hm ⊢
  idx_vars y
  pointwise []
  simp only [hm]
  rfl

theorem out8_6_at (y : S1x1024x128.Idx) : out8_6 x0 x1 x2 x3 x4 y = hidden N (fun q c => x4 (ix2 q c)) (y 1) (y 2) := by
  have hm := net_at hx ht hN
  unfold out8_6 k8_pay7 k8_pay6
  frame_out
  unfold k8_pay2 k8_pay1
  generalize k8_pay4 x0 x1 = a at hm ⊢
  idx_vars y
  pointwise []
  simp only [hm]
  rfl

theorem out8_7_at (y : S1x1024x1024.Idx) : out8_7 x0 x1 x2 x3 x4 y = simil N (fun q c => x4 (ix2 q c)) (y 1) (y 2) := by
  have hm := net_at hx ht hN
  unfold out8_7 k8_pay7 k8_pay6
  frame_out
  have hh : ∀ n q, k8_pay1 (k8_pay4 x0 x1) x4 (constant S1024x128 .f32 0x00000000#32) (ix2 n q)
      = hidden N (fun q c => x4 (ix2 q c)) n q := fun n q => by
    unfold k8_pay1
    generalize k8_pay4 x0 x1 = a at hm ⊢
    pointwise []
    simp only [hm]
    rfl
  unfold k8_pay3
  generalize k8_pay1 (k8_pay4 x0 x1) x4 (constant S1024x128 .f32 0x00000000#32) = f at hh ⊢
  idx_vars y
  pointwise []
  simp only [hh, lit_two]
  rfl

end eighth

end Cert.Net

end
-- ==== Proof.Net.Arr6.lean ====
/- What the seventh kernel leaves in its two arrays. -/
module

public import proofs.«01_k».proof.Proof.Net.Last

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (V : (c : Dev nD) → (b : Ref sig .tc) → Buf (Elt Ideal) ((c : Thread nD τ).loc b)) (c : Dev nD)

/-- The block of every window: the grid point's own cloud, or the whole array. -/
theorem place6 : ∀ t : Fin cfg6.N, win6_0.index t = ![t.val, 0, 0]
    ∧ win6_1.index t = ![t.val, 0, 0]
    ∧ win6_2.index t = ![t.val, 0, 0]
    ∧ win6_3.index t = ![t.val, 0, 0]
    ∧ win6_4.index t = ![0, 0]
    ∧ win6_5.index t = ![0, 0]
    ∧ win6_6.index t = ![0, 0]
    ∧ win6_7.index t = ![0, 0]
    ∧ win6_8.index t = ![0, 0]
    ∧ win6_9.index t = ![0, 0]
    ∧ win6_10.index t = ![t.val, 0, 0]
    ∧ win6_11.index t = ![t.val, 0, 0] := by decide +kernel

theorem blk6_0 (t : Fin cfg6.N) (n : Fin 1024) (o : Fin 64) : iblk6 V c 0 t (ix3 0 n o) = V c main_v22_1 (ix3 t n o) := by
  obtain ⟨e, -, -, -, -, -, -, -, -, -, -, -⟩ := place6 t
  blk_ext [iblk6, e]

theorem blk6_1 (t : Fin cfg6.N) (n : Fin 1024) (o : Fin 64) : iblk6 V c 1 t (ix3 0 n o) = V c main_v48_1 (ix3 t n o) := by
  obtain ⟨-, e, -, -, -, -, -, -, -, -, -, -⟩ := place6 t
  blk_ext [iblk6, e]

theorem blk6_2 (t : Fin cfg6.N) (n : Fin 1024) (o : Fin 64) : iblk6 V c 2 t (ix3 0 n o) = V c main_v61_0 (ix3 t n o) := by
  obtain ⟨-, -, e, -, -, -, -, -, -, -, -, -⟩ := place6 t
  blk_ext [iblk6, e]

theorem blk6_3 (t : Fin cfg6.N) (n : Fin 1) (o : Fin 1024) : iblk6 V c 3 t (ix3 0 n o) = V c main_v82_1 (ix3 t n o) := by
  obtain ⟨-, -, -, e, -, -, -, -, -, -, -, -⟩ := place6 t
  blk_ext [iblk6, e]

theorem blk6_4 (t : Fin cfg6.N) (o : Fin 4) (k : Fin 64) : iblk6 V c 4 t (ix2 o k) = V c main_v34 (ix2 o k) := by
  obtain ⟨-, -, -, -, e, -, -, -, -, -, -, -⟩ := place6 t
  blk_ext [iblk6, e]

theorem blk6_5 (t : Fin cfg6.N) (o : Fin 4) (k : Fin 64) : iblk6 V c 5 t (ix2 o k) = V c main_v60 (ix2 o k) := by
  obtain ⟨-, -, -, -, -, e, -, -, -, -, -, -⟩ := place6 t
  blk_ext [iblk6, e]

theorem blk6_6 (t : Fin cfg6.N) (o : Fin 4) (k : Fin 64) : iblk6 V c 6 t (ix2 o k) = V c main_v81 (ix2 o k) := by
  obtain ⟨-, -, -, -, -, -, e, -, -, -, -, -⟩ := place6 t
  blk_ext [iblk6, e]

theorem blk6_7 (t : Fin cfg6.N) (o : Fin 4) (k : Fin 1024) : iblk6 V c 7 t (ix2 o k) = V c main_v102 (ix2 o k) := by
  obtain ⟨-, -, -, -, -, -, -, e, -, -, -, -⟩ := place6 t
  blk_ext [iblk6, e]

theorem blk6_8 (t : Fin cfg6.N) (o : Fin 512) (k : Fin 1024) : iblk6 V c 8 t (ix2 o k) = V c main_v103 (ix2 o k) := by
  obtain ⟨-, -, -, -, -, -, -, -, e, -, -, -⟩ := place6 t
  blk_ext [iblk6, e]

theorem blk6_9 (t : Fin cfg6.N) (o : Fin 512) (k : Fin 192) : iblk6 V c 9 t (ix2 o k) = V c main_v104 (ix2 o k) := by
  obtain ⟨-, -, -, -, -, -, -, -, -, e, -, -⟩ := place6 t
  blk_ext [iblk6, e]

variable {M1 M2 M3 X1 X2 X3 : Points 64} {m1 v1 g1 b1 m2 v2 g2 b2 m3 v3 g3 b3 : Fin 64 → ℝ}
  (hx1 : ∀ i n o, V c main_v22_1 (ix3 i n o) = ((M1 i n o : ℝ) : EReal)) (ht1 : IsTab (fun r o => V c main_v34 (ix2 r o)) m1 v1 g1 b1)
  (hX1 : ∀ i n o, X1 i n o = bnr (m1 o) (v1 o) (g1 o) (b1 o) (M1 i n o))
  (hx2 : ∀ i n o, V c main_v48_1 (ix3 i n o) = ((M2 i n o : ℝ) : EReal)) (ht2 : IsTab (fun r o => V c main_v60 (ix2 r o)) m2 v2 g2 b2)
  (hX2 : ∀ i n o, X2 i n o = bnr (m2 o) (v2 o) (g2 o) (b2 o) (M2 i n o))
  (hx3 : ∀ i n o, V c main_v61_0 (ix3 i n o) = ((M3 i n o : ℝ) : EReal)) (ht3 : IsTab (fun r o => V c main_v81 (ix2 r o)) m3 v3 g3 b3)
  (hX3 : ∀ i n o, X3 i n o = bnr (m3 o) (v3 o) (g3 o) (b3 o) (M3 i n o))
  {p : Fin 16 → Fin 1024 → ℝ} {m v g b : Fin 1024 → ℝ} {Wa : Fin 512 → Fin 1024 → ℝ} {Wb : Fin 512 → Fin 192 → ℝ}
  (hp : ∀ i o, V c main_v82_1 (ix3 i 0 o) = ((p i o : ℝ) : EReal)) (ht : IsTab (fun r o => V c main_v102 (ix2 r o)) m v g b)
  (ha : ∀ o k, V c main_v103 (ix2 o k) = ((Wa o k : ℝ) : EReal)) (hb : ∀ o k, V c main_v104 (ix2 o k) = ((Wb o k : ℝ) : EReal))

include hx1 ht1 hX1 hx2 ht2 hX2 hx3 ht3 hX3 hp ht ha hb in
/-- Output 1. -/
theorem arr6_10 : (dat6 V c).arrAt 10 cfg6.N
    = ((fun i => ((((∑ k, bnr (m k) (v k) (g k) (b k) (p (i 0) k) * Wa (i 2) k) + ∑ k, cat (X1 (i 0)) (X2 (i 0)) (X3 (i 0)) (i 1) k * Wb (i 2) k) : ℝ) : EReal)) : S16x1024x512.Idx → EReal) := by
  refine (dat6 V c).arrAt_eq_of_covers 10 _ (by decide +kernel) fun t hf y => ?_
  obtain ⟨-, -, -, -, -, -, -, -, -, -, e, -⟩ := place6 t
  have h1 : ∀ n o, k2_pay2 (iblk6 V c 0 t) (iblk6 V c 4 t) (ix2 n o) = ((X1 t n o : ℝ) : EReal) :=
    feat_at (fun n o => (blk6_0 V c t n o).trans (hx1 t n o)) (fun o => by simp only [blk6_4]; exact ht1 o) (hX1 t)
  have h2 : ∀ n o, k2_pay2 (iblk6 V c 1 t) (iblk6 V c 5 t) (ix2 n o) = ((X2 t n o : ℝ) : EReal) :=
    feat_at (fun n o => (blk6_1 V c t n o).trans (hx2 t n o)) (fun o => by simp only [blk6_5]; exact ht2 o) (hX2 t)
  have h3 : ∀ n o, k2_pay2 (iblk6 V c 2 t) (iblk6 V c 6 t) (ix2 n o) = ((X3 t n o : ℝ) : EReal) :=
    feat_at (fun n o => (blk6_2 V c t n o).trans (hx3 t n o)) (fun o => by simp only [blk6_6]; exact ht3 o) (hX3 t)
  have h4 : ∀ o, iblk6 V c 3 t (ix3 0 0 o) = ((p t o : ℝ) : EReal) := fun o => (blk6_3 V c t 0 o).trans (hp t o)
  have h5 : IsTab (fun r o => iblk6 V c 7 t (ix2 r o)) m v g b := fun o => by simp only [blk6_7]; exact ht o
  have h6 : ∀ o k, iblk6 V c 8 t (ix2 o k) = ((Wa o k : ℝ) : EReal) := fun o k => (blk6_8 V c t o k).trans (ha o k)
  have h7 : ∀ o k, iblk6 V c 9 t (ix2 o k) = ((Wb o k : ℝ) : EReal) := fun o k => (blk6_9 V c t o k).trans (hb o k)
  blk_simp
  rw [after6_10]
  have a0 : (win6_10.blk t).view.emb y 0 = t := Fin.ext (by blk_ext [e])
  have a1 : (win6_10.blk t).view.emb y 1 = y 1 := Fin.ext (by blk_ext [e])
  have a2 : (win6_10.blk t).view.emb y 2 = y 2 := Fin.ext (by blk_ext [e])
  rw [a0, a1, a2]
  exact out6_10_at h1 h2 h3 h4 h5 h6 h7 y

include hx1 ht1 hX1 hx2 ht2 hX2 hx3 ht3 hX3 hp ht ha hb in
set_option maxHeartbeats 2000000 in
/-- Output 2. -/
theorem arr6_11 : (dat6 V c).arrAt 11 cfg6.N
    = ((fun i => ((if (i 1).val < 1 then ∑ n, ((∑ k, bnr (m k) (v k) (g k) (b k) (p (i 0) k) * Wa (i 2) k) + ∑ k, cat (X1 (i 0)) (X2 (i 0)) (X3 (i 0)) n k * Wb (i 2) k)
      else ∑ n, ((∑ k, bnr (m k) (v k) (g k) (b k) (p (i 0) k) * Wa (i 2) k) + ∑ k, cat (X1 (i 0)) (X2 (i 0)) (X3 (i 0)) n k * Wb (i 2) k) * ((∑ k, bnr (m k) (v k) (g k) (b k) (p (i 0) k) * Wa (i 2) k) + ∑ k, cat (X1 (i 0)) (X2 (i 0)) (X3 (i 0)) n k * Wb (i 2) k) : ℝ) : EReal)) : S16x2x512.Idx → EReal) := by
  refine (dat6 V c).arrAt_eq_of_covers 11 _ (by decide +kernel) fun t hf y => ?_
  obtain ⟨-, -, -, -, -, -, -, -, -, -, -, e⟩ := place6 t
  have h1 : ∀ n o, k2_pay2 (iblk6 V c 0 t) (iblk6 V c 4 t) (ix2 n o) = ((X1 t n o : ℝ) : EReal) :=
    feat_at (fun n o => (blk6_0 V c t n o).trans (hx1 t n o)) (fun o => by simp only [blk6_4]; exact ht1 o) (hX1 t)
  have h2 : ∀ n o, k2_pay2 (iblk6 V c 1 t) (iblk6 V c 5 t) (ix2 n o) = ((X2 t n o : ℝ) : EReal) :=
    feat_at (fun n o => (blk6_1 V c t n o).trans (hx2 t n o)) (fun o => by simp only [blk6_5]; exact ht2 o) (hX2 t)
  have h3 : ∀ n o, k2_pay2 (iblk6 V c 2 t) (iblk6 V c 6 t) (ix2 n o) = ((X3 t n o : ℝ) : EReal) :=
    feat_at (fun n o => (blk6_2 V c t n o).trans (hx3 t n o)) (fun o => by simp only [blk6_6]; exact ht3 o) (hX3 t)
  have h4 : ∀ o, iblk6 V c 3 t (ix3 0 0 o) = ((p t o : ℝ) : EReal) := fun o => (blk6_3 V c t 0 o).trans (hp t o)
  have h5 : IsTab (fun r o => iblk6 V c 7 t (ix2 r o)) m v g b := fun o => by simp only [blk6_7]; exact ht o
  have h6 : ∀ o k, iblk6 V c 8 t (ix2 o k) = ((Wa o k : ℝ) : EReal) := fun o k => (blk6_8 V c t o k).trans (ha o k)
  have h7 : ∀ o k, iblk6 V c 9 t (ix2 o k) = ((Wb o k : ℝ) : EReal) := fun o k => (blk6_9 V c t o k).trans (hb o k)
  blk_simp
  rw [after6_11]
  have a0 : (win6_11.blk t).view.emb y 0 = t := Fin.ext (by blk_ext [e])
  have q : win6_11.index t 1 = 0 := by rw [e]; rfl
  have a2 : (win6_11.blk t).view.emb y 2 = y 2 := Fin.ext (by blk_ext [e])
  rw [a0, a2]
  simp only [q, zero_mul, zero_add]
  exact out6_11_at h1 h2 h3 h4 h5 h6 h7 y

end Cert.Net

end
-- ==== Proof.Net.Arr7.lean ====
/- What the eighth kernel leaves in its two arrays. -/
module

public import proofs.«01_k».proof.Proof.Net.Last

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (V : (c : Dev nD) → (b : Ref sig .tc) → Buf (Elt Ideal) ((c : Thread nD τ).loc b)) (c : Dev nD)

/-- The block of every window: the grid point's own cloud, or the whole array. -/
theorem place7 : ∀ t : Fin cfg7.N, win7_0.index t = ![t.val, 0, 0]
    ∧ win7_1.index t = ![0, 0]
    ∧ win7_2.index t = ![0, 0]
    ∧ win7_3.index t = ![t.val, 0, 0]
    ∧ win7_4.index t = ![t.val, 0, 0] := by decide +kernel

theorem blk7_0 (t : Fin cfg7.N) (n : Fin 1024) (o : Fin 512) : iblk7 V c 0 t (ix3 0 n o) = V c main_v105_0 (ix3 t n o) := by
  obtain ⟨e, -, -, -, -⟩ := place7 t
  blk_ext [iblk7, e]

theorem blk7_1 (t : Fin cfg7.N) (o : Fin 4) (k : Fin 512) : iblk7 V c 1 t (ix2 o k) = V c main_v125 (ix2 o k) := by
  obtain ⟨-, e, -, -, -⟩ := place7 t
  blk_ext [iblk7, e]

theorem blk7_2 (t : Fin cfg7.N) (o : Fin 256) (k : Fin 512) : iblk7 V c 2 t (ix2 o k) = V c main_arg22 (ix2 o k) := by
  obtain ⟨-, -, e, -, -⟩ := place7 t
  blk_ext [iblk7, e]

variable {a : Points 512} {m v g b : Fin 512 → ℝ} {W : Fin 256 → Fin 512 → ℝ}
  (hx : ∀ i n o, V c main_v105_0 (ix3 i n o) = ((a i n o : ℝ) : EReal)) (ht : IsTab (fun r o => V c main_v125 (ix2 r o)) m v g b)
  (hw : ∀ o k, V c main_arg22 (ix2 o k) = ((W o k : ℝ) : EReal))

include hx ht hw in
/-- Output 1. -/
theorem arr7_3 : (dat7 V c).arrAt 3 cfg7.N
    = ((fun i => (((∑ k, bnr (m k) (v k) (g k) (b k) (a (i 0) (i 1) k) * W (i 2) k) : ℝ) : EReal)) : S16x1024x256.Idx → EReal) := by
  refine (dat7 V c).arrAt_eq_of_covers 3 _ (by decide +kernel) fun t hf y => ?_
  obtain ⟨-, -, -, e, -⟩ := place7 t
  have h0 : ∀ n o, iblk7 V c 0 t (ix3 0 n o) = ((a t n o : ℝ) : EReal) := fun n o => (blk7_0 V c t n o).trans (hx t n o)
  have h1 : IsTab (fun r o => iblk7 V c 1 t (ix2 r o)) m v g b := fun o => by simp only [blk7_1]; exact ht o
  have h2 : ∀ o k, iblk7 V c 2 t (ix2 o k) = ((W o k : ℝ) : EReal) := fun o k => (blk7_2 V c t o k).trans (hw o k)
  blk_simp
  rw [after7_3]
  have a0 : (win7_3.blk t).view.emb y 0 = t := Fin.ext (by blk_ext [e])
  have a1 : (win7_3.blk t).view.emb y 1 = y 1 := Fin.ext (by blk_ext [e])
  have a2 : (win7_3.blk t).view.emb y 2 = y 2 := Fin.ext (by blk_ext [e])
  rw [a0, a1, a2]
  exact out7_3_at h0 h1 h2 y

include hx ht hw in
/-- Output 2. -/
theorem arr7_4 : (dat7 V c).arrAt 4 cfg7.N
    = ((fun i => ((if (i 1).val < 1 then ∑ n, (∑ k, bnr (m k) (v k) (g k) (b k) (a (i 0) n k) * W (i 2) k)
      else ∑ n, (∑ k, bnr (m k) (v k) (g k) (b k) (a (i 0) n k) * W (i 2) k) * (∑ k, bnr (m k) (v k) (g k) (b k) (a (i 0) n k) * W (i 2) k) : ℝ) : EReal)) : S16x2x256.Idx → EReal) := by
  refine (dat7 V c).arrAt_eq_of_covers 4 _ (by decide +kernel) fun t hf y => ?_
  obtain ⟨-, -, -, -, e⟩ := place7 t
  have h0 : ∀ n o, iblk7 V c 0 t (ix3 0 n o) = ((a t n o : ℝ) : EReal) := fun n o => (blk7_0 V c t n o).trans (hx t n o)
  have h1 : IsTab (fun r o => iblk7 V c 1 t (ix2 r o)) m v g b := fun o => by simp only [blk7_1]; exact ht o
  have h2 : ∀ o k, iblk7 V c 2 t (ix2 o k) = ((W o k : ℝ) : EReal) := fun o k => (blk7_2 V c t o k).trans (hw o k)
  blk_simp
  rw [after7_4]
  have a0 : (win7_4.blk t).view.emb y 0 = t := Fin.ext (by blk_ext [e])
  have q : win7_4.index t 1 = 0 := by rw [e]; rfl
  have a2 : (win7_4.blk t).view.emb y 2 = y 2 := Fin.ext (by blk_ext [e])
  rw [a0, a2]
  simp only [q, zero_mul, zero_add]
  exact out7_4_at h0 h1 h2 y

end Cert.Net

end
-- ==== Proof.Net.Arr8.lean ====
/- What the ninth kernel leaves in its three arrays. -/
module

public import proofs.«01_k».proof.Proof.Net.Last

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (V : (c : Dev nD) → (b : Ref sig .tc) → Buf (Elt Ideal) ((c : Thread nD τ).loc b)) (c : Dev nD)

/-- The block of every window: the grid point's own cloud, or the whole array. -/
theorem place8 : ∀ t : Fin cfg8.N, win8_0.index t = ![t.val, 0, 0]
    ∧ win8_1.index t = ![0, 0]
    ∧ win8_2.index t = ![0, 0]
    ∧ win8_3.index t = ![0, 0]
    ∧ win8_4.index t = ![0, 0]
    ∧ win8_5.index t = ![t.val, 0, 0]
    ∧ win8_6.index t = ![t.val, 0, 0]
    ∧ win8_7.index t = ![t.val, 0, 0] := by decide +kernel

theorem blk8_0 (t : Fin cfg8.N) (n : Fin 1024) (o : Fin 256) : iblk8 V c 0 t (ix3 0 n o) = V c main_v126_0 (ix3 t n o) := by
  obtain ⟨e, -, -, -, -, -, -, -⟩ := place8 t
  blk_ext [iblk8, e]

theorem blk8_1 (t : Fin cfg8.N) (o : Fin 4) (k : Fin 256) : iblk8 V c 1 t (ix2 o k) = V c main_v146 (ix2 o k) := by
  obtain ⟨-, e, -, -, -, -, -, -⟩ := place8 t
  blk_ext [iblk8, e]

theorem blk8_2 (t : Fin cfg8.N) (o : Fin 128) (k : Fin 256) : iblk8 V c 2 t (ix2 o k) = V c main_arg25 (ix2 o k) := by
  obtain ⟨-, -, e, -, -, -, -, -⟩ := place8 t
  blk_ext [iblk8, e]

theorem blk8_3 (t : Fin cfg8.N) (o : Fin 8) (k : Fin 128) : iblk8 V c 3 t (ix2 o k) = V c main_v8 (ix2 o k) := by
  obtain ⟨-, -, -, e, -, -, -, -⟩ := place8 t
  blk_ext [iblk8, e]

theorem blk8_4 (t : Fin cfg8.N) (o : Fin 128) (k : Fin 256) : iblk8 V c 4 t (ix2 o k) = V c main_arg27 (ix2 o k) := by
  obtain ⟨-, -, -, -, e, -, -, -⟩ := place8 t
  blk_ext [iblk8, e]

variable {a : Points 256} {m v : Fin 256 → ℝ} {g b : Fin 256 → EReal} {N : Fin 16 → Fin 1024 → Fin 256 → EReal}
  (hx : ∀ i n o, V c main_v126_0 (ix3 i n o) = ((a i n o : ℝ) : EReal)) (ht : IsWide (fun r o => V c main_v146 (ix2 r o)) m v g b)
  (hN : ∀ i n o, N i n o = wide (m o) (v o) (g o) (b o) (a i n o))

include hx ht hN in
/-- Output 1. -/
theorem arr8_5 : (dat8 V c).arrAt 5 cfg8.N
    = ((fun i => score (N (i 0)) (fun q k => V c main_arg25 (ix2 q k)) (fun q => V c main_v8 (ix2 (i 2) q)) (i 1)) : S16x1024x8.Idx → EReal) := by
  refine (dat8 V c).arrAt_eq_of_covers 5 _ (by decide +kernel) fun t hf y => ?_
  obtain ⟨-, -, -, -, -, e, -, -⟩ := place8 t
  have h0 : ∀ n o, iblk8 V c 0 t (ix3 0 n o) = ((a t n o : ℝ) : EReal) := fun n o => (blk8_0 V c t n o).trans (hx t n o)
  have h1 : IsWide (fun r o => iblk8 V c 1 t (ix2 r o)) m v g b := fun o => by simp only [blk8_1]; exact ht o
  blk_simp
  rw [after8_5]
  have a0 : (win8_5.blk t).view.emb y 0 = t := Fin.ext (by blk_ext [e])
  have a1 : (win8_5.blk t).view.emb y 1 = y 1 := Fin.ext (by blk_ext [e])
  have a2 : (win8_5.blk t).view.emb y 2 = y 2 := Fin.ext (by blk_ext [e])
  have e := out8_5_at (x2 := iblk8 V c 2 t) (x3 := iblk8 V c 3 t) (x4 := iblk8 V c 4 t) h0 h1 (hN t) y
  simp only [blk8_2] at e
  rw [a0, a1, a2]
  exact e.trans (congrArg (fun u => score (N t) (fun q k => V c main_arg25 (ix2 q k)) u (y 1)) (funext fun q => blk8_3 V c t (y 2) q))

include hx ht hN in
/-- Output 2. -/
theorem arr8_6 : (dat8 V c).arrAt 6 cfg8.N
    = ((fun i => hidden (N (i 0)) (fun q k => V c main_arg27 (ix2 q k)) (i 1) (i 2)) : S16x1024x128.Idx → EReal) := by
  refine (dat8 V c).arrAt_eq_of_covers 6 _ (by decide +kernel) fun t hf y => ?_
  obtain ⟨-, -, -, -, -, -, e, -⟩ := place8 t
  have h0 : ∀ n o, iblk8 V c 0 t (ix3 0 n o) = ((a t n o : ℝ) : EReal) := fun n o => (blk8_0 V c t n o).trans (hx t n o)
  have h1 : IsWide (fun r o => iblk8 V c 1 t (ix2 r o)) m v g b := fun o => by simp only [blk8_1]; exact ht o
  blk_simp
  rw [after8_6]
  have a0 : (win8_6.blk t).view.emb y 0 = t := Fin.ext (by blk_ext [e])
  have a1 : (win8_6.blk t).view.emb y 1 = y 1 := Fin.ext (by blk_ext [e])
  have a2 : (win8_6.blk t).view.emb y 2 = y 2 := Fin.ext (by blk_ext [e])
  have e := out8_6_at (x2 := iblk8 V c 2 t) (x3 := iblk8 V c 3 t) (x4 := iblk8 V c 4 t) h0 h1 (hN t) y
  simp only [blk8_2, blk8_3, blk8_4] at e
  rw [a0, a1, a2]
  exact e

include hx ht hN in
/-- Output 3. -/
theorem arr8_7 : (dat8 V c).arrAt 7 cfg8.N
    = ((fun i => simil (N (i 0)) (fun q k => V c main_arg27 (ix2 q k)) (i 1) (i 2)) : S16x1024x1024.Idx → EReal) := by
  refine (dat8 V c).arrAt_eq_of_covers 7 _ (by decide +kernel) fun t hf y => ?_
  obtain ⟨-, -, -, -, -, -, -, e⟩ := place8 t
  have h0 : ∀ n o, iblk8 V c 0 t (ix3 0 n o) = ((a t n o : ℝ) : EReal) := fun n o => (blk8_0 V c t n o).trans (hx t n o)
  have h1 : IsWide (fun r o => iblk8 V c 1 t (ix2 r o)) m v g b := fun o => by simp only [blk8_1]; exact ht o
  blk_simp
  rw [after8_7]
  have a0 : (win8_7.blk t).view.emb y 0 = t := Fin.ext (by blk_ext [e])
  have a1 : (win8_7.blk t).view.emb y 1 = y 1 := Fin.ext (by blk_ext [e])
  have a2 : (win8_7.blk t).view.emb y 2 = y 2 := Fin.ext (by blk_ext [e])
  have e := out8_7_at (x2 := iblk8 V c 2 t) (x3 := iblk8 V c 3 t) (x4 := iblk8 V c 4 t) h0 h1 (hN t) y
  simp only [blk8_2, blk8_3, blk8_4] at e
  rw [a0, a1, a2]
  exact e

end Cert.Net

end
-- ==== Proof.Net.ChainD.lean ====
/- The kernel's arrays from the pooled features to the heads. -/
module

public import proofs.«01_k».proof.Proof.Net.ChainC
public import proofs.«01_k».proof.Proof.Net.Tab7
public import proofs.«01_k».proof.Proof.Net.Tab8
public import proofs.«01_k».proof.Proof.Net.Arr6
public import proofs.«01_k».proof.Proof.Net.Arr7
public import proofs.«01_k».proof.Proof.Net.Arr8

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

/-- The convolution of the pooled features with the points' own, the pooled ones normalized after their maximum. -/
def seventh (P : Par) : Points 512 := fun i n o =>
  (∑ k, bnr (mean (chanP P.c6 k)) (var (chanP P.c6 k)) (P.g5 k) (P.b5 k) (sup fun n => P.c6 i n k) * P.W6 o (Fin.castAdd 192 k))
    + ∑ k, cat (P.x1 i) (P.x2 i) (P.x3 i) n k * P.W6 o (Fin.natAdd 1024 k)

/-- It is the same convolution. -/
theorem seventh_eq (P : Par) : seventh P = P.c7 := by
  funext i n o
  unfold seventh Par.c7
  simp only [← Par.pool_eq]
  rfl

variable (m : (ℓ : Loc nD τ sig) → Buf (Elt Ideal) ℓ) (ρ : Dev nD → PrngReg) (c : Dev nD)
  {P : Par} (h : IsPar P (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22)) (m ((c : Thread nD τ).loc main_arg23)) (m ((c : Thread nD τ).loc main_arg24)))

include h

/-- The convolution of the pooled features with the points' own. -/
theorem k_c7a : ∀ (i : Fin 16) (n : Fin 1024) (o : Fin 512), W24 m ρ c (Proc.devRef .tc main_v105_0) (ix3 i n o) = ((seventh P i n o : ℝ) : EReal) :=
  fun i n o => congrFun ((W24_arr m ρ c 10).trans (arr6_10 (V23 m ρ) c (v22_1_23 m ρ c h) (v34_23 m ρ c h) P.x1_eq (v48_1_23 m ρ c h) (v60_23 m ρ c h) P.x2_eq (v61_0_23 m ρ c h) (v81_23 m ρ c h) P.x3_eq
    (k_p6_23 m ρ c h) (k_t6 m ρ c h) (k_wa m ρ c h) (k_wb m ρ c h))) (ix3 i n o)

/-- The sums of this convolution, cloud by cloud. -/
theorem k_7s : ∀ (i : Fin 16) (o : Fin 512), W24 m ρ c (Proc.devRef .tc main_v105_1) (ix3 i 0 o) = ((∑ n, seventh P i n o : ℝ) : EReal) :=
  fun i o => (congrFun ((W24_arr m ρ c 11).trans (arr6_11 (V23 m ρ) c (v22_1_23 m ρ c h) (v34_23 m ρ c h) P.x1_eq (v48_1_23 m ρ c h) (v60_23 m ρ c h) P.x2_eq (v61_0_23 m ρ c h) (v81_23 m ρ c h) P.x3_eq
    (k_p6_23 m ρ c h) (k_t6 m ρ c h) (k_wa m ρ c h) (k_wb m ρ c h))) (ix3 i 0 o)).trans (congrArg Real.toEReal (if_pos Nat.zero_lt_one))

/-- The sums of its squares, cloud by cloud. -/
theorem k_7q : ∀ (i : Fin 16) (o : Fin 512), W24 m ρ c (Proc.devRef .tc main_v105_1) (ix3 i 1 o) = ((∑ n, seventh P i n o * seventh P i n o : ℝ) : EReal) :=
  fun i o => (congrFun ((W24_arr m ρ c 11).trans (arr6_11 (V23 m ρ) c (v22_1_23 m ρ c h) (v34_23 m ρ c h) P.x1_eq (v48_1_23 m ρ c h) (v60_23 m ρ c h) P.x2_eq (v61_0_23 m ρ c h) (v81_23 m ρ c h) P.x3_eq
    (k_p6_23 m ρ c h) (k_t6 m ρ c h) (k_wa m ρ c h) (k_wb m ρ c h))) (ix3 i 1 o)).trans (congrArg Real.toEReal (if_neg (Nat.lt_irrefl 1)))

/-- The convolution, by its name. -/
theorem k_c7 : ∀ (i : Fin 16) (n : Fin 1024) (o : Fin 512), W24 m ρ c (Proc.devRef .tc main_v105_0) (ix3 i n o) = ((P.c7 i n o : ℝ) : EReal) :=
  seventh_eq P ▸ k_c7a m ρ c h

/-- Its table. -/
theorem k_t7 : IsTab (fun r o => W25 m ρ c (Proc.devRef .tc main_v125) (ix2 r o)) (fun o => mean (chanP P.c7 o)) (fun o => var (chanP P.c7 o)) P.g6 P.b6 :=
  seventh_eq P ▸ tab7 (W24 m ρ c) (f := chanP (seventh P)) (k_7s m ρ c h) (k_7q m ρ c h) (fun o => sum_points fun i n => seventh P i n o) (fun o => sum_points fun i n => seventh P i n o * seventh P i n o)
    (fun o => (congrFun (W24_args m ρ c main_arg20 (by decide)) (ix1 o)).trans (h.g6 o)) (fun o => (congrFun (W24_args m ρ c main_arg21 (by decide)) (ix1 o)).trans (h.b6 o))

/-- The array kept until the launch that reads it. -/
theorem v105_0_25 : ∀ (i : Fin 16) (n : Fin 1024) (o : Fin 512), W25 m ρ c (Proc.devRef .tc main_v105_0) (ix3 i n o) = ((P.c7 i n o : ℝ) : EReal) :=
  fun i n o => (congrFun (W25_of m ρ c main_v105_0 (by decide)) (ix3 i n o)).trans (k_c7 m ρ c h i n o)

/-- The last convolution before the heads. -/
theorem k_c8 : ∀ (i : Fin 16) (n : Fin 1024) (o : Fin 256), W26 m ρ c (Proc.devRef .tc main_v126_0) (ix3 i n o) = ((P.c8 i n o : ℝ) : EReal) :=
  fun i n o => congrFun ((W26_arr m ρ c 3).trans (arr7_3 (V25 m ρ) c (v105_0_25 m ρ c h) (k_t7 m ρ c h) (fun o k => (congrFun (W25_args m ρ c main_arg22 (by decide)) (ix2 o k)).trans (h.W7 o k)))) (ix3 i n o)

/-- The sums of this convolution, cloud by cloud. -/
theorem k_8s : ∀ (i : Fin 16) (o : Fin 256), W26 m ρ c (Proc.devRef .tc main_v126_1) (ix3 i 0 o) = ((∑ n, P.c8 i n o : ℝ) : EReal) :=
  fun i o => (congrFun ((W26_arr m ρ c 4).trans (arr7_4 (V25 m ρ) c (v105_0_25 m ρ c h) (k_t7 m ρ c h) (fun o k => (congrFun (W25_args m ρ c main_arg22 (by decide)) (ix2 o k)).trans (h.W7 o k)))) (ix3 i 0 o)).trans (congrArg Real.toEReal (if_pos Nat.zero_lt_one))

/-- The sums of its squares, cloud by cloud. -/
theorem k_8q : ∀ (i : Fin 16) (o : Fin 256), W26 m ρ c (Proc.devRef .tc main_v126_1) (ix3 i 1 o) = ((∑ n, P.c8 i n o * P.c8 i n o : ℝ) : EReal) :=
  fun i o => (congrFun ((W26_arr m ρ c 4).trans (arr7_4 (V25 m ρ) c (v105_0_25 m ρ c h) (k_t7 m ρ c h) (fun o k => (congrFun (W25_args m ρ c main_arg22 (by decide)) (ix2 o k)).trans (h.W7 o k)))) (ix3 i 1 o)).trans (congrArg Real.toEReal (if_neg (Nat.lt_irrefl 1)))

/-- Its table. -/
theorem k_t8 : IsWide (fun r o => W27 m ρ c (Proc.devRef .tc main_v146) (ix2 r o)) (fun o => mean (chanP P.c8 o)) (fun o => var (chanP P.c8 o)) P.g7 P.b7 :=
  tab8 (W26 m ρ c) (k_8s m ρ c h) (k_8q m ρ c h) (fun o => sum_points fun i n => P.c8 i n o) (fun o => sum_points fun i n => P.c8 i n o * P.c8 i n o)
    (fun o => (congrFun (W26_args m ρ c main_arg23 (by decide)) (ix1 o)).trans (h.g7 o)) (fun o => (congrFun (W26_args m ρ c main_arg24 (by decide)) (ix1 o)).trans (h.b7 o))

/-- The array kept until the launch that reads it. -/
theorem v126_0_27 : ∀ (i : Fin 16) (n : Fin 1024) (o : Fin 256), W27 m ρ c (Proc.devRef .tc main_v126_0) (ix3 i n o) = ((P.c8 i n o : ℝ) : EReal) :=
  fun i n o => (congrFun (W27_of m ρ c main_v126_0 (by decide)) (ix3 i n o)).trans (k_c8 m ρ c h i n o)

/-- The first head, in the first of eight columns. -/
theorem k_score : ∀ (i : Fin 16) (n : Fin 1024), W28 m ρ c (Proc.devRef .tc main_v147_0) (ix3 i n 0) = score (P.net i) (fun q k => m ((c : Thread nD τ).loc main_arg25) (ix2 q k)) (fun q => m ((c : Thread nD τ).loc main_arg26) (ix2 0 q)) n :=
  fun i n => (congrFun ((W28_arr m ρ c 5).trans (arr8_5 (V27 m ρ) c (v126_0_27 m ρ c h) (k_t8 m ρ c h) (N := P.net) (fun _ _ _ => rfl))) (ix3 i n 0)).trans
    (congrArg₂ (fun a b => score (P.net i) a b n) (funext fun q => funext fun k => congrFun (W27_args m ρ c main_arg25 (by decide)) (ix2 q k))
      (funext fun q => (congrFun ((W27_of m ρ c main_v8 (by decide)).trans ((W26_of m ρ c main_v8 (by decide)).trans ((W25_of m ρ c main_v8 (by decide)).trans ((W24_of m ρ c main_v8 (by decide)).trans ((W23_of m ρ c main_v8 (by decide)).trans ((W22_of m ρ c main_v8 (by decide)).trans ((W21_of m ρ c main_v8 (by decide)).trans ((W20_of m ρ c main_v8 (by decide)).trans ((W19_of m ρ c main_v8 (by decide)).trans ((W18_of m ρ c main_v8 (by decide)).trans ((W17_of m ρ c main_v8 (by decide)).trans ((W16_of m ρ c main_v8 (by decide)).trans ((W15_of m ρ c main_v8 (by decide)).trans ((W14_of m ρ c main_v8 (by decide)).trans ((W13_of m ρ c main_v8 (by decide)).trans ((W12_of m ρ c main_v8 (by decide)).trans ((W11_of m ρ c main_v8 (by decide)).trans ((W10_of m ρ c main_v8 (by decide)).trans ((W9_of m ρ c main_v8 (by decide)).trans ((W8_of m ρ c main_v8 (by decide)).trans ((W7_of m ρ c main_v8 (by decide)).trans ((W6_of m ρ c main_v8 (by decide)).trans ((W5_of m ρ c main_v8 (by decide)).trans (W4_of m ρ c main_v8 (by decide))))))))))))))))))))))))) (ix2 0 q)).trans (pad_r (W0 m ρ c) q)))

/-- The second head. -/
theorem k_hidden : ∀ (i : Fin 16) (n : Fin 1024) (q : Fin 128), W28 m ρ c (Proc.devRef .tc main_v147_1) (ix3 i n q) = hidden (P.net i) (fun q k => m ((c : Thread nD τ).loc main_arg27) (ix2 q k)) n q :=
  fun i n q => (congrFun ((W28_arr m ρ c 6).trans (arr8_6 (V27 m ρ) c (v126_0_27 m ρ c h) (k_t8 m ρ c h) (N := P.net) (fun _ _ _ => rfl))) (ix3 i n q)).trans
    (congrArg (fun a => hidden (P.net i) a n q) (funext fun q => funext fun k => congrFun (W27_args m ρ c main_arg27 (by decide)) (ix2 q k)))

/-- The third head. -/
theorem k_simil : ∀ (i : Fin 16) (n j : Fin 1024), W28 m ρ c (Proc.devRef .tc main_v147_2) (ix3 i n j) = simil (P.net i) (fun q k => m ((c : Thread nD τ).loc main_arg27) (ix2 q k)) n j :=
  fun i n j => (congrFun ((W28_arr m ρ c 7).trans (arr8_7 (V27 m ρ) c (v126_0_27 m ρ c h) (k_t8 m ρ c h) (N := P.net) (fun _ _ _ => rfl))) (ix3 i n j)).trans
    (congrArg (fun a => simil (P.net i) a n j) (funext fun q => funext fun k => congrFun (W27_args m ρ c main_arg27 (by decide)) (ix2 q k)))

end Cert.Net

end
-- ==== Proof.Net.ChainE.lean ====
/- The kernel's four results, in terms of the real parameters. -/
module

public import proofs.«01_k».proof.Proof.Net.ChainD
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

variable (m : (ℓ : Loc nD τ sig) → Buf (Elt Ideal) ℓ) (ρ : Dev nD → PrngReg) (c : Dev nD)
  {P : Par} (h : IsPar P (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22)) (m ((c : Thread nD τ).loc main_arg23)) (m ((c : Thread nD τ).loc main_arg24)))

include h

/-- The first result: the first head. -/
theorem k_out0 : ∀ (i : Fin 16) (n : Fin 1024), W29 m ρ c (Proc.devRef .tc main_v149) (ix2 i n) = score (P.net i) (fun q k => m ((c : Thread nD τ).loc main_arg25) (ix2 q k)) (fun q => m ((c : Thread nD τ).loc main_arg26) (ix2 0 q)) n :=
  by
  intro i n
  refine Eq.trans ?_ (k_score m ρ c h i n)
  repeat after_reads_at

/-- The second result: the second head. -/
theorem k_out1 : ∀ (i : Fin 16) (n : Fin 1024) (q : Fin 128), W29 m ρ c (Proc.devRef .tc main_v147_1) (ix3 i n q) = hidden (P.net i) (fun q k => m ((c : Thread nD τ).loc main_arg27) (ix2 q k)) n q :=
  fun i n q => (congrFun (W29_of m ρ c main_v147_1 (by decide)) (ix3 i n q)).trans (k_hidden m ρ c h i n q)

/-- The third result: the third head. -/
theorem k_out2 : ∀ (i : Fin 16) (n j : Fin 1024), W29 m ρ c (Proc.devRef .tc main_v147_2) (ix3 i n j) = simil (P.net i) (fun q k => m ((c : Thread nD τ).loc main_arg27) (ix2 q k)) n j :=
  fun i n j => (congrFun (W29_of m ρ c main_v147_2 (by decide)) (ix3 i n j)).trans (k_simil m ρ c h i n j)

/-- The fourth result: the distances. -/
theorem k_out3 : ∀ (i : Fin 16) (n j : Fin 1024), W29 m ρ c (Proc.devRef .tc main_v9_0) (ix3 i n j) = ((0 - pd (P.X0 i) n j : ℝ) : EReal) :=
  fun i n j => (congrFun ((W29_of m ρ c main_v9_0 (by decide)).trans ((W28_of m ρ c main_v9_0 (by decide)).trans ((W27_of m ρ c main_v9_0 (by decide)).trans ((W26_of m ρ c main_v9_0 (by decide)).trans ((W25_of m ρ c main_v9_0 (by decide)).trans ((W24_of m ρ c main_v9_0 (by decide)).trans ((W23_of m ρ c main_v9_0 (by decide)).trans ((W22_of m ρ c main_v9_0 (by decide)).trans ((W21_of m ρ c main_v9_0 (by decide)).trans ((W20_of m ρ c main_v9_0 (by decide)).trans ((W19_of m ρ c main_v9_0 (by decide)).trans ((W18_of m ρ c main_v9_0 (by decide)).trans ((W17_of m ρ c main_v9_0 (by decide)).trans ((W16_of m ρ c main_v9_0 (by decide)).trans ((W15_of m ρ c main_v9_0 (by decide)).trans ((W14_of m ρ c main_v9_0 (by decide)).trans ((W13_of m ρ c main_v9_0 (by decide)).trans ((W12_of m ρ c main_v9_0 (by decide)).trans ((W11_of m ρ c main_v9_0 (by decide)).trans ((W10_of m ρ c main_v9_0 (by decide)).trans ((W9_of m ρ c main_v9_0 (by decide)).trans ((W8_of m ρ c main_v9_0 (by decide)).trans ((W7_of m ρ c main_v9_0 (by decide)).trans ((W6_of m ρ c main_v9_0 (by decide)).trans (W5_of m ρ c main_v9_0 (by decide)))))))))))))))))))))))))) (ix3 i n j)).trans (k_dist m ρ c h i n j)

end Cert.Net

end
-- ==== Proof.Net.RefNorm.lean ====
/- The normalization as the reference writes it: a channel's mean, its centred values, its variance, and the rectified result. -/
module

public import proofs.«01_k».proof.Proof.Net.Sums
public import proofs.«01_k».proof.Proof.Net.Model

@[expose] public section

set_option synthInstance.maxSize 4096
set_option maxRecDepth 16384

noncomputable section

namespace Cert.Net

open Idealize.ShloMosaic Idealize.ShloMosaic.Pointwise

/-- Pairs of a cloud and a point as triples with a last entry that is always zero. -/
def pairs : Fin 16 × Fin 1024 ≃ Fin 16 × Fin 1024 × Fin 1 where
  toFun p := (p.1, p.2, 0)
  invFun q := (q.1, q.2.1)
  left_inv _ := rfl
  right_inv q := Prod.ext rfl (Prod.ext rfl (Subsingleton.elim _ _))

/-- The number of edges, less the number zero. -/
theorem edges_less : FloatOps.ofBits (F := Ideal) .f32 0x48A00000#32 - FloatOps.sitofp (F := Ideal) .f32 (0#32) = ((327680 : ℝ) : EReal) := by
  refine (congrArg₂ (fun u v : EReal => u - v) lit_edges conv_zero).trans ?_
  rw [← EReal.coe_sub, sub_zero]

/-- The number of points, less the number zero. -/
theorem points_less : FloatOps.ofBits (F := Ideal) .f32 0x46800000#32 - FloatOps.sitofp (F := Ideal) .f32 (0#32) = ((16384 : ℝ) : EReal) := by
  refine (congrArg₂ (fun u v : EReal => u - v) lit_points conv_zero).trans ?_
  rw [← EReal.coe_sub, sub_zero]

section

variable {ι : Type} [Fintype ι] {a b c d : ℕ} (e : ι ≃ Fin a × Fin c × Fin b)
  (h : (⟨4, ![a, d, c, b]⟩ : Shape).ReducesTo [0, 2, 3] ⟨1, ![d]⟩) (x y : (⟨4, ![a, d, c, b]⟩ : Shape).Idx → EReal)
  {f : Fin d → ι → ℝ} {N : ℝ} (hN : (Fintype.card ι : ℝ) = N) (h0 : 0 < N) {L : EReal} (hL : L = ((N : ℝ) : EReal))

include hN h0 hL

/-- The mean of a channel: the sum over every axis but the channel's over the number of terms. -/
theorem mean_at (hx : ∀ o p, x (ix4 (e p).1 o (e p).2.1 (e p).2.2) = ((f o p : ℝ) : EReal)) (o : Fin d) :
    Ideal.div (Ideal.hostReduceAdd h x 0 (ix1 o)) L = ((mean (f o) : ℝ) : EReal) := by
  rw [sum023, ← Equiv.sum_comp e, hL]
  simp only [hx]
  rw [coe_sum, mean_div _ hN h0.ne']

/-- A value less its channel's mean. -/
theorem cent_at (hx : ∀ o p, x (ix4 (e p).1 o (e p).2.1 (e p).2.2) = ((f o p : ℝ) : EReal)) (o : Fin d) {X : EReal} {r : ℝ} (hX : X = (r : EReal)) :
    X - Ideal.div (Ideal.hostReduceAdd h x 0 (ix1 o)) L = ((r - mean (f o) : ℝ) : EReal) := by
  rw [mean_at e h x hN h0 hL hx, hX, EReal.coe_sub]

/-- A value of the channel normalized, scaled, shifted and rectified. -/
theorem norm_at (hx : ∀ o p, x (ix4 (e p).1 o (e p).2.1 (e p).2.2) = ((f o p : ℝ) : EReal))
    (hy : ∀ o p, y (ix4 (e p).1 o (e p).2.1 (e p).2.2) = ((f o p - mean (f o) : ℝ) : EReal)) (o : Fin d)
    {X G B Z L' E : EReal} {r g s : ℝ} (hX : X = (r : EReal)) (hG : G = (g : EReal)) (hB : B = (s : EReal))
    (hL' : L' = ((N : ℝ) : EReal)) (hE : E = ((eps : ℝ) : EReal)) [Decidable (0 < L')] :
    max (Ideal.div (G * (X - Ideal.div (Ideal.hostReduceAdd h x 0 (ix1 o)) L))
      (Ideal.sqrt ((if 0 < L' then Ideal.div (Ideal.hostReduceAdd h (mulf (F := Ideal) (φ := .f32) y y) 0 (ix1 o)) L' else Z) + E)) + B) 0
      = ((bnr (mean (f o)) (var (f o)) g s r : ℝ) : EReal) := by
  have hp : 0 < var (f o) + eps := add_pos_of_nonneg_of_pos (var_nonneg (f o)) (by unfold eps; norm_num)
  have hs : Real.sqrt (var (f o) + eps) ≠ 0 := (Real.sqrt_pos.mpr hp).ne'
  have q : Ideal.div (Ideal.hostReduceAdd h (mulf (F := Ideal) (φ := .f32) y y) 0 (ix1 o)) L' = ((var (f o) : ℝ) : EReal) := by
    rw [sum023, ← Equiv.sum_comp e, hL']
    refine Eq.trans ?_ (var_div (f o) hN h0.ne')
    rw [← coe_sum]
    refine congrArg (fun z => Ideal.div z _) (Finset.sum_congr rfl fun p _ => ?_)
    show y _ * y _ = _
    rw [hy, EReal.coe_mul]
  rw [cent_at e h x hN h0 hL hx o hX, q, if_pos (by rw [hL']; exact_mod_cast h0), hE, hG, hB, ← EReal.coe_add, Ideal.sqrt_coe, if_neg (not_lt.mpr hp.le),
    Ideal.div_coe hs, ← EReal.coe_mul, ← EReal.coe_mul, ← EReal.coe_add, ← EReal.coe_zero, coe_max]
  refine congrArg _ ?_
  unfold bnr
  ring_nf

/-- A value of the channel normalized, scaled, shifted and rectified, the scale and the shift any. -/
theorem norm_wide (hx : ∀ o p, x (ix4 (e p).1 o (e p).2.1 (e p).2.2) = ((f o p : ℝ) : EReal))
    (hy : ∀ o p, y (ix4 (e p).1 o (e p).2.1 (e p).2.2) = ((f o p - mean (f o) : ℝ) : EReal)) (o : Fin d)
    {X G B Z L' E : EReal} {r : ℝ} (hX : X = (r : EReal))
    (hL' : L' = ((N : ℝ) : EReal)) (hE : E = ((eps : ℝ) : EReal)) [Decidable (0 < L')] :
    max (Ideal.div (G * (X - Ideal.div (Ideal.hostReduceAdd h x 0 (ix1 o)) L))
      (Ideal.sqrt ((if 0 < L' then Ideal.div (Ideal.hostReduceAdd h (mulf (F := Ideal) (φ := .f32) y y) 0 (ix1 o)) L' else Z) + E)) + B) 0
      = wide (mean (f o)) (var (f o)) G B r := by
  have hp : 0 < var (f o) + eps := add_pos_of_nonneg_of_pos (var_nonneg (f o)) (by unfold eps; norm_num)
  have hs : Real.sqrt (var (f o) + eps) ≠ 0 := (Real.sqrt_pos.mpr hp).ne'
  have q : Ideal.div (Ideal.hostReduceAdd h (mulf (F := Ideal) (φ := .f32) y y) 0 (ix1 o)) L' = ((var (f o) : ℝ) : EReal) := by
    rw [sum023, ← Equiv.sum_comp e, hL']
    refine Eq.trans ?_ (var_div (f o) hN h0.ne')
    rw [← coe_sum]
    refine congrArg (fun z => Ideal.div z _) (Finset.sum_congr rfl fun p _ => ?_)
    show y _ * y _ = _
    rw [hy, EReal.coe_mul]
  rw [cent_at e h x hN h0 hL hx o hX, q, if_pos (by rw [hL']; exact_mod_cast h0), hE, ← EReal.coe_add, Ideal.sqrt_coe, if_neg (not_lt.mpr hp.le),
    Ideal.div_coe hs]
  rfl

end

end Cert.Net

end
-- ==== Proof.Net.RefKnn.lean ====
/- The reference's nearest neighbours: the twenty first places of a sorted row, and the rows gathered at them. -/
module

public import proofs.«01_k».proof.Proof.Net.Select
public import proofs.«01_k».proof.Proof.Net.Model
public import proofs.«01_k».proof.Proof.Gen.ReferenceIdeal
public import Idealize.ShloMosaic.Lib.StableHlo.ReadAt
public import Idealize.ShloMosaic.PureOps.Ideal.Laws

@[expose] public section

set_option synthInstance.maxSize 4096
set_option maxRecDepth 16384

noncomputable section

namespace Cert.Net

open Idealize.ShloMosaic Idealize.ShloMosaic.TcCoe Idealize.SL.Sem Cert.ReferenceIdeal Cert.ReferenceIdeal.Gen Idealize.ShloMosaic.Pointwise

/-- The place the greatest-first selection puts at an index, read from the sorted line through it. -/
theorem topK_eq {s t : Shape} {d : ℕ} (hd : d < s.rank) {α : Type} (gt : α → α → BitVec 1) (x : s.Idx → α) (h : s.Slices (fun _ => 0) t)
    (j : t.Idx) (j' : s.Idx) (hj : ∀ b, (j' b).val = (j (b.cast h.1.symm)).val) :
    (Host.topK t d gt x h).2 j
      = BitVec.ofNat 32 (sortedFrom (fun q q' => gt (x (j'.along ⟨d, hd⟩ q)) (x (j'.along ⟨d, hd⟩ q')) == 1#1) (j' ⟨d, hd⟩)).val := by
  have e : (fun b => ⟨0 + (j (b.cast h.1.symm)).val, Nat.lt_of_lt_of_le (Nat.add_lt_add_left (j _).isLt _) (h.2 b)⟩ : s.Idx) = j' := by
    funext b
    exact Fin.ext ((Nat.zero_add _).trans (hj b).symm)
  unfold Host.topK extractStridedSlice Host.sort2
  simp only [dif_pos hd, iotaInDim]
  rw [e]
  simp only [Shape.Idx.along, Function.update_idem, Function.update_self]
  exact congrArg (fun z => BitVec.ofNat 32 (sortedFrom _ z).val) (Fin.ext ((Nat.zero_add _).trans (hj ⟨d, hd⟩).symm))

/-- The place of rank `k` in a row of distances sorted downwards is the neighbour of rank `k`. -/
theorem topk_at {C : ℕ} {X : Points C} (w : S16x1024x1024.Idx → EReal) (hw : ∀ i n j, w (ix3 i n j) = ((pd (X i) n j : ℝ) : EReal))
    (h : S16x1024x1024.Slices (fun _ => 0) S16x1024x20) (i : Fin 16) (n : Fin 1024) (k : Fin 20) :
    (Host.topK S16x1024x20 2 (FloatOps.cmpfTotal (F := Ideal) (φ := .f32) .gt) w h).2 (ix3 i n k)
      = BitVec.ofNat 32 (nb (X i) n k).val := by
  have hk : k.val < 1024 := lt_trans k.isLt (by decide)
  have e : sortedFrom (fun q q' : Fin 1024 => FloatOps.cmpfTotal (F := Ideal) (φ := .f32) .gt (w (ix3 i n q)) (w (ix3 i n q')) == 1#1)
      (⟨k.val, hk⟩ : Fin 1024) = nb (X i) n k := by
    refine sortedFrom_eq_pick (fun j => ((pd (X i) n j : ℝ) : EReal)) (fun _ => EReal.coe_ne_bot _) _ (fun q q' => ?_) ⟨k.val, hk⟩
    rw [hw, hw, Ideal.cmpfTotal_def]
    simp only [Ideal.cmp, CmpDirection.ordered, gt_iff_lt, EReal.coe_lt_coe_iff, beq_iff_eq]
    by_cases hlt : pd (X i) n q' < pd (X i) n q <;> simp [hlt]
  have a : ∀ q : Fin 1024, (ix3 i n (⟨k.val, hk⟩ : Fin 1024) : S16x1024x1024.Idx).along (2 : Fin 3) q = ix3 i n q := by
    intro q
    funext b
    fin_cases b <;> rfl
  refine (topK_eq (s := S16x1024x1024) (by decide) _ w h (ix3 i n k) (ix3 i n (⟨k.val, hk⟩ : Fin 1024)) ?_).trans ?_
  · intro b
    fin_cases b <;> rfl
  · rw [← e]
    refine congrArg (fun r : Fin 1024 → Fin 1024 → Bool => BitVec.ofNat 32 (sortedFrom r (⟨k.val, hk⟩ : Fin 1024)).val) ?_
    funext q q'
    exact congrArg₂ (fun u v => FloatOps.cmpfTotal (F := Ideal) (φ := .f32) .gt (w u) (w v) == 1#1) (a q) (a q')

/-- A word read as a signed number and held within its axis is the number it stands for. -/
theorem word_at {a N : ℕ} (h : a ≤ N) (hN : N < 2 ^ 31) : min (BitVec.ofNat 32 a).toInt.toNat N = a := by
  have e : (BitVec.ofNat 32 a).toInt = a := by
    rw [BitVec.toInt_ofNat']
    simp only [Int.bmod]
    omega
  rw [e, Int.toNat_natCast, min_eq_left h]

/-- The choice that wraps negative places leaves a place alone. -/
theorem wrap_at {a : ℕ} (h : a < 2 ^ 31) (t : BitVec 32) :
    Scalar.select (IntOp.cmpi .slt (BitVec.ofNat 32 a) 0#32) t (BitVec.ofNat 32 a) = BitVec.ofNat 32 a := by
  have e : (BitVec.ofNat 32 a).toInt = a := by
    rw [BitVec.toInt_ofNat']
    simp only [Int.bmod]
    omega
  have q : IntOp.cmpi .slt (BitVec.ofNat 32 a) 0#32 = 0#1 := by
    have z : ¬ ((a : Int) < 0) := by omega
    simp [IntOp.cmpi, BitVec.slt, e, z]
  rw [q]
  rfl

/-- A row of six numbers gathered at a pair of places. -/
theorem gather6 (x : S16x1024x6.Idx → EReal) (idx : IVec S16x1024x20x2 32) (i : Fin 16) (n : Fin 1024) (k : Fin 20) (c : Fin 6) (j : Fin 1024)
    (h0 : idx (ix4 i n k 0) = BitVec.ofNat 32 i.val) (h1 : idx (ix4 i n k 1) = BitVec.ofNat 32 j.val) :
    Host.gather gather_S16x1024x6_S16x1024x20x2_S16x1024x20x6_3_01_n_n_01_3_116 x idx (ix4 i n k c) = x (ix3 i j c) := by
  have s0 : ∀ h, gather_S16x1024x6_S16x1024x20x2_S16x1024x20x6_3_01_n_n_01_3_116.siIdx (ix4 i n k c) ⟨0, h⟩ = ix4 i n k 0 := by
    intro h
    funext b
    fin_cases b <;> rfl
  have s1 : ∀ h, gather_S16x1024x6_S16x1024x20x2_S16x1024x20x6_3_01_n_n_01_3_116.siIdx (ix4 i n k c) ⟨1, h⟩ = ix4 i n k 1 := by
    intro h
    funext b
    fin_cases b <;> rfl
  have v0 : ∀ h, idx (gather_S16x1024x6_S16x1024x20x2_S16x1024x20x6_3_01_n_n_01_3_116.siIdx (ix4 i n k c) ⟨0, h⟩) = BitVec.ofNat 32 i.val :=
    fun h => (congrArg idx (s0 h)).trans h0
  have v1 : ∀ h, idx (gather_S16x1024x6_S16x1024x20x2_S16x1024x20x6_3_01_n_n_01_3_116.siIdx (ix4 i n k c) ⟨1, h⟩) = BitVec.ofNat 32 j.val :=
    fun h => (congrArg idx (s1 h)).trans h1
  refine congrArg x ?_
  funext a
  apply Fin.ext
  fin_cases a
  · exact (congrArg (fun z : BitVec 32 => min z.toInt.toNat 15) (v0 (by decide))).trans (word_at (Nat.lt_succ_iff.mp i.isLt) (by norm_num))
  · exact (congrArg (fun z : BitVec 32 => min z.toInt.toNat 1023) (v1 (by decide))).trans (word_at (Nat.lt_succ_iff.mp j.isLt) (by norm_num))
  · exact Nat.zero_add _

/-- A row of sixty-four numbers gathered at a pair of places. -/
theorem gather64 (x : S16x1024x64.Idx → EReal) (idx : IVec S16x1024x20x2 32) (i : Fin 16) (n : Fin 1024) (k : Fin 20) (c : Fin 64) (j : Fin 1024)
    (h0 : idx (ix4 i n k 0) = BitVec.ofNat 32 i.val) (h1 : idx (ix4 i n k 1) = BitVec.ofNat 32 j.val) :
    Host.gather gather_S16x1024x64_S16x1024x20x2_S16x1024x20x64_3_01_n_n_01_3_1164 x idx (ix4 i n k c) = x (ix3 i j c) := by
  have s0 : ∀ h, gather_S16x1024x64_S16x1024x20x2_S16x1024x20x64_3_01_n_n_01_3_1164.siIdx (ix4 i n k c) ⟨0, h⟩ = ix4 i n k 0 := by
    intro h
    funext b
    fin_cases b <;> rfl
  have s1 : ∀ h, gather_S16x1024x64_S16x1024x20x2_S16x1024x20x64_3_01_n_n_01_3_1164.siIdx (ix4 i n k c) ⟨1, h⟩ = ix4 i n k 1 := by
    intro h
    funext b
    fin_cases b <;> rfl
  have v0 : ∀ h, idx (gather_S16x1024x64_S16x1024x20x2_S16x1024x20x64_3_01_n_n_01_3_1164.siIdx (ix4 i n k c) ⟨0, h⟩) = BitVec.ofNat 32 i.val :=
    fun h => (congrArg idx (s0 h)).trans h0
  have v1 : ∀ h, idx (gather_S16x1024x64_S16x1024x20x2_S16x1024x20x64_3_01_n_n_01_3_1164.siIdx (ix4 i n k c) ⟨1, h⟩) = BitVec.ofNat 32 j.val :=
    fun h => (congrArg idx (s1 h)).trans h1
  refine congrArg x ?_
  funext a
  apply Fin.ext
  fin_cases a
  · exact (congrArg (fun z : BitVec 32 => min z.toInt.toNat 15) (v0 (by decide))).trans (word_at (Nat.lt_succ_iff.mp i.isLt) (by norm_num))
  · exact (congrArg (fun z : BitVec 32 => min z.toInt.toNat 1023) (v1 (by decide))).trans (word_at (Nat.lt_succ_iff.mp j.isLt) (by norm_num))
  · exact Nat.zero_add _

end Cert.Net

end
-- ==== Proof.Net.RefA.lean ====
/- The reference's first stage: distances, neighbours, the first convolution over edges. -/
module

public import proofs.«01_k».proof.Proof.Net.RefNorm
public import proofs.«01_k».proof.Proof.Net.RefKnn
public import proofs.«01_k».proof.Proof.Gen.ReferenceIdeal.Run

@[expose] public section

set_option synthInstance.maxSize 4096
set_option maxRecDepth 16384

noncomputable section

namespace Cert.Net

open Idealize.ShloMosaic Idealize.ShloMosaic.TcCoe Idealize.SL.Sem Cert.ReferenceIdeal Cert.ReferenceIdeal.Value Idealize.ShloMosaic.Pointwise

variable (U : Valuation τ sig (Elt Ideal))

/-- The closeness of two points, as the reference computes it. -/
theorem ref_pd1 {X : Points 6} (hx : ∀ i n k, U (Proc.devRef .tc main_arg0) (ix3 i k n) = ((X i n k : ℝ) : EReal)) (i : Fin 16) (n j : Fin 1024) :
    res_main_v12 U (ix3 i n j) = ((pd (X i) n j : ℝ) : EReal) := by
  unfold res_main_v12 res_main_v6
  clean_types
  pointwise
  simp only [hx, lit_neg_two, ← EReal.coe_mul, coe_sum, ← EReal.coe_neg, ← EReal.coe_sub]
  refine congrArg _ ?_
  simp only [pd, sq]
  ring

/-- Its twenty nearest places of every point. -/
theorem ref_ix1 {X : Points 6} (hx : ∀ i n k, U (Proc.devRef .tc main_arg0) (ix3 i k n) = ((X i n k : ℝ) : EReal)) (i : Fin 16) (n : Fin 1024) (k : Fin 20) :
    res_main_indices U (ix3 i n k) = BitVec.ofNat 32 (nb (X i) n k).val :=
  topk_at (res_main_v12 U) (ref_pd1 U hx) _ i n k

/-- The first edge convolution. -/
theorem ref_c1 {X : Points 6} {W : Fin 64 → Fin (6 + 6) → ℝ} (hx : ∀ i n k, U (Proc.devRef .tc main_arg0) (ix3 i k n) = ((X i n k : ℝ) : EReal))
    (hw : ∀ o k, U (Proc.devRef .tc main_arg1) (ix2 o k) = ((W o k : ℝ) : EReal)) (i : Fin 16) (n : Fin 1024) (k : Fin 20) (o : Fin 64) :
    res_main_v38 U (ix4 i o n k) = ((edges W X i n k o : ℝ) : EReal) := by
  have hj := ref_ix1 U hx
  unfold res_main_v38 res_main_v33 res_main_v14 res_main_v16
  generalize res_main_indices U = x at hj ⊢
  generalize hidx : concatenate S16x1024x20x2 3 _ _ = idx
  have h0 : idx (ix4 i n k 0) = BitVec.ofNat 32 i.val := by
    rw [← hidx]
    clean_types
    pointwise
    exact wrap_at (lt_trans i.isLt (by norm_num)) _
  have h1 : idx (ix4 i n k 1) = BitVec.ofNat 32 (nb (X i) n k).val := by
    rw [← hidx]
    clean_types
    pointwise
    rw [hj]
    exact wrap_at (lt_trans (nb (X i) n k).isLt (by norm_num)) _
  clear hidx
  clean_types
  pointwise
  simp only [gather6 _ idx i n k _ _ h0 h1]
  pointwise
  simp only [hx, hw, ← EReal.coe_mul, ← EReal.coe_sub, coe_sum, ← EReal.coe_add]
  rfl

end Cert.Net

end
-- ==== Proof.Net.RefEdge.lean ====
/- The reference's normalization over the edges: what each of its stages computes from the values before it. -/
module

public import proofs.«01_k».proof.Proof.Net.RefNorm
public import proofs.«01_k».proof.Proof.Gen.ReferenceIdeal
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.ReferenceIdeal Idealize.ShloMosaic.Pointwise

variable (x y : FVec Ideal S16x64x1024x20 .f32) (G B : FVec Ideal S64 .f32) {c : Edges} {g b : Fin 64 → ℝ}

/-- A channel's values less their mean. -/
theorem cent_edges (hx : ∀ i n k o, x (ix4 i o n k) = ((c i n k o : ℝ) : EReal)) (i : Fin 16) (n : Fin 1024) (k : Fin 20) (o : Fin 64) :
    (subf x (broadcastInDim S16x64x1024x20 ![0, 1, 2, 3] Gen.bcast_S1x64x1x1_S16x64x1024x20_0_1_2_3 (Host.divf (broadcastInDim S1x64x1x1 ![1] Gen.bcast_S64_S1x64x1x1_1 (Host.reduceAdd x (constant S_ .f32 0x00000000#32) Gen.reducesTo_S16x64x1024x20_S64_d0_2_3 Gen.h_S_)) (broadcastInDim S1x64x1x1 ![] Gen.bcast_S_S1x64x1x1 (constant S_ .f32 0x48A00000#32)))) : FVec Ideal S16x64x1024x20 .f32) (ix4 i o n k)
      = ((c i n k o - mean (chanE c o) : ℝ) : EReal) := by
  pointwise
  exact cent_at (Equiv.refl _) _ x card_edges (by norm_num) lit_edges (f := chanE c) (fun o p => hx _ _ _ _) o (hx i n k o)

/-- The convolution after the normalization. -/
theorem conv_edges (M : FVec Ideal S64x64 .f32) {W : Fin 64 → Fin 64 → ℝ} (hx : ∀ i n k o, x (ix4 i o n k) = ((c i n k o : ℝ) : EReal))
    (hy : ∀ i n k o, y (ix4 i o n k) = ((c i n k o - mean (chanE c o) : ℝ) : EReal)) (hg : ∀ o, G (ix1 o) = ((g o : ℝ) : EReal))
    (hb : ∀ o, B (ix1 o) = ((b o : ℝ) : EReal)) (hw : ∀ o k, M (ix2 o k) = ((W o k : ℝ) : EReal))
    (i : Fin 16) (n : Fin 1024) (k : Fin 20) (o : Fin 64) :
    (transpose S16x64x1024x20 [0, 3, 1, 2] (Host.dotGeneral (φ₁ := .f32) (φ₂ := .f32) dot_S16x64x1024x20_S64x64_S16x1024x20x64_1_1_023_0_n_n none (maximumf (addf (Host.divf (mulf (broadcastInDim S16x64x1024x20 ![0, 1, 2, 3] Gen.bcast_S1x64x1x1_S16x64x1024x20_0_1_2_3 (broadcastInDim S1x64x1x1 ![1] Gen.bcast_S64_S1x64x1x1_1 G)) (subf x (broadcastInDim S16x64x1024x20 ![0, 1, 2, 3] Gen.bcast_S1x64x1x1_S16x64x1024x20_0_1_2_3 (Host.divf (broadcastInDim S1x64x1x1 ![1] Gen.bcast_S64_S1x64x1x1_1 (Host.reduceAdd x (constant S_ .f32 0x00000000#32) Gen.reducesTo_S16x64x1024x20_S64_d0_2_3 Gen.h_S_)) (broadcastInDim S1x64x1x1 ![] Gen.bcast_S_S1x64x1x1 (constant S_ .f32 0x48A00000#32)))))) (broadcastInDim S16x64x1024x20 ![0, 1, 2, 3] Gen.bcast_S1x64x1x1_S16x64x1024x20_0_1_2_3 (Host.sqrt (addf (select (broadcastInDim S1x64x1x1 ![] Gen.bcast_S_S1x64x1x1 (cmpf (F := Ideal) .ogt (subf (constant S_ .f32 0x48A00000#32) (sitofp .f32 (constantI S_ 32 0#32))) (constant S_ .f32 0x00000000#32))) (Host.divf (broadcastInDim S1x64x1x1 ![1] Gen.bcast_S64_S1x64x1x1_1 (Host.reduceAdd (mulf y y) (constant S_ .f32 0x00000000#32) Gen.reducesTo_S16x64x1024x20_S64_d0_2_3 Gen.h_S_)) (broadcastInDim S1x64x1x1 ![] Gen.bcast_S_S1x64x1x1 (subf (constant S_ .f32 0x48A00000#32) (sitofp .f32 (constantI S_ 32 0#32))))) (broadcastInDim S1x64x1x1 ![] Gen.bcast_S_S1x64x1x1 (id (constant S_ .f32 0x7FC00000#32)))) (broadcastInDim S1x64x1x1 ![] Gen.bcast_S_S1x64x1x1 (constant S_ .f32 0x3727C5AC#32)))))) (broadcastInDim S16x64x1024x20 ![0, 1, 2, 3] Gen.bcast_S1x64x1x1_S16x64x1024x20_0_1_2_3 (broadcastInDim S1x64x1x1 ![1] Gen.bcast_S64_S1x64x1x1_1 B))) (broadcastInDim S16x64x1024x20 ![] Gen.bcast_S_S16x64x1024x20 (constant S_ .f32 0x00000000#32))) M) Gen.transposes_S16x1024x20x64_S16x64x1024x20_0_3_1_2 : FVec Ideal S16x64x1024x20 .f32) (ix4 i o n k)
      = ((convE W (bnE g b c) i n k o : ℝ) : EReal) := by
  pointwise
  refine (Finset.sum_congr rfl fun p _ => congrArg₂ (· * ·) (norm_at (Equiv.refl _) _ x y card_edges (by norm_num) lit_edges (f := chanE c)
    (fun o p => hx _ _ _ _) (fun o p => hy _ _ _ _) p (hx i n k p) (hg p) (hb p) edges_less lit_eps) (hw o p)).trans ?_
  exact (Finset.sum_congr rfl fun p _ => (EReal.coe_mul _ _).symm).trans (coe_sum _ _)

/-- The greatest over the neighbours of the normalization. -/
theorem max_edges (hx : ∀ i n k o, x (ix4 i o n k) = ((c i n k o : ℝ) : EReal))
    (hy : ∀ i n k o, y (ix4 i o n k) = ((c i n k o - mean (chanE c o) : ℝ) : EReal)) (hg : ∀ o, G (ix1 o) = ((g o : ℝ) : EReal))
    (hb : ∀ o, B (ix1 o) = ((b o : ℝ) : EReal)) (i : Fin 16) (n : Fin 1024) (o : Fin 64) :
    (broadcastInDim S16x64x1024x1 ![0, 1, 2] Gen.bcast_S16x64x1024_S16x64x1024x1_0_1_2 (Host.reduce (FloatOps.maximumf (F := Ideal) (φ := .f32)) (maximumf (addf (Host.divf (mulf (broadcastInDim S16x64x1024x20 ![0, 1, 2, 3] Gen.bcast_S1x64x1x1_S16x64x1024x20_0_1_2_3 (broadcastInDim S1x64x1x1 ![1] Gen.bcast_S64_S1x64x1x1_1 G)) (subf x (broadcastInDim S16x64x1024x20 ![0, 1, 2, 3] Gen.bcast_S1x64x1x1_S16x64x1024x20_0_1_2_3 (Host.divf (broadcastInDim S1x64x1x1 ![1] Gen.bcast_S64_S1x64x1x1_1 (Host.reduceAdd x (constant S_ .f32 0x00000000#32) Gen.reducesTo_S16x64x1024x20_S64_d0_2_3 Gen.h_S_)) (broadcastInDim S1x64x1x1 ![] Gen.bcast_S_S1x64x1x1 (constant S_ .f32 0x48A00000#32)))))) (broadcastInDim S16x64x1024x20 ![0, 1, 2, 3] Gen.bcast_S1x64x1x1_S16x64x1024x20_0_1_2_3 (Host.sqrt (addf (select (broadcastInDim S1x64x1x1 ![] Gen.bcast_S_S1x64x1x1 (cmpf (F := Ideal) .ogt (subf (constant S_ .f32 0x48A00000#32) (sitofp .f32 (constantI S_ 32 0#32))) (constant S_ .f32 0x00000000#32))) (Host.divf (broadcastInDim S1x64x1x1 ![1] Gen.bcast_S64_S1x64x1x1_1 (Host.reduceAdd (mulf y y) (constant S_ .f32 0x00000000#32) Gen.reducesTo_S16x64x1024x20_S64_d0_2_3 Gen.h_S_)) (broadcastInDim S1x64x1x1 ![] Gen.bcast_S_S1x64x1x1 (subf (constant S_ .f32 0x48A00000#32) (sitofp .f32 (constantI S_ 32 0#32))))) (broadcastInDim S1x64x1x1 ![] Gen.bcast_S_S1x64x1x1 (id (constant S_ .f32 0x7FC00000#32)))) (broadcastInDim S1x64x1x1 ![] Gen.bcast_S_S1x64x1x1 (constant S_ .f32 0x3727C5AC#32)))))) (broadcastInDim S16x64x1024x20 ![0, 1, 2, 3] Gen.bcast_S1x64x1x1_S16x64x1024x20_0_1_2_3 (broadcastInDim S1x64x1x1 ![1] Gen.bcast_S64_S1x64x1x1_1 B))) (broadcastInDim S16x64x1024x20 ![] Gen.bcast_S_S16x64x1024x20 (constant S_ .f32 0x00000000#32))) (constant S_ .f32 0xFF800000#32) Gen.reducesTo_S16x64x1024x20_S16x64x1024_d3 Gen.h_S_) : FVec Ideal S16x64x1024x1 .f32) (ix4 i o n 0)
      = ((maxE (bnE g b c) i n o : ℝ) : EReal) := by
  pointwise
  exact (congrArg₂ (fun z f => Finset.fold max z f Finset.univ) lit_neg_inf
    (funext fun k => norm_at (Equiv.refl _) _ x y card_edges (by norm_num) lit_edges (f := chanE c)
      (fun o p => hx _ _ _ _) (fun o p => hy _ _ _ _) o (hx i n k o) (hg o) (hb o) edges_less lit_eps)).trans (fold_max_coe _)

end Cert.Net

end
-- ==== Proof.Net.RefE.lean ====
/- The reference's normalizations over the edges, stage by stage. -/
module

public import proofs.«01_k».proof.Proof.Net.RefEdge
public import proofs.«01_k».proof.Proof.Gen.ReferenceIdeal.Run
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.ReferenceIdeal Cert.ReferenceIdeal.Value Idealize.ShloMosaic.Pointwise

variable (U : Valuation τ sig (Elt Ideal))

/-- The values of the first edge convolution less their channels' means. -/
theorem ref_cent1 {c : Edges} (hx : ∀ i n k o, res_main_v38 U (ix4 i o n k) = ((c i n k o : ℝ) : EReal)) (i : Fin 16) (n : Fin 1024) (k : Fin 20) (o : Fin 64) :
    res_main_call0_v5 U (ix4 i o n k) = ((c i n k o - mean (chanE c o) : ℝ) : EReal) :=
  cent_edges (res_main_v38 U) hx i n k o

/-- The convolution after the normalization of the first edge convolution. -/
theorem ref_conv1 {c : Edges} {g b : Fin 64 → ℝ} {W : Fin 64 → Fin 64 → ℝ} (hx : ∀ i n k o, res_main_v38 U (ix4 i o n k) = ((c i n k o : ℝ) : EReal))
    (hg : ∀ o, U (Proc.devRef .tc main_arg2) (ix1 o) = ((g o : ℝ) : EReal)) (hb : ∀ o, U (Proc.devRef .tc main_arg3) (ix1 o) = ((b o : ℝ) : EReal))
    (hw : ∀ o k, U (Proc.devRef .tc main_arg4) (ix2 o k) = ((W o k : ℝ) : EReal)) (i : Fin 16) (n : Fin 1024) (k : Fin 20) (o : Fin 64) :
    res_main_v59 U (ix4 i o n k) = ((convE W (bnE g b c) i n k o : ℝ) : EReal) :=
  conv_edges (res_main_v38 U) (res_main_call0_v5 U) (U (Proc.devRef .tc main_arg2)) (U (Proc.devRef .tc main_arg3)) (U (Proc.devRef .tc main_arg4)) hx (ref_cent1 U hx) hg hb hw i n k o

/-- The values of the second convolution less their channels' means. -/
theorem ref_cent2 {c : Edges} (hx : ∀ i n k o, res_main_v59 U (ix4 i o n k) = ((c i n k o : ℝ) : EReal)) (i : Fin 16) (n : Fin 1024) (k : Fin 20) (o : Fin 64) :
    res_main_call2_v5 U (ix4 i o n k) = ((c i n k o - mean (chanE c o) : ℝ) : EReal) :=
  cent_edges (res_main_v59 U) hx i n k o

/-- The greatest over the neighbours of the normalization of the second convolution. -/
theorem ref_max2 {c : Edges} {g b : Fin 64 → ℝ} (hx : ∀ i n k o, res_main_v59 U (ix4 i o n k) = ((c i n k o : ℝ) : EReal))
    (hg : ∀ o, U (Proc.devRef .tc main_arg5) (ix1 o) = ((g o : ℝ) : EReal)) (hb : ∀ o, U (Proc.devRef .tc main_arg6) (ix1 o) = ((b o : ℝ) : EReal)) (i : Fin 16) (n : Fin 1024) (o : Fin 64) :
    res_main_v80 U (ix4 i o n 0) = ((maxE (bnE g b c) i n o : ℝ) : EReal) :=
  max_edges (res_main_v59 U) (res_main_call2_v5 U) (U (Proc.devRef .tc main_arg5)) (U (Proc.devRef .tc main_arg6)) hx (ref_cent2 U hx) hg hb i n o

/-- The values of the second edge convolution less their channels' means. -/
theorem ref_cent3 {c : Edges} (hx : ∀ i n k o, res_main_v120 U (ix4 i o n k) = ((c i n k o : ℝ) : EReal)) (i : Fin 16) (n : Fin 1024) (k : Fin 20) (o : Fin 64) :
    res_main_call4_v5 U (ix4 i o n k) = ((c i n k o - mean (chanE c o) : ℝ) : EReal) :=
  cent_edges (res_main_v120 U) hx i n k o

/-- The convolution after the normalization of the second edge convolution. -/
theorem ref_conv3 {c : Edges} {g b : Fin 64 → ℝ} {W : Fin 64 → Fin 64 → ℝ} (hx : ∀ i n k o, res_main_v120 U (ix4 i o n k) = ((c i n k o : ℝ) : EReal))
    (hg : ∀ o, U (Proc.devRef .tc main_arg8) (ix1 o) = ((g o : ℝ) : EReal)) (hb : ∀ o, U (Proc.devRef .tc main_arg9) (ix1 o) = ((b o : ℝ) : EReal))
    (hw : ∀ o k, U (Proc.devRef .tc main_arg10) (ix2 o k) = ((W o k : ℝ) : EReal)) (i : Fin 16) (n : Fin 1024) (k : Fin 20) (o : Fin 64) :
    res_main_v141 U (ix4 i o n k) = ((convE W (bnE g b c) i n k o : ℝ) : EReal) :=
  conv_edges (res_main_v120 U) (res_main_call4_v5 U) (U (Proc.devRef .tc main_arg8)) (U (Proc.devRef .tc main_arg9)) (U (Proc.devRef .tc main_arg10)) hx (ref_cent3 U hx) hg hb hw i n k o

/-- The values of the fourth convolution less their channels' means. -/
theorem ref_cent4 {c : Edges} (hx : ∀ i n k o, res_main_v141 U (ix4 i o n k) = ((c i n k o : ℝ) : EReal)) (i : Fin 16) (n : Fin 1024) (k : Fin 20) (o : Fin 64) :
    res_main_call6_v5 U (ix4 i o n k) = ((c i n k o - mean (chanE c o) : ℝ) : EReal) :=
  cent_edges (res_main_v141 U) hx i n k o

/-- The greatest over the neighbours of the normalization of the fourth convolution. -/
theorem ref_max4 {c : Edges} {g b : Fin 64 → ℝ} (hx : ∀ i n k o, res_main_v141 U (ix4 i o n k) = ((c i n k o : ℝ) : EReal))
    (hg : ∀ o, U (Proc.devRef .tc main_arg11) (ix1 o) = ((g o : ℝ) : EReal)) (hb : ∀ o, U (Proc.devRef .tc main_arg12) (ix1 o) = ((b o : ℝ) : EReal)) (i : Fin 16) (n : Fin 1024) (o : Fin 64) :
    res_main_v162 U (ix4 i o n 0) = ((maxE (bnE g b c) i n o : ℝ) : EReal) :=
  max_edges (res_main_v141 U) (res_main_call6_v5 U) (U (Proc.devRef .tc main_arg11)) (U (Proc.devRef .tc main_arg12)) hx (ref_cent4 U hx) hg hb i n o

/-- The values of the third edge convolution less their channels' means. -/
theorem ref_cent5 {c : Edges} (hx : ∀ i n k o, res_main_v202 U (ix4 i o n k) = ((c i n k o : ℝ) : EReal)) (i : Fin 16) (n : Fin 1024) (k : Fin 20) (o : Fin 64) :
    res_main_call8_v5 U (ix4 i o n k) = ((c i n k o - mean (chanE c o) : ℝ) : EReal) :=
  cent_edges (res_main_v202 U) hx i n k o

/-- The greatest over the neighbours of the normalization of the third edge convolution. -/
theorem ref_max5 {c : Edges} {g b : Fin 64 → ℝ} (hx : ∀ i n k o, res_main_v202 U (ix4 i o n k) = ((c i n k o : ℝ) : EReal))
    (hg : ∀ o, U (Proc.devRef .tc main_arg14) (ix1 o) = ((g o : ℝ) : EReal)) (hb : ∀ o, U (Proc.devRef .tc main_arg15) (ix1 o) = ((b o : ℝ) : EReal)) (i : Fin 16) (n : Fin 1024) (o : Fin 64) :
    res_main_v223 U (ix4 i o n 0) = ((maxE (bnE g b c) i n o : ℝ) : EReal) :=
  max_edges (res_main_v202 U) (res_main_call8_v5 U) (U (Proc.devRef .tc main_arg14)) (U (Proc.devRef .tc main_arg15)) hx (ref_cent5 U hx) hg hb i n o

end Cert.Net

end
-- ==== Proof.Net.RefGraph.lean ====
/- The reference's edge convolution of sixty-four channels: distances, neighbours, gathered rows, the convolution. -/
module

public import proofs.«01_k».proof.Proof.Net.RefNorm
public import proofs.«01_k».proof.Proof.Net.RefKnn
public import proofs.«01_k».proof.Proof.Gen.ReferenceIdeal
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.ReferenceIdeal Idealize.ShloMosaic.Pointwise

variable (x : FVec Ideal S16x64x1024 .f32) {X : Points 64} (hx : ∀ i n c, x (ix3 i c n) = ((X i n c : ℝ) : EReal))

include hx

/-- The closeness of two points, as the reference computes it. -/
theorem pd_graph (i : Fin 16) (n j : Fin 1024) :
    (subf (subf (broadcastInDim S16x1024x1024 ![0, 1, 2] Gen.bcast_S16x1x1024_S16x1024x1024_0_1_2 (Host.negf (broadcastInDim S16x1x1024 ![0, 2] Gen.bcast_S16x1024_S16x1x1024_0_2 (Host.reduceAdd (mulf x x) (constant S_ .f32 0x00000000#32) Gen.reducesTo_S16x64x1024_S16x1024_d1 Gen.h_S_)))) (mulf (broadcastInDim S16x1024x1024 ![] Gen.bcast_S_S16x1024x1024 (constant S_ .f32 0xC0000000#32)) (Host.dotGeneral (φ₁ := .f32) (φ₂ := .f32) dot_S16x1024x64_S16x64x1024_S16x1024x1024_2_1_1_2_0_0 none (transpose S16x1024x64 [0, 2, 1] x Gen.transposes_S16x64x1024_S16x1024x64_0_2_1) x))) (broadcastInDim S16x1024x1024 ![0, 1, 2] Gen.bcast_S16x1024x1_S16x1024x1024_0_1_2 (transpose S16x1024x1 [0, 2, 1] (broadcastInDim S16x1x1024 ![0, 2] Gen.bcast_S16x1024_S16x1x1024_0_2 (Host.reduceAdd (mulf x x) (constant S_ .f32 0x00000000#32) Gen.reducesTo_S16x64x1024_S16x1024_d1 Gen.h_S_)) Gen.transposes_S16x1x1024_S16x1024x1_0_2_1)) : FVec Ideal S16x1024x1024 .f32) (ix3 i n j) = ((pd (X i) n j : ℝ) : EReal) := by
  pointwise
  simp only [hx, lit_neg_two, ← EReal.coe_mul, coe_sum, ← EReal.coe_neg, ← EReal.coe_sub]
  refine congrArg _ ?_
  simp only [pd, sq]
  ring

/-- The convolution over the edges to the neighbours whose places `w` holds. -/
theorem conv_graph (w : IVec S16x1024x20 32) (M : FVec Ideal S64x128 .f32) {W : Fin 64 → Fin (64 + 64) → ℝ}
    (hj : ∀ i n k, w (ix3 i n k) = BitVec.ofNat 32 (nb (X i) n k).val)
    (hw : ∀ o k, M (ix2 o k) = ((W o k : ℝ) : EReal)) (i : Fin 16) (n : Fin 1024) (k : Fin 20) (o : Fin 64) :
    (transpose S16x64x1024x20 [0, 3, 1, 2] (Host.dotGeneral (φ₁ := .f32) (φ₂ := .f32) dot_S16x128x1024x20_S64x128_S16x1024x20x64_1_1_023_0_n_n none (transpose S16x128x1024x20 [0, 3, 1, 2] (concatenate S16x1024x20x128 3 [⟨S16x1024x20x64, (subf (Host.gather gather_S16x1024x64_S16x1024x20x2_S16x1024x20x64_3_01_n_n_01_3_1164 (transpose S16x1024x64 [0, 2, 1] x Gen.transposes_S16x64x1024_S16x1024x64_0_2_1) (concatenate S16x1024x20x2 3 [⟨S16x1024x20x1, (broadcastInDim S16x1024x20x1 ![0, 1, 2] Gen.bcast_S16x1024x20_S16x1024x20x1_0_1_2 (broadcastInDim S16x1024x20 ![0, 1, 2] Gen.bcast_S16x1x1_S16x1024x20_0_1_2 (select (cmpi .slt (broadcastInDim S16x1x1 ![0] Gen.bcast_S16_S16x1x1_0 (iotaInDim S16 32 0)) (broadcastInDim S16x1x1 ![] Gen.bcast_S_S16x1x1 (constantI S_ 32 0#32))) (addi (broadcastInDim S16x1x1 ![0] Gen.bcast_S16_S16x1x1_0 (iotaInDim S16 32 0)) (broadcastInDim S16x1x1 ![] Gen.bcast_S_S16x1x1 (constantI S_ 32 16#32))) (broadcastInDim S16x1x1 ![0] Gen.bcast_S16_S16x1x1_0 (iotaInDim S16 32 0)))))⟩, ⟨S16x1024x20x1, (broadcastInDim S16x1024x20x1 ![0, 1, 2] Gen.bcast_S16x1024x20_S16x1024x20x1_0_1_2 (select (cmpi .slt w (broadcastInDim S16x1024x20 ![] Gen.bcast_S_S16x1024x20 (constantI S_ 32 0#32))) (addi w (broadcastInDim S16x1024x20 ![] Gen.bcast_S_S16x1024x20 (constantI S_ 32 1024#32))) w))⟩] Gen.concatenates_S16x1024x20x1_S16x1024x20x1_S16x1024x20x2_d3)) (broadcastInDim S16x1024x20x64 ![0, 1, 2, 3] Gen.bcast_S16x1024x1x64_S16x1024x20x64_0_1_2_3 (broadcastInDim S16x1024x1x64 ![0, 1, 3] Gen.bcast_S16x1024x64_S16x1024x1x64_0_1_3 (transpose S16x1024x64 [0, 2, 1] x Gen.transposes_S16x64x1024_S16x1024x64_0_2_1))))⟩, ⟨S16x1024x20x64, (broadcastInDim S16x1024x20x64 ![0, 1, 2, 3] Gen.bcast_S16x1024x1x64_S16x1024x20x64_0_1_2_3 (broadcastInDim S16x1024x1x64 ![0, 1, 3] Gen.bcast_S16x1024x64_S16x1024x1x64_0_1_3 (transpose S16x1024x64 [0, 2, 1] x Gen.transposes_S16x64x1024_S16x1024x64_0_2_1)))⟩] Gen.concatenates_S16x1024x20x64_S16x1024x20x64_S16x1024x20x128_d3) Gen.transposes_S16x1024x20x128_S16x128x1024x20_0_3_1_2) M) Gen.transposes_S16x1024x20x64_S16x64x1024x20_0_3_1_2 : FVec Ideal S16x64x1024x20 .f32) (ix4 i o n k)
      = ((edges W X i n k o : ℝ) : EReal) := by
  generalize hidx : concatenate S16x1024x20x2 3 _ _ = idx
  have h0 : idx (ix4 i n k 0) = BitVec.ofNat 32 i.val := by
    rw [← hidx]
    pointwise
    exact wrap_at (lt_trans i.isLt (by norm_num)) _
  have h1 : idx (ix4 i n k 1) = BitVec.ofNat 32 (nb (X i) n k).val := by
    rw [← hidx]
    pointwise
    rw [hj]
    exact wrap_at (lt_trans (nb (X i) n k).isLt (by norm_num)) _
  clear hidx
  pointwise
  simp only [gather64 _ idx i n k _ _ h0 h1]
  pointwise
  simp only [hx, hw, ← EReal.coe_mul, ← EReal.coe_sub, coe_sum, ← EReal.coe_add]
  rfl

omit hx

/-- A last axis of length one dropped. -/
theorem drop_last (y : FVec Ideal S16x64x1024x1 .f32) (i : Fin 16) (c : Fin 64) (n : Fin 1024) :
    (shapeCast S16x64x1024 y Gen.shapeCasts_S16x64x1024x1_S16x64x1024) (ix3 i c n) = y (ix4 i c n 0) := by
  pointwise

end Cert.Net

end
-- ==== Proof.Net.RefPts1024.lean ====
/- The reference's normalization over the points, 1024 channels: what each of its stages computes from the values before it. -/
module

public import proofs.«01_k».proof.Proof.Net.RefNorm
public import proofs.«01_k».proof.Proof.Gen.ReferenceIdeal
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.ReferenceIdeal Idealize.ShloMosaic.Pointwise

/-- A channel's values less their mean, over the points, 1024 channels. -/
theorem cent_points1024 (x : FVec Ideal S16x1024x1024x1 .f32) {c : Points 1024} (hx : ∀ i n o, x (ix4 i o n 0) = ((c i n o : ℝ) : EReal))
    (i : Fin 16) (n : Fin 1024) (o : Fin 1024) :
    (subf x (broadcastInDim S16x1024x1024x1 ![0, 1, 2, 3] Gen.bcast_S1x1024x1x1_S16x1024x1024x1_0_1_2_3 (Host.divf (broadcastInDim S1x1024x1x1 ![1] Gen.bcast_S1024_S1x1024x1x1_1 (Host.reduceAdd x (constant S_ .f32 0x00000000#32) Gen.reducesTo_S16x1024x1024x1_S1024_d0_2_3 Gen.h_S_)) (broadcastInDim S1x1024x1x1 ![] Gen.bcast_S_S1x1024x1x1 (constant S_ .f32 0x46800000#32)))) : FVec Ideal S16x1024x1024x1 .f32) (ix4 i o n 0) = ((c i n o - mean (chanP c o) : ℝ) : EReal) := by
  pointwise
  exact cent_at pairs _ x card_points (by norm_num) lit_points (f := chanP c) (fun o p => hx _ _ _) o (hx i n o)

/-- The greatest over a cloud's points of the normalization. -/
theorem max_points1024 (x y : FVec Ideal S16x1024x1024x1 .f32) (G B : FVec Ideal S1024 .f32) {c : Points 1024} {g b : Fin 1024 → ℝ}
    (hx : ∀ i n o, x (ix4 i o n 0) = ((c i n o : ℝ) : EReal)) (hy : ∀ i n o, y (ix4 i o n 0) = ((c i n o - mean (chanP c o) : ℝ) : EReal))
    (hg : ∀ o, G (ix1 o) = ((g o : ℝ) : EReal)) (hb : ∀ o, B (ix1 o) = ((b o : ℝ) : EReal))
    (i : Fin 16) (o : Fin 1024) :
    ((Host.reduce (FloatOps.maximumf (F := Ideal) (φ := .f32)) (maximumf (addf (Host.divf (mulf (broadcastInDim S16x1024x1024x1 ![0, 1, 2, 3] Gen.bcast_S1x1024x1x1_S16x1024x1024x1_0_1_2_3 (broadcastInDim S1x1024x1x1 ![1] Gen.bcast_S1024_S1x1024x1x1_1 G)) (subf x (broadcastInDim S16x1024x1024x1 ![0, 1, 2, 3] Gen.bcast_S1x1024x1x1_S16x1024x1024x1_0_1_2_3 (Host.divf (broadcastInDim S1x1024x1x1 ![1] Gen.bcast_S1024_S1x1024x1x1_1 (Host.reduceAdd x (constant S_ .f32 0x00000000#32) Gen.reducesTo_S16x1024x1024x1_S1024_d0_2_3 Gen.h_S_)) (broadcastInDim S1x1024x1x1 ![] Gen.bcast_S_S1x1024x1x1 (constant S_ .f32 0x46800000#32)))))) (broadcastInDim S16x1024x1024x1 ![0, 1, 2, 3] Gen.bcast_S1x1024x1x1_S16x1024x1024x1_0_1_2_3 (Host.sqrt (addf (select (broadcastInDim S1x1024x1x1 ![] Gen.bcast_S_S1x1024x1x1 (cmpf (F := Ideal) .ogt (subf (constant S_ .f32 0x46800000#32) (sitofp .f32 (constantI S_ 32 0#32))) (constant S_ .f32 0x00000000#32))) (Host.divf (broadcastInDim S1x1024x1x1 ![1] Gen.bcast_S1024_S1x1024x1x1_1 (Host.reduceAdd (mulf y y) (constant S_ .f32 0x00000000#32) Gen.reducesTo_S16x1024x1024x1_S1024_d0_2_3 Gen.h_S_)) (broadcastInDim S1x1024x1x1 ![] Gen.bcast_S_S1x1024x1x1 (subf (constant S_ .f32 0x46800000#32) (sitofp .f32 (constantI S_ 32 0#32))))) (broadcastInDim S1x1024x1x1 ![] Gen.bcast_S_S1x1024x1x1 (id (constant S_ .f32 0x7FC00000#32)))) (broadcastInDim S1x1024x1x1 ![] Gen.bcast_S_S1x1024x1x1 (constant S_ .f32 0x3727C5AC#32)))))) (broadcastInDim S16x1024x1024x1 ![0, 1, 2, 3] Gen.bcast_S1x1024x1x1_S16x1024x1024x1_0_1_2_3 (broadcastInDim S1x1024x1x1 ![1] Gen.bcast_S1024_S1x1024x1x1_1 B))) (broadcastInDim S16x1024x1024x1 ![] Gen.bcast_S_S16x1024x1024x1 (constant S_ .f32 0x00000000#32))) (constant S_ .f32 0xFF800000#32) Gen.reducesTo_S16x1024x1024x1_S16x1024x1_d2 Gen.h_S_) : FVec Ideal S16x1024x1 .f32) (ix3 i o 0) = ((sup fun n => bnP g b c i n o : ℝ) : EReal) := by
  pointwise
  exact (congrArg₂ (fun z f => Finset.fold max z f Finset.univ) lit_neg_inf
    (funext fun n => norm_at pairs _ x y card_points (by norm_num) lit_points (f := chanP c)
    (fun o p => hx _ _ _) (fun o p => hy _ _ _) o (hx i n o) (hg o) (hb o) points_less lit_eps)).trans (fold_max_coe _)

/-- Three features of a point side by side. -/
def three (X1 X2 X3 : Points 64) : Points 192 := fun i n c =>
  if h : c.val < 64 then X1 i n ⟨c.val, h⟩
  else if h2 : c.val < 128 then X2 i n ⟨c.val - 64, by omega⟩ else X3 i n ⟨c.val - 128, by omega⟩

/-- The convolution of the pooled features with the points' own. -/
theorem conv_pool (q : FVec Ideal S16x1024x1 .f32) (x1 x2 x3 : FVec Ideal S16x64x1024x1 .f32) (M : FVec Ideal S512x1216 .f32) {X1 X2 X3 : Points 64}
    {Q : Fin 16 → Fin 1024 → ℝ} {W : Fin 512 → Fin (1024 + 192) → ℝ} (hq : ∀ i o, q (ix3 i o 0) = ((Q i o : ℝ) : EReal))
    (h1 : ∀ i n o, x1 (ix4 i o n 0) = ((X1 i n o : ℝ) : EReal)) (h2 : ∀ i n o, x2 (ix4 i o n 0) = ((X2 i n o : ℝ) : EReal))
    (h3 : ∀ i n o, x3 (ix4 i o n 0) = ((X3 i n o : ℝ) : EReal)) (hw : ∀ o k, M (ix2 o k) = ((W o k : ℝ) : EReal))
    (i : Fin 16) (n : Fin 1024) (o : Fin 512) :
    (transpose S16x512x1024x1 [0, 3, 1, 2] (Host.dotGeneral (φ₁ := .f32) (φ₂ := .f32) dot_S16x1216x1024x1_S512x1216_S16x1024x1x512_1_1_023_0_n_n none ((concatenate S16x1216x1024x1 1 [⟨S16x1024x1024x1, ((broadcastInDim S16x1024x1024x1 ![0, 1, 2, 3] Gen.bcast_S16x1024x1x1_S16x1024x1024x1_0_1_2_3 (broadcastInDim S16x1024x1x1 ![0, 1, 3] Gen.bcast_S16x1024x1_S16x1024x1x1_0_1_3 q)) : (⟨S16x1024x1024x1, .f32⟩ : BufTy).Contents (Elt Ideal))⟩, ⟨S16x64x1024x1, (x1 : (⟨S16x64x1024x1, .f32⟩ : BufTy).Contents (Elt Ideal))⟩, ⟨S16x64x1024x1, (x2 : (⟨S16x64x1024x1, .f32⟩ : BufTy).Contents (Elt Ideal))⟩, ⟨S16x64x1024x1, (x3 : (⟨S16x64x1024x1, .f32⟩ : BufTy).Contents (Elt Ideal))⟩] Gen.concatenates_S16x1024x1024x1_S16x64x1024x1_S16x64x1024x1_S16x64x1024x1_S16x1216x1024x1_d1 : (⟨S16x1216x1024x1, .f32⟩ : BufTy).Contents (Elt Ideal))) M) Gen.transposes_S16x1024x1x512_S16x512x1024x1_0_3_1_2 : FVec Ideal S16x512x1024x1 .f32) (ix4 i o n 0)
      = (((∑ c : Fin 1024, Q i c * W o (Fin.castAdd 192 c)) + ∑ c : Fin 192, three X1 X2 X3 i n c * W o (Fin.natAdd 1024 c) : ℝ) : EReal) := by
  pointwise
  refine (Fin.sum_univ_add (a := 1024) (b := 192) _).trans ?_
  rw [EReal.coe_add, ← coe_sum, ← coe_sum]
  refine congrArg₂ (· + ·) (Finset.sum_congr rfl fun p _ => ?_) (Finset.sum_congr rfl fun p _ => ?_)
  · rw [EReal.coe_mul, ← hw, ← hq, dif_pos (show (Fin.castAdd 192 p).val < 1024 from p.isLt)]
    rfl
  · rw [EReal.coe_mul, ← hw, dif_neg (show ¬ (Fin.natAdd 1024 p).val < 1024 from Nat.not_lt.mpr (Nat.le_add_right _ _))]
    have e : (Fin.natAdd 1024 p).val - 1024 = p.val := Nat.add_sub_cancel_left _ _
    simp only [e]
    refine congrArg (· * _) ?_
    unfold three
    by_cases c1 : p.val < 64
    · rw [dif_pos c1, dif_pos c1, ← h1]
    · rw [dif_neg c1, dif_neg c1]
      by_cases c2 : p.val - 64 < 64
      · rw [dif_pos c2, dif_pos (show p.val < 128 by omega), ← h2]
      · rw [dif_neg c2, dif_neg (show ¬ p.val < 128 by omega), ← h3]
        rfl

/-- The convolution of the three features side by side. -/
theorem conv_cat (x1 x2 x3 : FVec Ideal S16x64x1024x1 .f32) (M : FVec Ideal S1024x192 .f32) {X1 X2 X3 : Points 64} {W : Fin 1024 → Fin 192 → ℝ}
    (h1 : ∀ i n o, x1 (ix4 i o n 0) = ((X1 i n o : ℝ) : EReal)) (h2 : ∀ i n o, x2 (ix4 i o n 0) = ((X2 i n o : ℝ) : EReal))
    (h3 : ∀ i n o, x3 (ix4 i o n 0) = ((X3 i n o : ℝ) : EReal)) (hw : ∀ o k, M (ix2 o k) = ((W o k : ℝ) : EReal))
    (i : Fin 16) (n : Fin 1024) (o : Fin 1024) :
    (transpose S16x1024x1024x1 [0, 3, 1, 2] (Host.dotGeneral (φ₁ := .f32) (φ₂ := .f32) dot_S16x192x1024x1_S1024x192_S16x1024x1x1024_1_1_023_0_n_n none ((concatenate S16x192x1024x1 1 [⟨S16x64x1024x1, (x1 : (⟨S16x64x1024x1, .f32⟩ : BufTy).Contents (Elt Ideal))⟩, ⟨S16x64x1024x1, (x2 : (⟨S16x64x1024x1, .f32⟩ : BufTy).Contents (Elt Ideal))⟩, ⟨S16x64x1024x1, (x3 : (⟨S16x64x1024x1, .f32⟩ : BufTy).Contents (Elt Ideal))⟩] Gen.concatenates_S16x64x1024x1_S16x64x1024x1_S16x64x1024x1_S16x192x1024x1_d1 : (⟨S16x192x1024x1, .f32⟩ : BufTy).Contents (Elt Ideal))) M) Gen.transposes_S16x1024x1x1024_S16x1024x1024x1_0_3_1_2 : FVec Ideal S16x1024x1024x1 .f32) (ix4 i o n 0) = ((convP W (three X1 X2 X3) i n o : ℝ) : EReal) := by
  pointwise
  unfold convP
  rw [← coe_sum]
  refine Finset.sum_congr rfl fun p _ => ?_
  rw [EReal.coe_mul, ← hw]
  refine congrArg (· * _) ?_
  unfold three
  by_cases c1 : p.val < 64
  · rw [dif_pos c1, dif_pos c1, ← h1]
  · rw [dif_neg c1, dif_neg c1]
    by_cases c2 : p.val - 64 < 64
    · rw [dif_pos c2, dif_pos (show p.val < 128 by omega), ← h2]
    · rw [dif_neg c2, dif_neg (show ¬ p.val < 128 by omega), ← h3]
      rfl

end Cert.Net

end
-- ==== Proof.Net.RefPts512.lean ====
/- The reference's normalization over the points, 512 channels: what each of its stages computes from the values before it. -/
module

public import proofs.«01_k».proof.Proof.Net.RefNorm
public import proofs.«01_k».proof.Proof.Gen.ReferenceIdeal
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.ReferenceIdeal Idealize.ShloMosaic.Pointwise

/-- A channel's values less their mean, over the points, 512 channels. -/
theorem cent_points512 (x : FVec Ideal S16x512x1024x1 .f32) {c : Points 512} (hx : ∀ i n o, x (ix4 i o n 0) = ((c i n o : ℝ) : EReal))
    (i : Fin 16) (n : Fin 1024) (o : Fin 512) :
    (subf x (broadcastInDim S16x512x1024x1 ![0, 1, 2, 3] Gen.bcast_S1x512x1x1_S16x512x1024x1_0_1_2_3 (Host.divf (broadcastInDim S1x512x1x1 ![1] Gen.bcast_S512_S1x512x1x1_1 (Host.reduceAdd x (constant S_ .f32 0x00000000#32) Gen.reducesTo_S16x512x1024x1_S512_d0_2_3 Gen.h_S_)) (broadcastInDim S1x512x1x1 ![] Gen.bcast_S_S1x512x1x1 (constant S_ .f32 0x46800000#32)))) : FVec Ideal S16x512x1024x1 .f32) (ix4 i o n 0) = ((c i n o - mean (chanP c o) : ℝ) : EReal) := by
  pointwise
  exact cent_at pairs _ x card_points (by norm_num) lit_points (f := chanP c) (fun o p => hx _ _ _) o (hx i n o)

/-- The convolution after the normalization over the points. -/
theorem conv_points512 (x y : FVec Ideal S16x512x1024x1 .f32) (G B : FVec Ideal S512 .f32) {c : Points 512} {g b : Fin 512 → ℝ}
    (hx : ∀ i n o, x (ix4 i o n 0) = ((c i n o : ℝ) : EReal)) (hy : ∀ i n o, y (ix4 i o n 0) = ((c i n o - mean (chanP c o) : ℝ) : EReal))
    (hg : ∀ o, G (ix1 o) = ((g o : ℝ) : EReal)) (hb : ∀ o, B (ix1 o) = ((b o : ℝ) : EReal))
    (M : FVec Ideal S256x512 .f32) {W : Fin 256 → Fin 512 → ℝ} (hw : ∀ o k, M (ix2 o k) = ((W o k : ℝ) : EReal))
    (i : Fin 16) (n : Fin 1024) (o : Fin 256) :
    (transpose S16x256x1024x1 [0, 3, 1, 2] (Host.dotGeneral (φ₁ := .f32) (φ₂ := .f32) dot_S16x512x1024x1_S256x512_S16x1024x1x256_1_1_023_0_n_n none (maximumf (addf (Host.divf (mulf (broadcastInDim S16x512x1024x1 ![0, 1, 2, 3] Gen.bcast_S1x512x1x1_S16x512x1024x1_0_1_2_3 (broadcastInDim S1x512x1x1 ![1] Gen.bcast_S512_S1x512x1x1_1 G)) (subf x (broadcastInDim S16x512x1024x1 ![0, 1, 2, 3] Gen.bcast_S1x512x1x1_S16x512x1024x1_0_1_2_3 (Host.divf (broadcastInDim S1x512x1x1 ![1] Gen.bcast_S512_S1x512x1x1_1 (Host.reduceAdd x (constant S_ .f32 0x00000000#32) Gen.reducesTo_S16x512x1024x1_S512_d0_2_3 Gen.h_S_)) (broadcastInDim S1x512x1x1 ![] Gen.bcast_S_S1x512x1x1 (constant S_ .f32 0x46800000#32)))))) (broadcastInDim S16x512x1024x1 ![0, 1, 2, 3] Gen.bcast_S1x512x1x1_S16x512x1024x1_0_1_2_3 (Host.sqrt (addf (select (broadcastInDim S1x512x1x1 ![] Gen.bcast_S_S1x512x1x1 (cmpf (F := Ideal) .ogt (subf (constant S_ .f32 0x46800000#32) (sitofp .f32 (constantI S_ 32 0#32))) (constant S_ .f32 0x00000000#32))) (Host.divf (broadcastInDim S1x512x1x1 ![1] Gen.bcast_S512_S1x512x1x1_1 (Host.reduceAdd (mulf y y) (constant S_ .f32 0x00000000#32) Gen.reducesTo_S16x512x1024x1_S512_d0_2_3 Gen.h_S_)) (broadcastInDim S1x512x1x1 ![] Gen.bcast_S_S1x512x1x1 (subf (constant S_ .f32 0x46800000#32) (sitofp .f32 (constantI S_ 32 0#32))))) (broadcastInDim S1x512x1x1 ![] Gen.bcast_S_S1x512x1x1 (id (constant S_ .f32 0x7FC00000#32)))) (broadcastInDim S1x512x1x1 ![] Gen.bcast_S_S1x512x1x1 (constant S_ .f32 0x3727C5AC#32)))))) (broadcastInDim S16x512x1024x1 ![0, 1, 2, 3] Gen.bcast_S1x512x1x1_S16x512x1024x1_0_1_2_3 (broadcastInDim S1x512x1x1 ![1] Gen.bcast_S512_S1x512x1x1_1 B))) (broadcastInDim S16x512x1024x1 ![] Gen.bcast_S_S16x512x1024x1 (constant S_ .f32 0x00000000#32))) M) Gen.transposes_S16x1024x1x256_S16x256x1024x1_0_3_1_2 : FVec Ideal S16x256x1024x1 .f32) (ix4 i o n 0) = ((convP W (bnP g b c) i n o : ℝ) : EReal) := by
  pointwise
  refine (Finset.sum_congr rfl fun p _ => congrArg₂ (· * ·) (norm_at pairs _ x y card_points (by norm_num) lit_points (f := chanP c)
    (fun o p => hx _ _ _) (fun o p => hy _ _ _) p (hx i n p) (hg p) (hb p) points_less lit_eps) (hw o p)).trans ?_
  exact (Finset.sum_congr rfl fun p _ => (EReal.coe_mul _ _).symm).trans (coe_sum _ _)

end Cert.Net

end
-- ==== Proof.Net.RefPts256.lean ====
/- The reference's normalization over the points, 256 channels: what each of its stages computes from the values before it. -/
module

public import proofs.«01_k».proof.Proof.Net.RefNorm
public import proofs.«01_k».proof.Proof.Gen.ReferenceIdeal
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.ReferenceIdeal Idealize.ShloMosaic.Pointwise

/-- A channel's values less their mean, over the points, 256 channels. -/
theorem cent_points256 (x : FVec Ideal S16x256x1024x1 .f32) {c : Points 256} (hx : ∀ i n o, x (ix4 i o n 0) = ((c i n o : ℝ) : EReal))
    (i : Fin 16) (n : Fin 1024) (o : Fin 256) :
    (subf x (broadcastInDim S16x256x1024x1 ![0, 1, 2, 3] Gen.bcast_S1x256x1x1_S16x256x1024x1_0_1_2_3 (Host.divf (broadcastInDim S1x256x1x1 ![1] Gen.bcast_S256_S1x256x1x1_1 (Host.reduceAdd x (constant S_ .f32 0x00000000#32) Gen.reducesTo_S16x256x1024x1_S256_d0_2_3 Gen.h_S_)) (broadcastInDim S1x256x1x1 ![] Gen.bcast_S_S1x256x1x1 (constant S_ .f32 0x46800000#32)))) : FVec Ideal S16x256x1024x1 .f32) (ix4 i o n 0) = ((c i n o - mean (chanP c o) : ℝ) : EReal) := by
  pointwise
  exact cent_at pairs _ x card_points (by norm_num) lit_points (f := chanP c) (fun o p => hx _ _ _) o (hx i n o)

/-- The normalization over the points, rectified. -/
theorem norm_points256 (x y : FVec Ideal S16x256x1024x1 .f32) (G B : FVec Ideal S256 .f32) {c : Points 256}
    (hx : ∀ i n o, x (ix4 i o n 0) = ((c i n o : ℝ) : EReal)) (hy : ∀ i n o, y (ix4 i o n 0) = ((c i n o - mean (chanP c o) : ℝ) : EReal))
    (i : Fin 16) (n : Fin 1024) (o : Fin 256) :
    (maximumf (addf (Host.divf (mulf (broadcastInDim S16x256x1024x1 ![0, 1, 2, 3] Gen.bcast_S1x256x1x1_S16x256x1024x1_0_1_2_3 (broadcastInDim S1x256x1x1 ![1] Gen.bcast_S256_S1x256x1x1_1 G)) (subf x (broadcastInDim S16x256x1024x1 ![0, 1, 2, 3] Gen.bcast_S1x256x1x1_S16x256x1024x1_0_1_2_3 (Host.divf (broadcastInDim S1x256x1x1 ![1] Gen.bcast_S256_S1x256x1x1_1 (Host.reduceAdd x (constant S_ .f32 0x00000000#32) Gen.reducesTo_S16x256x1024x1_S256_d0_2_3 Gen.h_S_)) (broadcastInDim S1x256x1x1 ![] Gen.bcast_S_S1x256x1x1 (constant S_ .f32 0x46800000#32)))))) (broadcastInDim S16x256x1024x1 ![0, 1, 2, 3] Gen.bcast_S1x256x1x1_S16x256x1024x1_0_1_2_3 (Host.sqrt (addf (select (broadcastInDim S1x256x1x1 ![] Gen.bcast_S_S1x256x1x1 (cmpf (F := Ideal) .ogt (subf (constant S_ .f32 0x46800000#32) (sitofp .f32 (constantI S_ 32 0#32))) (constant S_ .f32 0x00000000#32))) (Host.divf (broadcastInDim S1x256x1x1 ![1] Gen.bcast_S256_S1x256x1x1_1 (Host.reduceAdd (mulf y y) (constant S_ .f32 0x00000000#32) Gen.reducesTo_S16x256x1024x1_S256_d0_2_3 Gen.h_S_)) (broadcastInDim S1x256x1x1 ![] Gen.bcast_S_S1x256x1x1 (subf (constant S_ .f32 0x46800000#32) (sitofp .f32 (constantI S_ 32 0#32))))) (broadcastInDim S1x256x1x1 ![] Gen.bcast_S_S1x256x1x1 (id (constant S_ .f32 0x7FC00000#32)))) (broadcastInDim S1x256x1x1 ![] Gen.bcast_S_S1x256x1x1 (constant S_ .f32 0x3727C5AC#32)))))) (broadcastInDim S16x256x1024x1 ![0, 1, 2, 3] Gen.bcast_S1x256x1x1_S16x256x1024x1_0_1_2_3 (broadcastInDim S1x256x1x1 ![1] Gen.bcast_S256_S1x256x1x1_1 B))) (broadcastInDim S16x256x1024x1 ![] Gen.bcast_S_S16x256x1024x1 (constant S_ .f32 0x00000000#32)) : FVec Ideal S16x256x1024x1 .f32) (ix4 i o n 0) = wide (mean (chanP c o)) (var (chanP c o)) (G (ix1 o)) (B (ix1 o)) (c i n o) := by
  pointwise
  exact norm_wide pairs _ x y card_points (by norm_num) lit_points (f := chanP c)
    (fun o p => hx _ _ _) (fun o p => hy _ _ _) o (hx i n o) points_less lit_eps

end Cert.Net

end
-- ==== Proof.Net.RefHeads.lean ====
/- The reference's three heads, from the features they read. -/
module

public import proofs.«01_k».proof.Proof.Net.RefNorm
public import proofs.«01_k».proof.Proof.Net.Last
public import proofs.«01_k».proof.Proof.Gen.ReferenceIdeal
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.ReferenceIdeal Idealize.ShloMosaic.Pointwise

variable (x : FVec Ideal S16x256x1024x1 .f32) {N : Fin 16 → Fin 1024 → Fin 256 → EReal}

/-- The first head: a score of every point. -/
theorem head_score (A : FVec Ideal S128x256 .f32) (B : FVec Ideal S1x128 .f32) (hx : ∀ i n c, x (ix4 i c n 0) = N i n c)
    (i : Fin 16) (n : Fin 1024) :
    (Host.divf (broadcastInDim S16x1024 ![] Gen.bcast_S_S16x1024 (constant S_ .f32 0x3F800000#32)) (addf (broadcastInDim S16x1024 ![] Gen.bcast_S_S16x1024 (constant S_ .f32 0x3F800000#32)) (Host.exp (Host.negf (shapeCast S16x1024 (transpose S16x1x1024x1 [0, 3, 1, 2] (Host.dotGeneral (φ₁ := .f32) (φ₂ := .f32) dot_S16x128x1024x1_S1x128_S16x1024x1x1_1_1_023_0_n_n none (maximumf (transpose S16x128x1024x1 [0, 3, 1, 2] (Host.dotGeneral (φ₁ := .f32) (φ₂ := .f32) dot_S16x256x1024x1_S128x256_S16x1024x1x128_1_1_023_0_n_n none x A) Gen.transposes_S16x1024x1x128_S16x128x1024x1_0_3_1_2) (broadcastInDim S16x128x1024x1 ![] Gen.bcast_S_S16x128x1024x1 (constant S_ .f32 0x00000000#32))) B) Gen.transposes_S16x1024x1x1_S16x1x1024x1_0_3_1_2) Gen.shapeCasts_S16x1x1024x1_S16x1024)))) : FVec Ideal S16x1024 .f32) (ix2 i n)
      = score (N i) (fun q k => A (ix2 q k)) (fun q => B (ix2 0 q)) n := by
  pointwise
  simp only [hx]
  unfold score hidden
  rw [zero_sub]

/-- The second head: the hidden features. -/
theorem head_hidden (A : FVec Ideal S128x256 .f32) (hx : ∀ i n c, x (ix4 i c n 0) = N i n c)
    (i : Fin 16) (n : Fin 1024) (q : Fin 128) :
    (transpose S16x1024x128 [0, 2, 1] (shapeCast S16x128x1024 (maximumf (transpose S16x128x1024x1 [0, 3, 1, 2] (Host.dotGeneral (φ₁ := .f32) (φ₂ := .f32) dot_S16x256x1024x1_S128x256_S16x1024x1x128_1_1_023_0_n_n none x A) Gen.transposes_S16x1024x1x128_S16x128x1024x1_0_3_1_2) (broadcastInDim S16x128x1024x1 ![] Gen.bcast_S_S16x128x1024x1 (constant S_ .f32 0x00000000#32))) Gen.shapeCasts_S16x128x1024x1_S16x128x1024) Gen.transposes_S16x128x1024_S16x1024x128_0_2_1 : FVec Ideal S16x1024x128 .f32) (ix3 i n q) = hidden (N i) (fun q k => A (ix2 q k)) n q := by
  pointwise
  simp only [hx]
  rfl

/-- The third head: the squared distances between the hidden features. -/
theorem head_simil (y : FVec Ideal S16x1024x128 .f32) (A : Fin 128 → Fin 256 → EReal) (hy : ∀ i n q, y (ix3 i n q) = hidden (N i) A n q)
    (i : Fin 16) (n j : Fin 1024) :
    (maximumf (addf (subf (broadcastInDim S16x1024x1024 ![0, 1, 2] Gen.bcast_S16x1024x1_S16x1024x1024_0_1_2 (broadcastInDim S16x1024x1 ![0, 1] Gen.bcast_S16x1024_S16x1024x1_0_1 (Host.reduceAdd (mulf y y) (constant S_ .f32 0x00000000#32) Gen.reducesTo_S16x1024x128_S16x1024_d2 Gen.h_S_))) (mulf (broadcastInDim S16x1024x1024 ![] Gen.bcast_S_S16x1024x1024 (constant S_ .f32 0x40000000#32)) (Host.dotGeneral (φ₁ := .f32) (φ₂ := .f32) dot_S16x1024x128_S16x128x1024_S16x1024x1024_2_1_1_2_0_0 none y (transpose S16x128x1024 [0, 2, 1] y Gen.transposes_S16x1024x128_S16x128x1024_0_2_1)))) (broadcastInDim S16x1024x1024 ![0, 1, 2] Gen.bcast_S16x1x1024_S16x1024x1024_0_1_2 (transpose S16x1x1024 [0, 2, 1] (broadcastInDim S16x1024x1 ![0, 1] Gen.bcast_S16x1024_S16x1024x1_0_1 (Host.reduceAdd (mulf y y) (constant S_ .f32 0x00000000#32) Gen.reducesTo_S16x1024x128_S16x1024_d2 Gen.h_S_)) Gen.transposes_S16x1024x1_S16x1x1024_0_2_1))) (broadcastInDim S16x1024x1024 ![] Gen.bcast_S_S16x1024x1024 (constant S_ .f32 0x00000000#32)) : FVec Ideal S16x1024x1024 .f32) (ix3 i n j) = simil (N i) A n j := by
  pointwise
  simp only [hy]
  rw [lit_two]
  rfl

end Cert.Net

end
-- ==== Proof.Net.RefAll.lean ====
/- Every stage of the reference, in terms of the real parameters. -/
module

public import proofs.«01_k».proof.Proof.Net.Args
public import proofs.«01_k».proof.Proof.Net.RefA
public import proofs.«01_k».proof.Proof.Net.RefE
public import proofs.«01_k».proof.Proof.Net.RefGraph
public import proofs.«01_k».proof.Proof.Net.RefPts1024
public import proofs.«01_k».proof.Proof.Net.RefPts512
public import proofs.«01_k».proof.Proof.Net.RefPts256
public import proofs.«01_k».proof.Proof.Net.RefHeads
public import proofs.«01_k».proof.Proof.Gen.ReferenceIdeal.Run
public import Idealize.ShloMosaic.Lib.StableHlo.ReadAt

@[expose] public section

set_option synthInstance.maxSize 4096
set_option maxRecDepth 16384

noncomputable section

namespace Cert.Net

open Idealize.ShloMosaic Idealize.ShloMosaic.TcCoe Idealize.SL.Sem Cert.ReferenceIdeal Cert.ReferenceIdeal.Value Idealize.ShloMosaic.Pointwise

variable (U : Valuation τ sig (Elt Ideal))

variable {P : Par} (h : IsPar P (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)))

include h

/-- The first edge convolution. -/
theorem r_c1 (i : Fin 16) (n : Fin 1024) (k : Fin 20) (o : Fin 64) : res_main_v38 U (ix4 i o n k) = ((P.c1 i n k o : ℝ) : EReal) :=
  ref_c1 U (X := P.X0) (fun i n k => h.x i k n) h.W1 i n k o

/-- The second convolution. -/
theorem r_c2 (i : Fin 16) (n : Fin 1024) (k : Fin 20) (o : Fin 64) : res_main_v59 U (ix4 i o n k) = ((P.c2 i n k o : ℝ) : EReal) :=
  ref_conv1 U (r_c1 U h) h.g1 h.b1 h.W1b i n k o

/-- The first features. -/
theorem r_x1 (i : Fin 16) (n : Fin 1024) (o : Fin 64) : res_main_v80 U (ix4 i o n 0) = ((P.x1 i n o : ℝ) : EReal) :=
  ref_max2 U (r_c2 U h) h.g1b h.b1b i n o

/-- The same without the last axis. -/
theorem r_y1 (i : Fin 16) (n : Fin 1024) (o : Fin 64) : res_main_v81 U (ix3 i o n) = ((P.x1 i n o : ℝ) : EReal) :=
  (drop_last (res_main_v80 U) i o n).trans (r_x1 U h i n o)

/-- The closeness of two rows of features. -/
theorem r_p1 (i : Fin 16) (n j : Fin 1024) : res_main_v94 U (ix3 i n j) = ((pd (P.x1 i) n j : ℝ) : EReal) :=
  pd_graph (res_main_v81 U) (r_y1 U h) i n j

/-- The nearest rows' places. -/
theorem r_i1 (i : Fin 16) (n : Fin 1024) (k : Fin 20) : res_main_indices_16 U (ix3 i n k) = BitVec.ofNat 32 (nb (P.x1 i) n k).val :=
  topk_at (res_main_v94 U) (r_p1 U h) _ i n k

/-- The edge convolution over them. -/
theorem r_c3 (i : Fin 16) (n : Fin 1024) (k : Fin 20) (o : Fin 64) : res_main_v120 U (ix4 i o n k) = ((P.c3 i n k o : ℝ) : EReal) :=
  conv_graph (res_main_v81 U) (r_y1 U h) (res_main_indices_16 U) (U (Proc.devRef .tc main_arg7)) (r_i1 U h) h.W2 i n k o

/-- The fourth convolution. -/
theorem r_c4 (i : Fin 16) (n : Fin 1024) (k : Fin 20) (o : Fin 64) : res_main_v141 U (ix4 i o n k) = ((P.c4 i n k o : ℝ) : EReal) :=
  ref_conv3 U (r_c3 U h) h.g2 h.b2 h.W2b i n k o

/-- The second features. -/
theorem r_x2 (i : Fin 16) (n : Fin 1024) (o : Fin 64) : res_main_v162 U (ix4 i o n 0) = ((P.x2 i n o : ℝ) : EReal) :=
  ref_max4 U (r_c4 U h) h.g2b h.b2b i n o

/-- The same without the last axis. -/
theorem r_y2 (i : Fin 16) (n : Fin 1024) (o : Fin 64) : res_main_v163 U (ix3 i o n) = ((P.x2 i n o : ℝ) : EReal) :=
  (drop_last (res_main_v162 U) i o n).trans (r_x2 U h i n o)

/-- The closeness of two rows of features. -/
theorem r_p2 (i : Fin 16) (n j : Fin 1024) : res_main_v176 U (ix3 i n j) = ((pd (P.x2 i) n j : ℝ) : EReal) :=
  pd_graph (res_main_v163 U) (r_y2 U h) i n j

/-- The nearest rows' places. -/
theorem r_i2 (i : Fin 16) (n : Fin 1024) (k : Fin 20) : res_main_indices_33 U (ix3 i n k) = BitVec.ofNat 32 (nb (P.x2 i) n k).val :=
  topk_at (res_main_v176 U) (r_p2 U h) _ i n k

/-- The edge convolution over them. -/
theorem r_c5 (i : Fin 16) (n : Fin 1024) (k : Fin 20) (o : Fin 64) : res_main_v202 U (ix4 i o n k) = ((P.c5 i n k o : ℝ) : EReal) :=
  conv_graph (res_main_v163 U) (r_y2 U h) (res_main_indices_33 U) (U (Proc.devRef .tc main_arg13)) (r_i2 U h) h.W3 i n k o

/-- The third features. -/
theorem r_x3 (i : Fin 16) (n : Fin 1024) (o : Fin 64) : res_main_v223 U (ix4 i o n 0) = ((P.x3 i n o : ℝ) : EReal) :=
  ref_max5 U (r_c5 U h) h.g3 h.b3 i n o

/-- The convolution of the three features. -/
theorem r_c6 (i : Fin 16) (n : Fin 1024) (o : Fin 1024) : res_main_v226 U (ix4 i o n 0) = ((P.c6 i n o : ℝ) : EReal) :=
  conv_cat (res_main_v80 U) (res_main_v162 U) (res_main_v223 U) (U (Proc.devRef .tc main_arg16)) (r_x1 U h) (r_x2 U h) (r_x3 U h) h.W5 i n o

/-- Its values less their channels' means. -/
theorem r_m6 (i : Fin 16) (n : Fin 1024) (o : Fin 1024) : res_main_call10_v5 U (ix4 i o n 0) = ((P.c6 i n o - mean (chanP P.c6 o) : ℝ) : EReal) :=
  cent_points1024 (res_main_v226 U) (r_c6 U h) i n o

/-- The convolution of the pooled features with the points' own. -/
theorem r_c7 (i : Fin 16) (n : Fin 1024) (o : Fin 512) : res_main_v251 U (ix4 i o n 0) = ((P.c7 i n o : ℝ) : EReal) :=
  conv_pool _ (res_main_v80 U) (res_main_v162 U) (res_main_v223 U) (U (Proc.devRef .tc main_arg19)) (Q := P.pool)
    (max_points1024 (res_main_v226 U) (res_main_call10_v5 U) (U (Proc.devRef .tc main_arg17)) (U (Proc.devRef .tc main_arg18)) (r_c6 U h) (r_m6 U h) h.g5 h.b5) (r_x1 U h) (r_x2 U h) (r_x3 U h) h.W6 i n o

/-- Its values less their channels' means. -/
theorem r_m7 (i : Fin 16) (n : Fin 1024) (o : Fin 512) : res_main_call12_v5 U (ix4 i o n 0) = ((P.c7 i n o - mean (chanP P.c7 o) : ℝ) : EReal) :=
  cent_points512 (res_main_v251 U) (r_c7 U h) i n o

/-- The convolution after it. -/
theorem r_c8 (i : Fin 16) (n : Fin 1024) (o : Fin 256) : res_main_v272 U (ix4 i o n 0) = ((P.c8 i n o : ℝ) : EReal) :=
  conv_points512 (res_main_v251 U) (res_main_call12_v5 U) (U (Proc.devRef .tc main_arg20)) (U (Proc.devRef .tc main_arg21)) (r_c7 U h) (r_m7 U h) h.g6 h.b6 (U (Proc.devRef .tc main_arg22)) h.W7 i n o

/-- Its values less their channels' means. -/
theorem r_m8 (i : Fin 16) (n : Fin 1024) (o : Fin 256) : res_main_call14_v5 U (ix4 i o n 0) = ((P.c8 i n o - mean (chanP P.c8 o) : ℝ) : EReal) :=
  cent_points256 (res_main_v272 U) (r_c8 U h) i n o

/-- The features that the heads read. -/
theorem r_net (i : Fin 16) (n : Fin 1024) (o : Fin 256) : res_main_v291 U (ix4 i o n 0) = P.net i n o := by
  rw [Par.net, ← h.g7 o, ← h.b7 o]
  exact
  norm_points256 (res_main_v272 U) (res_main_call14_v5 U) (U (Proc.devRef .tc main_arg23)) (U (Proc.devRef .tc main_arg24)) (r_c8 U h) (r_m8 U h) i n o

/-- The second result: the hidden features. -/
theorem r_hid (i : Fin 16) (n : Fin 1024) (q : Fin 128) : res_main_v308 U (ix3 i n q) = hidden (P.net i) (fun q k => U (Proc.devRef .tc main_arg27) (ix2 q k)) n q :=
  head_hidden (res_main_v291 U) (U (Proc.devRef .tc main_arg27)) (r_net U h) i n q

end Cert.Net

end
-- ==== Proof.Net.Results.lean ====
/- The two programs' results are equal where the arguments are a network's parameters. -/
module

public import proofs.«01_k».proof.Proof.Net.ChainE
public import proofs.«01_k».proof.Proof.Net.RefAll

@[expose] public section

set_option synthInstance.maxSize 4096
set_option maxRecDepth 16384

noncomputable section

namespace Cert.Net

open Idealize.ShloMosaic Idealize.ShloMosaic.TcCoe Idealize.SL.Sem Cert.KernelIdeal Cert.KernelIdeal.Gen Idealize.ShloMosaic.Pointwise

/-- Two matrices with equal entries are equal. -/
theorem ext2 {a b : ℕ} (f g : (⟨2, ![a, b]⟩ : Shape).Idx → EReal) (e : ∀ i j, f (ix2 i j) = g (ix2 i j)) : f = g := by
  funext i
  have t : i = ix2 (i 0) (i 1) := by funext k; fin_cases k <;> rfl
  rw [t]
  exact e _ _

/-- Two arrays of three axes with equal entries are equal. -/
theorem ext3 {a b d : ℕ} (f g : (⟨3, ![a, b, d]⟩ : Shape).Idx → EReal) (e : ∀ i j k, f (ix3 i j k) = g (ix3 i j k)) : f = g := by
  funext i
  have t : i = ix3 (i 0) (i 1) (i 2) := by funext k; fin_cases k <;> rfl
  rw [t]
  exact e _ _ _

variable (m : (ℓ : Loc nD τ sig) → Buf (Elt Ideal) ℓ) (ρ : Dev nD → PrngReg) (c : Dev nD) {P : Par}
  (h : IsPar P (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)))
  (U : Valuation Cert.ReferenceIdeal.τ Cert.ReferenceIdeal.sig (Elt Ideal))
  (hU : IsPar P (U (Proc.devRef .tc Cert.ReferenceIdeal.main_arg0)) (U (Proc.devRef .tc Cert.ReferenceIdeal.main_arg1)) (U (Proc.devRef .tc Cert.ReferenceIdeal.main_arg2)) (U (Proc.devRef .tc Cert.ReferenceIdeal.main_arg3)) (U (Proc.devRef .tc Cert.ReferenceIdeal.main_arg4)) (U (Proc.devRef .tc Cert.ReferenceIdeal.main_arg5)) (U (Proc.devRef .tc Cert.ReferenceIdeal.main_arg6)) (U (Proc.devRef .tc Cert.ReferenceIdeal.main_arg7)) (U (Proc.devRef .tc Cert.ReferenceIdeal.main_arg8)) (U (Proc.devRef .tc Cert.ReferenceIdeal.main_arg9)) (U (Proc.devRef .tc Cert.ReferenceIdeal.main_arg10)) (U (Proc.devRef .tc Cert.ReferenceIdeal.main_arg11)) (U (Proc.devRef .tc Cert.ReferenceIdeal.main_arg12)) (U (Proc.devRef .tc Cert.ReferenceIdeal.main_arg13)) (U (Proc.devRef .tc Cert.ReferenceIdeal.main_arg14)) (U (Proc.devRef .tc Cert.ReferenceIdeal.main_arg15)) (U (Proc.devRef .tc Cert.ReferenceIdeal.main_arg16)) (U (Proc.devRef .tc Cert.ReferenceIdeal.main_arg17)) (U (Proc.devRef .tc Cert.ReferenceIdeal.main_arg18)) (U (Proc.devRef .tc Cert.ReferenceIdeal.main_arg19)) (U (Proc.devRef .tc Cert.ReferenceIdeal.main_arg20)) (U (Proc.devRef .tc Cert.ReferenceIdeal.main_arg21)) (U (Proc.devRef .tc Cert.ReferenceIdeal.main_arg22)) (U (Proc.devRef .tc Cert.ReferenceIdeal.main_arg23)) (U (Proc.devRef .tc Cert.ReferenceIdeal.main_arg24)))

include h

/-- The first result. -/
theorem same0 (x : (⟨2, ![16, 1024]⟩ : Shape).Idx → EReal)
    (hx : ∀ i n, x (ix2 i n) = score (P.net i) (fun q k => U (Proc.devRef .tc Cert.ReferenceIdeal.main_arg25) (ix2 q k)) (fun q => U (Proc.devRef .tc Cert.ReferenceIdeal.main_arg26) (ix2 0 q)) n)
    (q25 : U (Proc.devRef .tc Cert.ReferenceIdeal.main_arg25) = m ((c : Thread nD τ).loc main_arg25)) (q26 : U (Proc.devRef .tc Cert.ReferenceIdeal.main_arg26) = m ((c : Thread nD τ).loc main_arg26)) : x = W29 m ρ c (Proc.devRef .tc main_v149) :=
  ext2 _ _ fun i n => (hx i n).trans ((congrArg₂ (fun (A : (⟨2, ![128, 256]⟩ : Shape).Idx → EReal) (B : (⟨2, ![1, 128]⟩ : Shape).Idx → EReal) =>
    score (P.net i) (fun q k => A (ix2 q k)) (fun q => B (ix2 0 q)) n) q25 q26).trans (k_out0 m ρ c h i n).symm)

/-- The third result. -/
theorem same2 (x : (⟨3, ![16, 1024, 1024]⟩ : Shape).Idx → EReal)
    (hx : ∀ i n j, x (ix3 i n j) = simil (P.net i) (fun q k => U (Proc.devRef .tc Cert.ReferenceIdeal.main_arg27) (ix2 q k)) n j)
    (q27 : U (Proc.devRef .tc Cert.ReferenceIdeal.main_arg27) = m ((c : Thread nD τ).loc main_arg27)) : x = W29 m ρ c (Proc.devRef .tc main_v147_2) :=
  ext3 _ _ fun i n j => (hx i n j).trans ((congrArg (fun (A : (⟨2, ![128, 256]⟩ : Shape).Idx → EReal) =>
    simil (P.net i) (fun q k => A (ix2 q k)) n j) q27).trans (k_out2 m ρ c h i n j).symm)

include hU

/-- The second result. -/
theorem same1 (q27 : U (Proc.devRef .tc Cert.ReferenceIdeal.main_arg27) = m ((c : Thread nD τ).loc main_arg27)) : Cert.ReferenceIdeal.Value.res_main_v308 U = W29 m ρ c (Proc.devRef .tc main_v147_1) :=
  ext3 _ _ fun i n q => (r_hid U hU i n q).trans ((congrArg (fun (A : (⟨2, ![128, 256]⟩ : Shape).Idx → EReal) =>
    hidden (P.net i) (fun q k => A (ix2 q k)) n q) q27).trans (k_out1 m ρ c h i n q).symm)

/-- The fourth result. -/
theorem same3 : Host.negf (F := Ideal) (φ := .f32) (Cert.ReferenceIdeal.Value.res_main_v12 U) = W29 m ρ c (Proc.devRef .tc main_v9_0) :=
  ext3 _ _ fun i n j => by
    refine Eq.trans ?_ (k_out3 m ρ c h i n j).symm
    refine (congrArg (fun t : EReal => -t) (ref_pd1 U (X := P.X0) (fun i n k => hU.x i k n) i n j)).trans ?_
    rw [zero_sub, EReal.coe_neg]

end Cert.Net

end
-- ==== Proof.lean ====
/- The claim, assembled: the frames, the two programs' agreement, and the equality of the kernel's and the reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_and_increasing
public import proofs.«01_k».proof.Proof.Net.Value
public import proofs.«01_k».proof.Proof.Net.Real
public import proofs.«01_k».proof.Proof.Net.Results
public import Idealize.ShloMosaic.Adequacy
public import Idealize.ShloMosaic.Init

@[expose] public section

noncomputable section

namespace Cert.Proof

open Idealize.ShloMosaic Idealize.SL.Sem Idealize.ShloMosaic.Pointwise

/-- The reference runs, leaves its arguments as they were and every counter at zero: it declares no semaphore. -/
theorem reference_frame : Cert.quiescent_ReferenceIdeal (hReferenceIdeal := Cert.ReferenceIdeal.Gen.facts) := by
  intro m g _
  exact (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

/-- From equal arguments that satisfy the precondition, the kernel and the reference end with equal results. -/
theorem equal : Cert.algebraic_KernelIdeal_ReferenceIdeal_pre_finite_and_increasing (hKernelIdeal := Cert.KernelIdeal.Gen.facts)
    (hReferenceIdeal := Cert.ReferenceIdeal.Gen.facts) (hPre_finite_and_increasing := Cert.Pre_finite_and_increasing.Gen.facts) := by
  intro m g m' g' hp hq
  refine ⟨fun c => Cert.KernelIdeal.Gen.W29 m g c (Proc.devRef .tc Cert.KernelIdeal.main_v149),
    fun c => Cert.KernelIdeal.Gen.W29 m g c (Proc.devRef .tc Cert.KernelIdeal.main_v147_1),
    fun c => Cert.KernelIdeal.Gen.W29 m g c (Proc.devRef .tc Cert.KernelIdeal.main_v147_2),
    fun c => Cert.KernelIdeal.Gen.W29 m g c (Proc.devRef .tc Cert.KernelIdeal.main_v9_0),
    Cert.Net.kernel_run m g,
    (θ_run Cert.ReferenceIdeal.defs _ _).mono (fun r h c => ?_) (Cert.ReferenceIdeal.Value.run (F := Ideal) m' g')⟩
  obtain ⟨P, hP⟩ := Cert.Net.par_of _ _ _ _ _ _ _ _ _ _ _ _ _ _ _ _ _ _ _ _ _ _ _ _ _ _ _ _ (hp c)
  obtain ⟨q0, q1, q2, q3, q4, q5, q6, q7, q8, q9, q10, q11, q12, q13, q14, q15, q16, q17, q18, q19, q20, q21, q22, q23, q24, q25, q26, q27⟩ := hq c
  have hU : Cert.Net.IsPar P (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) (StableHlo.launchContents m' c (Proc.devRef .tc Cert.ReferenceIdeal.main_arg10)) (StableHlo.launchContents m' c (Proc.devRef .tc Cert.ReferenceIdeal.main_arg11)) (StableHlo.launchContents m' c (Proc.devRef .tc Cert.ReferenceIdeal.main_arg12)) (StableHlo.launchContents m' c (Proc.devRef .tc Cert.ReferenceIdeal.main_arg13)) (StableHlo.launchContents m' c (Proc.devRef .tc Cert.ReferenceIdeal.main_arg14)) (StableHlo.launchContents m' c (Proc.devRef .tc Cert.ReferenceIdeal.main_arg15)) (StableHlo.launchContents m' c (Proc.devRef .tc Cert.ReferenceIdeal.main_arg16)) (StableHlo.launchContents m' c (Proc.devRef .tc Cert.ReferenceIdeal.main_arg17)) (StableHlo.launchContents m' c (Proc.devRef .tc Cert.ReferenceIdeal.main_arg18)) (StableHlo.launchContents m' c (Proc.devRef .tc Cert.ReferenceIdeal.main_arg19)) (StableHlo.launchContents m' c (Proc.devRef .tc Cert.ReferenceIdeal.main_arg20)) (StableHlo.launchContents m' c (Proc.devRef .tc Cert.ReferenceIdeal.main_arg21)) (StableHlo.launchContents m' c (Proc.devRef .tc Cert.ReferenceIdeal.main_arg22)) (StableHlo.launchContents m' c (Proc.devRef .tc Cert.ReferenceIdeal.main_arg23)) (StableHlo.launchContents m' c (Proc.devRef .tc Cert.ReferenceIdeal.main_arg24)) := {
      x := fun i j k => (congrFun q0 (ix3 i j k)).trans (hP.x i j k),
      W1 := fun i j => (congrFun q1 (ix2 i j)).trans (hP.W1 i j),
      g1 := fun i => (congrFun q2 (ix1 i)).trans (hP.g1 i),
      b1 := fun i => (congrFun q3 (ix1 i)).trans (hP.b1 i),
      W1b := fun i j => (congrFun q4 (ix2 i j)).trans (hP.W1b i j),
      g1b := fun i => (congrFun q5 (ix1 i)).trans (hP.g1b i),
      b1b := fun i => (congrFun q6 (ix1 i)).trans (hP.b1b i),
      W2 := fun i j => (congrFun q7 (ix2 i j)).trans (hP.W2 i j),
      g2 := fun i => (congrFun q8 (ix1 i)).trans (hP.g2 i),
      b2 := fun i => (congrFun q9 (ix1 i)).trans (hP.b2 i),
      W2b := fun i j => (congrFun q10 (ix2 i j)).trans (hP.W2b i j),
      g2b := fun i => (congrFun q11 (ix1 i)).trans (hP.g2b i),
      b2b := fun i => (congrFun q12 (ix1 i)).trans (hP.b2b i),
      W3 := fun i j => (congrFun q13 (ix2 i j)).trans (hP.W3 i j),
      g3 := fun i => (congrFun q14 (ix1 i)).trans (hP.g3 i),
      b3 := fun i => (congrFun q15 (ix1 i)).trans (hP.b3 i),
      W5 := fun i j => (congrFun q16 (ix2 i j)).trans (hP.W5 i j),
      g5 := fun i => (congrFun q17 (ix1 i)).trans (hP.g5 i),
      b5 := fun i => (congrFun q18 (ix1 i)).trans (hP.b5 i),
      W6 := fun i j => (congrFun q19 (ix2 i j)).trans (hP.W6 i j),
      g6 := fun i => (congrFun q20 (ix1 i)).trans (hP.g6 i),
      b6 := fun i => (congrFun q21 (ix1 i)).trans (hP.b6 i),
      W7 := fun i j => (congrFun q22 (ix2 i j)).trans (hP.W7 i j),
      g7 := fun i => (congrFun q23 (ix1 i)).trans (hP.g7 i),
      b7 := fun i => (congrFun q24 (ix1 i)).trans (hP.b7 i) }
  obtain ⟨e0, e1, e2, e3, args⟩ := h c
  have s0 := Cert.Net.same0 m g c hP (StableHlo.launchContents m' c) _ (Cert.Net.head_score _ _ _ (Cert.Net.r_net _ hU)) q25 q26
  have s2 := Cert.Net.same2 m g c hP (StableHlo.launchContents m' c) _ (Cert.Net.head_simil _ _ (Cert.Net.r_hid _ hU)) q27
  exact ⟨e0.trans s0, e1.trans (Cert.Net.same1 m g c hP _ hU q27), e2.trans s2, e3.trans (Cert.Net.same3 m g c hP _ hU), args⟩

/-- Everything claimed. -/
theorem claim : Cert.Claim := ⟨Cert.Kernel.Gen.facts, Cert.KernelIdeal.Gen.facts, Cert.ReferenceIdeal.Gen.facts, Cert.Pre_finite_and_increasing.Gen.facts,
  fun m g _ => Cert.Kernel.Gen.frame m g, fun m g _ => Cert.KernelIdeal.Gen.frame m g, fun m g _ => Cert.KernelIdeal.Gen.frame m g,
  reference_frame, fun m g _ => reference_frame m g trivial,
  ⟨IdealRules.bf16_pack.statement _, IdealRules.named_const.statement _ _ _ _ _ rfl, IdealRules.bf16_pack.statement _⟩,
  equal⟩

end Cert.Proof

end
